-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "kmask" .f32 0xF149F2CA#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 1024, 8, 128]⟩ ⟨4, ![1, 4096, 8, 128]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 8, 128]⟩ ⟨4, ![1, 4096, 8, 128]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024x8x128 : S_.BroadcastsInDim S1x1024x8x128 (![] : Fin 0 → Fin S1x1024x8x128.rank)
  reducesTo_S1x1024x8x128_S_d0_1_2_3 : S1x1024x8x128.ReducesTo [0, 1, 2, 3] S_

variable [Facts]

def fn {F : FTy → Type} [FloatOps F] (main_arg0 : FVec F S1x1024x1024 .f32) (main_arg1 : FVec F S1024x1024 .f32) (main_arg2 : FVec F S1x1024x8x128 .f32) (main_arg3 : FVec F S1x1024x8x128 .f32) (main_arg4 : FVec F S1024x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x1024x8x128 .f32 := Host.absf main_arg2
  let main_cst_2 : FVec F S_ .f32 := constant S_ .f32 0x7F800000#32
  let main_v10 : FVec F S1x1024x8x128 .f32 := broadcastInDim S1x1024x8x128 ![] bcast_S_S1x1024x8x128 main_cst_2
  let main_v11 : IVec S1x1024x8x128 1 := cmpf .olt main_v9 main_v10
  let main_c_3 : IVec S_ 1 := constantI S_ 1 1#1
  let main_v12 : IVec S_ 1 := (fun x v => Host.reduce IntOp.andi x v reducesTo_S1x1024x8x128_S_d0_1_2_3 h_S_) main_v11 main_c_3
  let main_v13 : IVec S_ 1 := andi main_v8 main_v12
  main_v13
-- ==== Pre_finite_ReferenceIdeal.lean ====
abbrev S1x1024x1024 : Shape := ⟨3, ![1, 1024, 1024]⟩
abbrev S1024x1024 : Shape := ⟨2, ![1024, 1024]⟩
abbrev S1x4096x8x128 : Shape := ⟨4, ![1, 4096, 8, 128]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x4096x8x128 : S_.BroadcastsInDim S1x4096x8x128 (![] : Fin 0 → Fin S1x4096x8x128.rank)
  reducesTo_S1x4096x8x128_S_d0_1_2_3 : S1x4096x8x128.ReducesTo [0, 1, 2, 3] S_

variable [Facts]

def fn {F : FTy → Type} [FloatOps F] (main_arg0 : FVec F S1x1024x1024 .f32) (main_arg1 : FVec F S1024x1024 .f32) (main_arg2 : FVec F S1x4096x8x128 .f32) (main_arg3 : FVec F S1x4096x8x128 .f32) (main_arg4 : FVec F S1024x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x4096x8x128 .f32 := Host.absf main_arg2
  let main_cst_2 : FVec F S_ .f32 := constant S_ .f32 0x7F800000#32
  let main_v10 : FVec F S1x4096x8x128 .f32 := broadcastInDim S1x4096x8x128 ![] bcast_S_S1x4096x8x128 main_cst_2
  let main_v11 : IVec S1x4096x8x128 1 := cmpf .olt main_v9 main_v10
  let main_c_3 : IVec S_ 1 := constantI S_ 1 1#1
  let main_v12 : IVec S_ 1 := (fun x v => Host.reduce IntOp.andi x v reducesTo_S1x4096x8x128_S_d0_1_2_3 h_S_) main_v11 main_c_3
  let main_v13 : IVec S_ 1 := andi main_v8 main_v12
  main_v13
-- ==== Kernel.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S384x1024 : Shape := ⟨2, ![384, 1024]⟩
abbrev S128x1024 : Shape := ⟨2, ![128, 1024]⟩
abbrev S2x128x1024 : Shape := ⟨3, ![2, 128, 1024]⟩
abbrev S1 : Shape := ⟨1, ![1]⟩
abbrev S8x2 : Shape := ⟨2, ![8, 2]⟩
abbrev S8 : Shape := ⟨1, ![8]⟩
abbrev S_ : Shape := ⟨0, ![]⟩
abbrev S1x128x1024 : Shape := ⟨3, ![1, 128, 1024]⟩
abbrev S128x384 : Shape := ⟨2, ![128, 384]⟩
abbrev S128x128 : Shape := ⟨2, ![128, 128]⟩
abbrev S384x128 : Shape := ⟨2, ![384, 128]⟩
abbrev S128 : Shape := ⟨1, ![128]⟩
abbrev S128x1 : Shape := ⟨2, ![128, 1]⟩
abbrev S1x1 : Shape := ⟨2, ![1, 1]⟩
abbrev S256x1024 : Shape := ⟨2, ![256, 1024]⟩

abbrev nBuf : Space → Nat
  | .hbm => 11
  | .vmem => 18
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x8x128, .f32⟩
  | .hbm, ⟨3, _⟩ => ⟨S1x1024x8x128, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | .hbm, ⟨8, _⟩ => ⟨S1024x1024, .f32⟩
  | .hbm, ⟨9, _⟩ => ⟨S1024x1024, .bf16⟩
  | .hbm, ⟨10, _⟩ => ⟨S1x1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1x1024x1024, .f32⟩
  | .local _ .vmem, ⟨6, _⟩ => ⟨S384x1024, .bf16⟩
  | .local _ .vmem, ⟨7, _⟩ => ⟨S384x1024, .bf16⟩
  | .local _ .vmem, ⟨8, _⟩ => ⟨S128x1024, .bf16⟩
  | .local _ .vmem, ⟨9, _⟩ => ⟨S2x128x1024, .bf16⟩
  | .local _ .vmem, ⟨10, _⟩ => ⟨S128x1024, .bf16⟩
  | .local _ .vmem, ⟨11, _⟩ => ⟨S128x1024, .bf16⟩
  | .local _ .vmem, ⟨12, _⟩ => ⟨S128x1024, .bf16⟩
  | .local _ .vmem, ⟨13, _⟩ => ⟨S128x1024, .bf16⟩
  | .local _ .vmem, ⟨14, _⟩ => ⟨S128x1024, .bf16⟩
  | .local _ .vmem, ⟨15, _⟩ => ⟨S128x1024, .bf16⟩
  | .local _ .vmem, ⟨16, _⟩ => ⟨S128x1024, .bf16⟩
  | .local _ .vmem, ⟨17, _⟩ => ⟨S128x1024, .bf16⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 1 → Bool
  | ⟨0, _⟩ => false
  | _ => false

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  (ofTc nBuf bufTy 1 48 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev cc0_scratch14 : Ref sig .tc := ⟨.vmem, 14, rfl⟩
abbrev cc0_scratch15 : Ref sig .tc := ⟨.vmem, 15, rfl⟩
abbrev cc0_scratch16 : Ref sig .tc := ⟨.vmem, 16, rfl⟩
abbrev cc0_scratch17 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_4 : BitVec 32 := 1#32
  let v8 : BitVec 32 := Scalar.muli v5 c1_i32_4
  let v9 : BitVec 32 := Scalar.addi c0_i32 v8
  v9.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v6 : BitVec 32 := Scalar.addi v2 c3_i32
  let c4_i32_2 : BitVec 32 := 4#32
  let v7 : BitVec 32 := Scalar.remsi v6 c4_i32_2
  let c1_i32_6 : BitVec 32 := 1#32
  let v10 : BitVec 32 := Scalar.muli v7 c1_i32_6
  let v11 : BitVec 32 := Scalar.addi c0_i32_7 v10
  v11.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_10 : BitVec 32 := 1#32
  let v15 : BitVec 1 := Scalar.cmpi .eq v2 c1_i32_10
  let v16 : BitVec 32 := Scalar.extui v15
  let c0_i32_11 : BitVec 32 := 0#32
  let v17 : BitVec 1 := Scalar.cmpi .ne v16 c0_i32_11
  v17

def k0_dev3 : Nat :=
  let c0_i32_31 : BitVec 32 := 0#32
  let c0_i32_29 : BitVec 32 := 0#32
  let c1_i32_30 : BitVec 32 := 1#32
  let v40 : BitVec 32 := Scalar.muli c0_i32_29 c1_i32_30
  let v41 : BitVec 32 := Scalar.addi c0_i32_31 v40
  v41.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_12 : BitVec 32 := 0#32
  let v18 : BitVec 1 := Scalar.cmpi .eq v2 c0_i32_12
  let v19 : BitVec 32 := Scalar.extui v18
  let c0_i32_13 : BitVec 32 := 0#32
  let v20 : BitVec 1 := Scalar.cmpi .ne v19 c0_i32_13
  v20

def k0_dev4 : Nat :=
  let c0_i32_114 : BitVec 32 := 0#32
  let c1_i32_112 : BitVec 32 := 1#32
  let c1_i32_113 : BitVec 32 := 1#32
  let v214 : BitVec 32 := Scalar.muli c1_i32_112 c1_i32_113
  let v215 : BitVec 32 := Scalar.addi c0_i32_114 v214
  v215.toNat
def k0_dev5 : Nat :=
  let c0_i32_213 : BitVec 32 := 0#32
  let c3_i32_211 : BitVec 32 := 3#32
  let c1_i32_212 : BitVec 32 := 1#32
  let v398 : BitVec 32 := Scalar.muli c3_i32_211 c1_i32_212
  let v399 : BitVec 32 := Scalar.addi c0_i32_213 v398
  v399.toNat
def k0_dev6 : Nat :=
  let c0_i32_314 : BitVec 32 := 0#32
  let c1_i32_312 : BitVec 32 := 1#32
  let c1_i32_313 : BitVec 32 := 1#32
  let v582 : BitVec 32 := Scalar.muli c1_i32_312 c1_i32_313
  let v583 : BitVec 32 := Scalar.addi c0_i32_314 v582
  v583.toNat
def k0_dev7 : Nat :=
  let c0_i32_413 : BitVec 32 := 0#32
  let c3_i32_411 : BitVec 32 := 3#32
  let c1_i32_412 : BitVec 32 := 1#32
  let v766 : BitVec 32 := Scalar.muli c3_i32_411 c1_i32_412
  let v767 : BitVec 32 := Scalar.addi c0_i32_413 v766
  v767.toNat
def k0_dev8 : Nat :=
  let c0_i32_513 : BitVec 32 := 0#32
  let c1_i32_511 : BitVec 32 := 1#32
  let c1_i32_512 : BitVec 32 := 1#32
  let v950 : BitVec 32 := Scalar.muli c1_i32_511 c1_i32_512
  let v951 : BitVec 32 := Scalar.addi c0_i32_513 v950
  v951.toNat
def k0_dev9 : Nat :=
  let c0_i32_519 : BitVec 32 := 0#32
  let c3_i32_517 : BitVec 32 := 3#32
  let c1_i32_518 : BitVec 32 := 1#32
  let v956 : BitVec 32 := Scalar.muli c3_i32_517 c1_i32_518
  let v957 : BitVec 32 := Scalar.addi c0_i32_519 v956
  v957.toNat
def k0_dev10 : Nat :=
  let c0_i32_618 : BitVec 32 := 0#32
  let c3_i32_616 : BitVec 32 := 3#32
  let c1_i32_617 : BitVec 32 := 1#32
  let v1140 : BitVec 32 := Scalar.muli c3_i32_616 c1_i32_617
  let v1141 : BitVec 32 := Scalar.addi c0_i32_618 v1140
  v1141.toNat
def k0_dev11 : Nat :=
  let c0_i32_624 : BitVec 32 := 0#32
  let c1_i32_622 : BitVec 32 := 1#32
  let c1_i32_623 : BitVec 32 := 1#32
  let v1146 : BitVec 32 := Scalar.muli c1_i32_622 c1_i32_623
  let v1147 : BitVec 32 := Scalar.addi c0_i32_624 v1146
  v1147.toNat
def k0_dev12 : Nat :=
  let c0_i32_725 : BitVec 32 := 0#32
  let c1_i32_723 : BitVec 32 := 1#32
  let c1_i32_724 : BitVec 32 := 1#32
  let v1330 : BitVec 32 := Scalar.muli c1_i32_723 c1_i32_724
  let v1331 : BitVec 32 := Scalar.addi c0_i32_725 v1330
  v1331.toNat
def k0_dev13 : Nat :=
  let c0_i32_731 : BitVec 32 := 0#32
  let c3_i32_729 : BitVec 32 := 3#32
  let c1_i32_730 : BitVec 32 := 1#32
  let v1336 : BitVec 32 := Scalar.muli c3_i32_729 c1_i32_730
  let v1337 : BitVec 32 := Scalar.addi c0_i32_731 v1336
  v1337.toNat
def k0_dev14 : Nat :=
  let c0_i32_852 : BitVec 32 := 0#32
  let c3_i32_850 : BitVec 32 := 3#32
  let c1_i32_851 : BitVec 32 := 1#32
  let v1528 : BitVec 32 := Scalar.muli c3_i32_850 c1_i32_851
  let v1529 : BitVec 32 := Scalar.addi c0_i32_852 v1528
  v1529.toNat
def k0_dev15 : Nat :=
  let c0_i32_858 : BitVec 32 := 0#32
  let c1_i32_856 : BitVec 32 := 1#32
  let c1_i32_857 : BitVec 32 := 1#32
  let v1534 : BitVec 32 := Scalar.muli c1_i32_856 c1_i32_857
  let v1535 : BitVec 32 := Scalar.addi c0_i32_858 v1534
  v1535.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_14 : BitVec 32 := 1#32
  let v21 : BitVec 1 := Scalar.cmpi .eq v2 c1_i32_14
  let v22 : BitVec 32 := Scalar.extui v21
  let c0_i32_15 : BitVec 32 := 0#32
  let v23 : BitVec 1 := Scalar.cmpi .ne v22 c0_i32_15
  v23

def k0_dev16 : Nat :=
  let c0_i32_29 : BitVec 32 := 0#32
  let c2_i32_27 : BitVec 32 := 2#32
  let c1_i32_28 : BitVec 32 := 1#32
  let v34 : BitVec 32 := Scalar.muli c2_i32_27 c1_i32_28
  let v35 : BitVec 32 := Scalar.addi c0_i32_29 v34
  v35.toNat
def k0_dev17 : Nat :=
  let c0_i32_44 : BitVec 32 := 0#32
  let c2_i32_42 : BitVec 32 := 2#32
  let c1_i32_43 : BitVec 32 := 1#32
  let v49 : BitVec 32 := Scalar.muli c2_i32_42 c1_i32_43
  let v50 : BitVec 32 := Scalar.addi c0_i32_44 v49
  v50.toNat
def k0_dev18 : Nat :=
  let c0_i32_59 : BitVec 32 := 0#32
  let c2_i32_57 : BitVec 32 := 2#32
  let c1_i32_58 : BitVec 32 := 1#32
  let v64 : BitVec 32 := Scalar.muli c2_i32_57 c1_i32_58
  let v65 : BitVec 32 := Scalar.addi c0_i32_59 v64
  v65.toNat
def k0_dev19 : Nat :=
  let c0_i32_83 : BitVec 32 := 0#32
  let c2_i32_81 : BitVec 32 := 2#32
  let c1_i32_82 : BitVec 32 := 1#32
  let v88 : BitVec 32 := Scalar.muli c2_i32_81 c1_i32_82
  let v89 : BitVec 32 := Scalar.addi c0_i32_83 v88
  v89.toNat
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_16 : BitVec 32 := 3#32
  let v24 : BitVec 1 := Scalar.cmpi .eq v2 c3_i32_16
  let v25 : BitVec 32 := Scalar.extui v24
  let c0_i32_17 : BitVec 32 := 0#32
  let v26 : BitVec 1 := Scalar.cmpi .ne v25 c0_i32_17
  v26

def k0_dev20 : Nat :=
  let c0_i32_29 : BitVec 32 := 0#32
  let c2_i32_27 : BitVec 32 := 2#32
  let c1_i32_28 : BitVec 32 := 1#32
  let v34 : BitVec 32 := Scalar.muli c2_i32_27 c1_i32_28
  let v35 : BitVec 32 := Scalar.addi c0_i32_29 v34
  v35.toNat
def k0_dev21 : Nat :=
  let c0_i32_42 : BitVec 32 := 0#32
  let c2_i32_40 : BitVec 32 := 2#32
  let c1_i32_41 : BitVec 32 := 1#32
  let v49 : BitVec 32 := Scalar.muli c2_i32_40 c1_i32_41
  let v50 : BitVec 32 := Scalar.addi c0_i32_42 v49
  v50.toNat
def k0_dev22 : Nat :=
  let c0_i32_66 : BitVec 32 := 0#32
  let c2_i32_64 : BitVec 32 := 2#32
  let c1_i32_65 : BitVec 32 := 1#32
  let v73 : BitVec 32 := Scalar.muli c2_i32_64 c1_i32_65
  let v74 : BitVec 32 := Scalar.addi c0_i32_66 v73
  v74.toNat
def k0_dev23 : Nat :=
  let c0_i32_90 : BitVec 32 := 0#32
  let c2_i32_88 : BitVec 32 := 2#32
  let c1_i32_89 : BitVec 32 := 1#32
  let v97 : BitVec 32 := Scalar.muli c2_i32_88 c1_i32_89
  let v98 : BitVec 32 := Scalar.addi c0_i32_90 v97
  v98.toNat
def k0_cond6 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v27 : BitVec 1 := Scalar.cmpi .eq v2 c2_i32
  let v28 : BitVec 32 := Scalar.extui v27
  let c0_i32_18 : BitVec 32 := 0#32
  let v29 : BitVec 1 := Scalar.cmpi .ne v28 c0_i32_18
  v29

def k0_dev24 : Nat :=
  let c0_i32_29 : BitVec 32 := 0#32
  let c3_i32_27 : BitVec 32 := 3#32
  let c1_i32_28 : BitVec 32 := 1#32
  let v34 : BitVec 32 := Scalar.muli c3_i32_27 c1_i32_28
  let v35 : BitVec 32 := Scalar.addi c0_i32_29 v34
  v35.toNat
def k0_dev25 : Nat :=
  let c0_i32_44 : BitVec 32 := 0#32
  let c1_i32_42 : BitVec 32 := 1#32
  let c1_i32_43 : BitVec 32 := 1#32
  let v49 : BitVec 32 := Scalar.muli c1_i32_42 c1_i32_43
  let v50 : BitVec 32 := Scalar.addi c0_i32_44 v49
  v50.toNat
def k0_dev26 : Nat :=
  let c0_i32_59 : BitVec 32 := 0#32
  let c3_i32_57 : BitVec 32 := 3#32
  let c1_i32_58 : BitVec 32 := 1#32
  let v64 : BitVec 32 := Scalar.muli c3_i32_57 c1_i32_58
  let v65 : BitVec 32 := Scalar.addi c0_i32_59 v64
  v65.toNat
def k0_dev27 : Nat :=
  let c0_i32_73 : BitVec 32 := 0#32
  let c1_i32_71 : BitVec 32 := 1#32
  let c1_i32_72 : BitVec 32 := 1#32
  let v79 : BitVec 32 := Scalar.muli c1_i32_71 c1_i32_72
  let v80 : BitVec 32 := Scalar.addi c0_i32_73 v79
  v80.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "kmask" => some ⊥
  | _ => none
-- ==== ReferenceIdeal.lean ====
abbrev S1x1024x1024 : Shape := ⟨3, ![1, 1024, 1024]⟩
abbrev S1024x1024 : Shape := ⟨2, ![1024, 1024]⟩
abbrev S1x4096x8x128 : Shape := ⟨4, ![1, 4096, 8, 128]⟩
abbrev S1x1024x8x128 : Shape := ⟨4, ![1, 1024, 8, 128]⟩
abbrev S1024 : Shape := ⟨1, ![1024]⟩
abbrev S1024x1 : Shape := ⟨2, ![1024, 1]⟩
abbrev S4096 : Shape := ⟨1, ![4096]⟩
abbrev S1x4096 : Shape := ⟨2, ![1, 4096]⟩
abbrev S1024x4096 : Shape := ⟨2, ![1024, 4096]⟩
abbrev S_ : Shape := ⟨0, ![]⟩
abbrev S1x8x1024x4096 : Shape := ⟨4, ![1, 8, 1024, 4096]⟩
abbrev S1x1x1024x4096 : Shape := ⟨4, ![1, 1, 1024, 4096]⟩
abbrev S1x8x1024 : Shape := ⟨3, ![1, 8, 1024]⟩
abbrev S1x8x1024x1 : Shape := ⟨4, ![1, 8, 1024, 1]⟩
abbrev S1x1x1024x1 : Shape := ⟨4, ![1, 1, 1024, 1]⟩
abbrev S1x8x128x1024 : Shape := ⟨4, ![1, 8, 128, 1024]⟩

abbrev nBuf : Space → Nat
  | .hbm => 57
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x4096x8x128, .f32⟩
  | .hbm, ⟨3, _⟩ => ⟨S1x4096x8x128, .f32⟩
  | .hbm, ⟨4, _⟩ => ⟨S1024x1024, .f32⟩
  | .hbm, ⟨5, _⟩ => ⟨S1x1024x1024, .f32⟩
  | .hbm, ⟨6, _⟩ => ⟨S1x1024x8x128, .f32⟩
  | .hbm, ⟨7, _⟩ => ⟨S1024, .i32⟩
  | .hbm, ⟨8, _⟩ => ⟨S1024x1, .i32⟩
  | .hbm, ⟨9, _⟩ => ⟨S4096, .i32⟩
  | .hbm, ⟨10, _⟩ => ⟨S1x4096, .i32⟩
  | .hbm, ⟨11, _⟩ => ⟨S1024x4096, .i32⟩
  | .hbm, ⟨12, _⟩ => ⟨S1024x4096, .i32⟩
  | .hbm, ⟨13, _⟩ => ⟨S1024x4096, .i32⟩
  | .hbm, ⟨14, _⟩ => ⟨S1024x4096, .i32⟩
  | .hbm, ⟨15, _⟩ => ⟨S_, .i32⟩
  | .hbm, ⟨16, _⟩ => ⟨S1024x4096, .i32⟩
  | .hbm, ⟨17, _⟩ => ⟨S1024x4096, .i1⟩
  | .hbm, ⟨18, _⟩ => ⟨S1x8x1024x4096, .f32⟩
  | .hbm, ⟨19, _⟩ => ⟨S_, .f32⟩
  | .hbm, ⟨20, _⟩ => ⟨S1x8x1024x4096, .f32⟩
  | .hbm, ⟨21, _⟩ => ⟨S1x8x1024x4096, .f32⟩
  | .hbm, ⟨22, _⟩ => ⟨S1x1x1024x4096, .i1⟩
  | .hbm, ⟨23, _⟩ => ⟨S_, .f32⟩
  | .hbm, ⟨24, _⟩ => ⟨S_, .f32⟩
  | .hbm, ⟨25, _⟩ => ⟨S1x8x1024x4096, .i1⟩
  | .hbm, ⟨26, _⟩ => ⟨S1x8x1024x4096, .f32⟩
  | .hbm, ⟨27, _⟩ => ⟨S1x8x1024x4096, .f32⟩
  | .hbm, ⟨28, _⟩ => ⟨S_, .f32⟩
  | .hbm, ⟨29, _⟩ => ⟨S1x8x1024, .f32⟩
  | .hbm, ⟨30, _⟩ => ⟨S1x8x1024x1, .f32⟩
  | .hbm, ⟨31, _⟩ => ⟨S1x8x1024x4096, .f32⟩
  | .hbm, ⟨32, _⟩ => ⟨S1x8x1024x4096, .f32⟩
  | .hbm, ⟨33, _⟩ => ⟨S1x8x1024x4096, .f32⟩
  | .hbm, ⟨34, _⟩ => ⟨S_, .i1⟩
  | .hbm, ⟨35, _⟩ => ⟨S1024, .i1⟩
  | .hbm, ⟨36, _⟩ => ⟨S1x1x1024x1, .i1⟩
  | .hbm, ⟨37, _⟩ => ⟨S_, .f32⟩
  | .hbm, ⟨38, _⟩ => ⟨S1x8x1024, .f32⟩
  | .hbm, ⟨39, _⟩ => ⟨S1x8x1024x1, .f32⟩
  | .hbm, ⟨40, _⟩ => ⟨S_, .f32⟩
  | .hbm, ⟨41, _⟩ => ⟨S_, .f32⟩
  | .hbm, ⟨42, _⟩ => ⟨S1x8x1024x1, .i1⟩
  | .hbm, ⟨43, _⟩ => ⟨S1x8x1024x1, .f32⟩
  | .hbm, ⟨44, _⟩ => ⟨S1x8x1024x1, .f32⟩
  | .hbm, ⟨45, _⟩ => ⟨S1x8x1024x4096, .f32⟩
  | .hbm, ⟨46, _⟩ => ⟨S1x8x1024x4096, .f32⟩
  | .hbm, ⟨47, _⟩ => ⟨S1x1x1024x1, .i1⟩
  | .hbm, ⟨48, _⟩ => ⟨S_, .f32⟩
  | .hbm, ⟨49, _⟩ => ⟨S_, .f32⟩
  | .hbm, ⟨50, _⟩ => ⟨S1x8x1024x4096, .i1⟩
  | .hbm, ⟨51, _⟩ => ⟨S1x8x1024x4096, .f32⟩
  | .hbm, ⟨52, _⟩ => ⟨S1x8x1024x4096, .f32⟩
  | .hbm, ⟨53, _⟩ => ⟨S1x8x128x1024, .f32⟩
  | .hbm, ⟨54, _⟩ => ⟨S1x1024x8x128, .f32⟩
  | .hbm, ⟨55, _⟩ => ⟨S1x1024x1024, .f32⟩
  | .hbm, ⟨56, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.Proto.lean ====
/-
  The cross-device protocol of the kernel, before any step of it is run.

  Four devices. Device 0 computes the eight row blocks of the output; device 1 lends it 128 rows of K and V; the blocks
  reach devices 1, 3 and 2 in bf16 by remote copies, some of them forwarded by 1, 3 and 2.

  * barrier cell of device `e` (regular, one round, two units): each neighbour `d = e ± 1` signals one unit, and hands
    over those of ITS landing buffers that `e` will copy into (`barPay d e`), beside the word that the arrival cells of
    those copies are open. `e` waits for both units before its first remote copy.
  * DMA cells, each with one round of one duty, labelled by the device that pays it (`payer`):
      6        on 1: the departure of the K/V rows;                    returns device 1's `kvsliv`
      7        on 0: their arrival;                                    `kvsliv` at the rows of device 1
      8..23    on 0: the departures of block `b`, destination `t`;     return block buffer `b` (a half share if it goes twice)
      24..31   on 1, 2, 3: the arrival of block `b`;                   block buffer `b` at block `b`
      32..39   on 1 (b < 4) and 3 (b ≥ 4): the forward to device 2;    return half of block buffer `b`
      40..47   on 2: the forward of 0, 1 to device 3, of 4, 5 to 1;    return half of block buffer `b`
  Levels: barrier 1 < arrival of the rows 2 < arrivals from device 0 3 < arrivals on device 2 4 < arrivals from device 2 5.
-/
module

public import proofs.«01_k».proof.Proof.Gen.KernelIdeal
public import proofs.«01_k».proof.Proof.Gen.KernelIdeal.Frame
public import proofs.«01_k».proof.Proof.Gen.KernelIdeal.Skeleton
public import Idealize.ShloMosaic.Lib.Pipeline.Regions
public import Idealize.ShloMosaic.Lib.Pipeline.RegionTalk
public import Idealize.ShloMosaic.Lib.Rounds
public import Idealize.ShloMosaic.Lib.Pipeline.TalkSites
public import Idealize.ShloMosaic.Lib.Tactic

@[expose] public section

set_option maxRecDepth 16384

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

/-- The resource algebra: the pipeline library's copy of the rounds, and the protocol's, whose duties are labelled by devices. -/
abbrev UU : Type := UR sig nD τ × URounds (GSem nD τ sig) (Dev nD)

local notation "𝕄" => MT nD τ sig ℕ (Elt F) ℕ UU ℕ

abbrev EP : Emb (UR sig nD τ) (MT nD τ sig ℕ (Elt F) ℕ UU ℕ) := embL
abbrev ER : Emb (URounds (GSem nD τ sig) (Dev nD)) (MT nD τ sig ℕ (Elt F) ℕ UU ℕ) := embR

/-! ## Cells -/

abbrev barS : Sem sig := (SemArray.scalar (sig.barrier 0 rfl) : Sems sig S_).sem
abbrev barCell (c : Dev nD) : GSem nD τ sig := ((c : Thread nD τ), .reg barS)
/-- DMA cell `i` of device `c`. -/
abbrev dcell (c : Dev nD) (i : Fin 48) : GSem nD τ sig := ((c : Thread nD τ), .dma i)

/-- A whole buffer of device `c` at share `q` and contents `f`. -/
abbrev pt (c : Dev nD) (b : Ref sig .tc) (q : PosShare TreeShare) (f : b.ty.Contents (Elt F)) : sProp 𝕄 :=
  (Memref.whole b).view.loc (c : Thread nD τ) ↦{q} f
abbrev ptAny (c : Dev nD) (b : Ref sig .tc) : sProp 𝕄 := iprop(∃ f : b.ty.Contents (Elt F), pt c b fullShare f)

/-- What the copies move: the eight blocks in bf16, and the K and V rows device 1 lends. -/
structure Vals (F : FTy → Type) where
  ob : ℕ → FVec F S128x1024 .bf16
  sl : FVec F S2x128x1024 .bf16

variable (D : Vals F)

/-- Block buffer `b` of device `e` at block `b`. -/
def obPt (e : Dev nD) (q : PosShare TreeShare) : ℕ → sProp 𝕄
  | 0 => pt e cc0_scratch10 q (D.ob 0)
  | 1 => pt e cc0_scratch11 q (D.ob 1)
  | 2 => pt e cc0_scratch12 q (D.ob 2)
  | 3 => pt e cc0_scratch13 q (D.ob 3)
  | 4 => pt e cc0_scratch14 q (D.ob 4)
  | 5 => pt e cc0_scratch15 q (D.ob 5)
  | 6 => pt e cc0_scratch16 q (D.ob 6)
  | 7 => pt e cc0_scratch17 q (D.ob 7)
  | _ => iprop(emp)
/-- What neighbour `d` hands to `e` with its barrier signal. -/
def barPay (d e : Dev nD) : sProp 𝕄 := match d, e with
  | 1, 0 => iprop(ptAny 1 cc0_scratch10 ∗ reached ER (dcell 1 24) 0 ∗ ptAny 1 cc0_scratch11 ∗ reached ER (dcell 1 25) 0 ∗ ptAny 1 cc0_scratch12 ∗ reached ER (dcell 1 26) 0 ∗ ptAny 1 cc0_scratch13 ∗ reached ER (dcell 1 27) 0 ∗ ptAny 1 cc0_scratch16 ∗ reached ER (dcell 1 30) 0 ∗ ptAny 1 cc0_scratch17 ∗ reached ER (dcell 1 31) 0)
  | 3, 0 => iprop(ptAny 3 cc0_scratch12 ∗ reached ER (dcell 3 26) 0 ∗ ptAny 3 cc0_scratch13 ∗ reached ER (dcell 3 27) 0 ∗ ptAny 3 cc0_scratch14 ∗ reached ER (dcell 3 28) 0 ∗ ptAny 3 cc0_scratch15 ∗ reached ER (dcell 3 29) 0 ∗ ptAny 3 cc0_scratch16 ∗ reached ER (dcell 3 30) 0 ∗ ptAny 3 cc0_scratch17 ∗ reached ER (dcell 3 31) 0)
  | 2, 1 => iprop(ptAny 2 cc0_scratch10 ∗ reached ER (dcell 2 24) 0 ∗ ptAny 2 cc0_scratch11 ∗ reached ER (dcell 2 25) 0 ∗ ptAny 2 cc0_scratch12 ∗ reached ER (dcell 2 26) 0 ∗ ptAny 2 cc0_scratch13 ∗ reached ER (dcell 2 27) 0)
  | 2, 3 => iprop(ptAny 2 cc0_scratch14 ∗ reached ER (dcell 2 28) 0 ∗ ptAny 2 cc0_scratch15 ∗ reached ER (dcell 2 29) 0 ∗ ptAny 2 cc0_scratch16 ∗ reached ER (dcell 2 30) 0 ∗ ptAny 2 cc0_scratch17 ∗ reached ER (dcell 2 31) 0)
  | 1, 2 => iprop(ptAny 1 cc0_scratch14 ∗ reached ER (dcell 1 28) 0 ∗ ptAny 1 cc0_scratch15 ∗ reached ER (dcell 1 29) 0)
  | 3, 2 => iprop(ptAny 3 cc0_scratch10 ∗ reached ER (dcell 3 24) 0 ∗ ptAny 3 cc0_scratch11 ∗ reached ER (dcell 3 25) 0)
  | 0, 1 => iprop(ptAny 0 cc0_scratch3 ∗ reached ER (dcell 0 7) 0)
  | _, _ => iprop(emp)

/-- The device that pays the one duty of DMA cell `i` of device `e`, if the cell is used. -/
def payer (e : Dev nD) (i : Fin 48) : Option (Dev nD) := match e, i.val with
  | 0, 7 => some 1
  | 0, 8 => some 0
  | 0, 10 => some 0
  | 0, 12 => some 0
  | 0, 13 => some 0
  | 0, 14 => some 0
  | 0, 15 => some 0
  | 0, 16 => some 0
  | 0, 18 => some 0
  | 0, 20 => some 0
  | 0, 21 => some 0
  | 0, 22 => some 0
  | 0, 23 => some 0
  | 1, 6 => some 1
  | 1, 24 => some 0
  | 1, 25 => some 0
  | 1, 26 => some 0
  | 1, 27 => some 0
  | 1, 28 => some 2
  | 1, 29 => some 2
  | 1, 30 => some 0
  | 1, 31 => some 0
  | 1, 32 => some 1
  | 1, 33 => some 1
  | 1, 34 => some 1
  | 1, 35 => some 1
  | 2, 24 => some 1
  | 2, 25 => some 1
  | 2, 26 => some 1
  | 2, 27 => some 1
  | 2, 28 => some 3
  | 2, 29 => some 3
  | 2, 30 => some 3
  | 2, 31 => some 3
  | 2, 40 => some 2
  | 2, 41 => some 2
  | 2, 44 => some 2
  | 2, 45 => some 2
  | 3, 24 => some 2
  | 3, 25 => some 2
  | 3, 26 => some 0
  | 3, 27 => some 0
  | 3, 28 => some 0
  | 3, 29 => some 0
  | 3, 30 => some 0
  | 3, 31 => some 0
  | 3, 36 => some 3
  | 3, 37 => some 3
  | 3, 38 => some 3
  | 3, 39 => some 3
  | _, _ => none

/-- Block `b` of device 0 goes to two destinations. -/
def twice (b : ℕ) : Bool := b == 2 || b == 3 || b == 6 || b == 7

/-- What lands with the one duty of DMA cell `i` of device `e`. -/
def dmaPay (e : Dev nD) (i : Fin 48) : sProp 𝕄 :=
  if i.val = 6 ∨ i.val = 7 then pt e cc0_scratch3 fullShare D.sl
  else if i.val < 24 then
    obPt D e (if twice ((i.val - 8) / 2) then (if (i.val - 8) % 2 = 0 then fullShare.left else fullShare.right) else fullShare) ((i.val - 8) / 2)
  else if i.val < 32 then obPt D e fullShare (i.val - 24)
  else if i.val < 40 then obPt D e fullShare.left (i.val - 32)
  else obPt D e fullShare.left (i.val - 40)

/-- The bytes credit of a block, and of the lent rows. -/
abbrev NB : ℕ := (Memref.whole cc0_scratch10 : Memref sig .tc .vmem S128x1024 .bf16).view.dmaCredit
abbrev NS : ℕ := (Memref.whole cc0_scratch3 : Memref sig .tc .vmem S2x128x1024 .bf16).view.dmaCredit
theorem NB_pos : 0 < NB := View.dmaCredit_pos _ (by decide)
theorem NS_pos : 0 < NS := View.dmaCredit_pos _ (by decide)

def dut (e : Dev nD) : SemLoc sig → Finset (Dev nD)
  | .reg s => if s = barS then {e + 1, e + 3} else ∅
  | .dma i => (payer e i).toFinset
def amt : SemLoc sig → ℕ
  | .reg _ => 1
  | .dma i => if (i : Fin 48).val < 8 then NS else NB
def pay (e : Dev nD) (d : Dev nD) : SemLoc sig → sProp 𝕄
  | .reg _ => barPay d e
  | .dma i => dmaPay D e i

/-- The schedule: round 0 of every used cell, no later round. -/
def Rd : Rounds.Schedule (GSem nD τ sig) (Dev nD) 𝕄 where
  duties g r := if r = 0 ∧ g.1.2 = .tc then dut g.1.1 g.2 else ∅
  unitless _ := False
  amount g _ _ := amt g.2
  payload g _ d := pay D g.1.1 d g.2
  amount_pos g _ _ _ := by
    rcases g with ⟨_, s | i⟩
    · exact Nat.one_pos
    · show 0 < (if _ then NS else NB); split
      · exact NS_pos
      · exact NB_pos

instance obPt_storable (e : Dev nD) (q : PosShare TreeShare) (b : ℕ) : BI.Storable (upEmb : UEmb _ 𝕄) (obPt D e q b) := by
  unfold obPt; split <;> infer_instance
instance barPay_storable (d e : Dev nD) : BI.Storable (upEmb : UEmb _ 𝕄) (barPay (F := F) d e) := by
  unfold barPay; split <;> infer_instance
instance Rd_storable (g : GSem nD τ sig) (r : ℕ) (d : Dev nD) : BI.Storable (upEmb : UEmb _ 𝕄) ((Rd D).payload g r d) := by
  rcases g with ⟨t, s | i⟩
  · exact barPay_storable _ _
  · show BI.Storable upEmb (dmaPay D t.1 i)
    unfold dmaPay; (repeat' split) <;> infer_instance

/-! ## The tables -/

theorem duties_bar (c : Dev nD) : (Rd D).duties (barCell c) 0 = {c + 1, c + 3} := by
  dsimp only [Rd]; rw [if_pos ⟨rfl, rfl⟩]; dsimp only [dut]; exact if_pos rfl
theorem duties_dma (c : Dev nD) (i : Fin 48) : (Rd D).duties (dcell c i) 0 = (payer c i).toFinset := by
  dsimp only [Rd]; rw [if_pos ⟨rfl, rfl⟩]; rfl
theorem duties_dma_some {c : Dev nD} {i : Fin 48} {d : Dev nD} (h : payer c i = some d) : (Rd D).duties (dcell c i) 0 = {d} := by
  rw [duties_dma, h]; rfl
theorem duties_later (g : GSem nD τ sig) : ∀ r, 1 ≤ r → (Rd D).duties g r = ∅ :=
  fun r hr => by dsimp only [Rd]; exact if_neg (fun h => by omega)
theorem duties_none {c : Dev nD} {i : Fin 48} (h : payer c i = none) : ∀ r, 0 ≤ r → (Rd D).duties (dcell c i) r = ∅ := fun r _ => by
  rcases Nat.eq_zero_or_pos r with rfl | hr
  · rw [duties_dma, h]; rfl
  · exact duties_later D _ r hr

theorem expect_bar (c : Dev nD) : (Rd D).expect (barCell c) 0 = 2 := by
  unfold Schedule.expect Schedule.amountOf; rw [duties_bar, Finset.sum_pair (by revert c; decide)]; rfl
theorem expect_dma {c : Dev nD} {i : Fin 48} {d : Dev nD} (h : payer c i = some d) : (Rd D).expect (dcell c i) 0 = amt (.dma i) := by
  unfold Schedule.expect Schedule.amountOf; rw [duties_dma_some D h, Finset.sum_singleton]; rfl

/-! ## Levels and debts -/

def L (g : GSem nD τ sig) : Finset ℕ := if g.1.2 = .tc then {0} else ∅
theorem L_of_ne (g : GSem nD τ sig) (h : g.1.2 ≠ .tc) : L g = ∅ := if_neg h
theorem L_tc (c : Dev nD) (sm : SemLoc sig) : L ((c : Thread nD τ), sm) = {0} := if_pos rfl

def lvd (e : Dev nD) (i : ℕ) : ℕ :=
  if i = 7 then 2 else if 24 ≤ i ∧ i < 32 then
    (if e = 2 then 4 else if (e = 1 ∧ (i = 28 ∨ i = 29)) ∨ (e = 3 ∧ (i = 24 ∨ i = 25)) then 5 else 3) else 0
def lv (g : GSem nD τ sig) (_ : ℕ) : ℕ := match g.2 with
  | .reg _ => 1
  | .dma i => lvd g.1.1 (i : Fin 48).val

/-- The cells of other devices that device `c` pays, in the order of the program. -/
def owedCells (c : Dev nD) : List (GSem nD τ sig) := match c with
  | 0 => [barCell 1, barCell 3, dcell 1 24, dcell 3 28, dcell 1 25, dcell 3 29, dcell 1 26, dcell 3 26, dcell 3 30, dcell 1 30, dcell 1 27, dcell 3 27, dcell 3 31, dcell 1 31]
  | 1 => [barCell 2, barCell 0, dcell 0 7, dcell 2 24, dcell 2 25, dcell 2 26, dcell 2 27]
  | 2 => [barCell 3, barCell 1, dcell 3 24, dcell 1 28, dcell 3 25, dcell 1 29]
  | 3 => [barCell 0, barCell 2, dcell 2 28, dcell 2 29, dcell 2 30, dcell 2 31]
/-- The payments device `c` owes at launch. -/
def dueL (c : Dev nD) : List (TalkSites.Pay nD τ sig) := (owedCells c).map fun g => (g, 0, amt g.2)
/-- What device `c` owes at launch. -/
def O₀ (c : Dev nD) : CellTallies nD τ sig ℕ := TalkSites.tallyL (dueL c)

end Cert.KernelIdeal.Talk

end
-- ==== Proof.Tables.lean ====
/-
  The protocol's tables at each cell: whose duty, how many units, what is handed over, and how many units the round expects; and
  the levels of what a device owes while it waits.
-/
module

public import proofs.«01_k».proof.Proof.Proto

@[expose] public section

set_option maxRecDepth 16384

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig ℕ (Elt F) ℕ UU ℕ

variable (D : Vals F)

@[sl_rounds] theorem dutB_0 : (Rd D).duties (barCell 0) 0 = {1, 3} := duties_bar D 0
@[sl_rounds] theorem expB_0 : (Rd D).expect (barCell 0) 0 = 2 := expect_bar D 0
@[sl_rounds] theorem amtB_0 (r : ℕ) (d : Dev nD) : (Rd D).amount (barCell 0) r d = 1 := rfl

@[sl_rounds] theorem dutB_1 : (Rd D).duties (barCell 1) 0 = {2, 0} := duties_bar D 1
@[sl_rounds] theorem expB_1 : (Rd D).expect (barCell 1) 0 = 2 := expect_bar D 1
@[sl_rounds] theorem amtB_1 (r : ℕ) (d : Dev nD) : (Rd D).amount (barCell 1) r d = 1 := rfl

@[sl_rounds] theorem dutB_2 : (Rd D).duties (barCell 2) 0 = {3, 1} := duties_bar D 2
@[sl_rounds] theorem expB_2 : (Rd D).expect (barCell 2) 0 = 2 := expect_bar D 2
@[sl_rounds] theorem amtB_2 (r : ℕ) (d : Dev nD) : (Rd D).amount (barCell 2) r d = 1 := rfl

@[sl_rounds] theorem dutB_3 : (Rd D).duties (barCell 3) 0 = {0, 2} := duties_bar D 3
@[sl_rounds] theorem expB_3 : (Rd D).expect (barCell 3) 0 = 2 := expect_bar D 3
@[sl_rounds] theorem amtB_3 (r : ℕ) (d : Dev nD) : (Rd D).amount (barCell 3) r d = 1 := rfl

@[sl_rounds] theorem payB_1_0 : (Rd D).payload (barCell 0) 0 1 = iprop(ptAny 1 cc0_scratch10 ∗ reached ER (dcell 1 24) 0 ∗ ptAny 1 cc0_scratch11 ∗ reached ER (dcell 1 25) 0 ∗ ptAny 1 cc0_scratch12 ∗ reached ER (dcell 1 26) 0 ∗ ptAny 1 cc0_scratch13 ∗ reached ER (dcell 1 27) 0 ∗ ptAny 1 cc0_scratch16 ∗ reached ER (dcell 1 30) 0 ∗ ptAny 1 cc0_scratch17 ∗ reached ER (dcell 1 31) 0) := rfl

@[sl_rounds] theorem payB_3_0 : (Rd D).payload (barCell 0) 0 3 = iprop(ptAny 3 cc0_scratch12 ∗ reached ER (dcell 3 26) 0 ∗ ptAny 3 cc0_scratch13 ∗ reached ER (dcell 3 27) 0 ∗ ptAny 3 cc0_scratch14 ∗ reached ER (dcell 3 28) 0 ∗ ptAny 3 cc0_scratch15 ∗ reached ER (dcell 3 29) 0 ∗ ptAny 3 cc0_scratch16 ∗ reached ER (dcell 3 30) 0 ∗ ptAny 3 cc0_scratch17 ∗ reached ER (dcell 3 31) 0) := rfl

@[sl_rounds] theorem payB_2_1 : (Rd D).payload (barCell 1) 0 2 = iprop(ptAny 2 cc0_scratch10 ∗ reached ER (dcell 2 24) 0 ∗ ptAny 2 cc0_scratch11 ∗ reached ER (dcell 2 25) 0 ∗ ptAny 2 cc0_scratch12 ∗ reached ER (dcell 2 26) 0 ∗ ptAny 2 cc0_scratch13 ∗ reached ER (dcell 2 27) 0) := rfl

@[sl_rounds] theorem payB_2_3 : (Rd D).payload (barCell 3) 0 2 = iprop(ptAny 2 cc0_scratch14 ∗ reached ER (dcell 2 28) 0 ∗ ptAny 2 cc0_scratch15 ∗ reached ER (dcell 2 29) 0 ∗ ptAny 2 cc0_scratch16 ∗ reached ER (dcell 2 30) 0 ∗ ptAny 2 cc0_scratch17 ∗ reached ER (dcell 2 31) 0) := rfl

@[sl_rounds] theorem payB_1_2 : (Rd D).payload (barCell 2) 0 1 = iprop(ptAny 1 cc0_scratch14 ∗ reached ER (dcell 1 28) 0 ∗ ptAny 1 cc0_scratch15 ∗ reached ER (dcell 1 29) 0) := rfl

@[sl_rounds] theorem payB_3_2 : (Rd D).payload (barCell 2) 0 3 = iprop(ptAny 3 cc0_scratch10 ∗ reached ER (dcell 3 24) 0 ∗ ptAny 3 cc0_scratch11 ∗ reached ER (dcell 3 25) 0) := rfl

@[sl_rounds] theorem payB_0_1 : (Rd D).payload (barCell 1) 0 0 = iprop(ptAny 0 cc0_scratch3 ∗ reached ER (dcell 0 7) 0) := rfl

@[sl_rounds] theorem payB_0_3 : (Rd D).payload (barCell 3) 0 0 = iprop(emp) := rfl

@[sl_rounds] theorem dut_0_7 : (Rd D).duties (dcell 0 7) 0 = {1} := duties_dma_some D rfl
@[sl_rounds] theorem exp_0_7 : (Rd D).expect (dcell 0 7) 0 = NS := expect_dma D (d := 1) rfl
@[sl_rounds] theorem amt_0_7 (r : ℕ) (d : Dev nD) : (Rd D).amount (dcell 0 7) r d = NS := rfl
@[sl_rounds] theorem pay_0_7 : (Rd D).payload (dcell 0 7) 0 1 = pt 0 cc0_scratch3 fullShare D.sl := rfl

@[sl_rounds] theorem dut_0_8 : (Rd D).duties (dcell 0 8) 0 = {0} := duties_dma_some D rfl
@[sl_rounds] theorem exp_0_8 : (Rd D).expect (dcell 0 8) 0 = NB := expect_dma D (d := 0) rfl
@[sl_rounds] theorem amt_0_8 (r : ℕ) (d : Dev nD) : (Rd D).amount (dcell 0 8) r d = NB := rfl
@[sl_rounds] theorem pay_0_8 : (Rd D).payload (dcell 0 8) 0 0 = pt 0 cc0_scratch10 fullShare (D.ob 0) := rfl

@[sl_rounds] theorem dut_0_10 : (Rd D).duties (dcell 0 10) 0 = {0} := duties_dma_some D rfl
@[sl_rounds] theorem exp_0_10 : (Rd D).expect (dcell 0 10) 0 = NB := expect_dma D (d := 0) rfl
@[sl_rounds] theorem amt_0_10 (r : ℕ) (d : Dev nD) : (Rd D).amount (dcell 0 10) r d = NB := rfl
@[sl_rounds] theorem pay_0_10 : (Rd D).payload (dcell 0 10) 0 0 = pt 0 cc0_scratch11 fullShare (D.ob 1) := rfl

@[sl_rounds] theorem dut_0_12 : (Rd D).duties (dcell 0 12) 0 = {0} := duties_dma_some D rfl
@[sl_rounds] theorem exp_0_12 : (Rd D).expect (dcell 0 12) 0 = NB := expect_dma D (d := 0) rfl
@[sl_rounds] theorem amt_0_12 (r : ℕ) (d : Dev nD) : (Rd D).amount (dcell 0 12) r d = NB := rfl
@[sl_rounds] theorem pay_0_12 : (Rd D).payload (dcell 0 12) 0 0 = pt 0 cc0_scratch12 fullShare.left (D.ob 2) := rfl

@[sl_rounds] theorem dut_0_13 : (Rd D).duties (dcell 0 13) 0 = {0} := duties_dma_some D rfl
@[sl_rounds] theorem exp_0_13 : (Rd D).expect (dcell 0 13) 0 = NB := expect_dma D (d := 0) rfl
@[sl_rounds] theorem amt_0_13 (r : ℕ) (d : Dev nD) : (Rd D).amount (dcell 0 13) r d = NB := rfl
@[sl_rounds] theorem pay_0_13 : (Rd D).payload (dcell 0 13) 0 0 = pt 0 cc0_scratch12 fullShare.right (D.ob 2) := rfl

@[sl_rounds] theorem dut_0_14 : (Rd D).duties (dcell 0 14) 0 = {0} := duties_dma_some D rfl
@[sl_rounds] theorem exp_0_14 : (Rd D).expect (dcell 0 14) 0 = NB := expect_dma D (d := 0) rfl
@[sl_rounds] theorem amt_0_14 (r : ℕ) (d : Dev nD) : (Rd D).amount (dcell 0 14) r d = NB := rfl
@[sl_rounds] theorem pay_0_14 : (Rd D).payload (dcell 0 14) 0 0 = pt 0 cc0_scratch13 fullShare.left (D.ob 3) := rfl

@[sl_rounds] theorem dut_0_15 : (Rd D).duties (dcell 0 15) 0 = {0} := duties_dma_some D rfl
@[sl_rounds] theorem exp_0_15 : (Rd D).expect (dcell 0 15) 0 = NB := expect_dma D (d := 0) rfl
@[sl_rounds] theorem amt_0_15 (r : ℕ) (d : Dev nD) : (Rd D).amount (dcell 0 15) r d = NB := rfl
@[sl_rounds] theorem pay_0_15 : (Rd D).payload (dcell 0 15) 0 0 = pt 0 cc0_scratch13 fullShare.right (D.ob 3) := rfl

@[sl_rounds] theorem dut_0_16 : (Rd D).duties (dcell 0 16) 0 = {0} := duties_dma_some D rfl
@[sl_rounds] theorem exp_0_16 : (Rd D).expect (dcell 0 16) 0 = NB := expect_dma D (d := 0) rfl
@[sl_rounds] theorem amt_0_16 (r : ℕ) (d : Dev nD) : (Rd D).amount (dcell 0 16) r d = NB := rfl
@[sl_rounds] theorem pay_0_16 : (Rd D).payload (dcell 0 16) 0 0 = pt 0 cc0_scratch14 fullShare (D.ob 4) := rfl

@[sl_rounds] theorem dut_0_18 : (Rd D).duties (dcell 0 18) 0 = {0} := duties_dma_some D rfl
@[sl_rounds] theorem exp_0_18 : (Rd D).expect (dcell 0 18) 0 = NB := expect_dma D (d := 0) rfl
@[sl_rounds] theorem amt_0_18 (r : ℕ) (d : Dev nD) : (Rd D).amount (dcell 0 18) r d = NB := rfl
@[sl_rounds] theorem pay_0_18 : (Rd D).payload (dcell 0 18) 0 0 = pt 0 cc0_scratch15 fullShare (D.ob 5) := rfl

@[sl_rounds] theorem dut_0_20 : (Rd D).duties (dcell 0 20) 0 = {0} := duties_dma_some D rfl
@[sl_rounds] theorem exp_0_20 : (Rd D).expect (dcell 0 20) 0 = NB := expect_dma D (d := 0) rfl
@[sl_rounds] theorem amt_0_20 (r : ℕ) (d : Dev nD) : (Rd D).amount (dcell 0 20) r d = NB := rfl
@[sl_rounds] theorem pay_0_20 : (Rd D).payload (dcell 0 20) 0 0 = pt 0 cc0_scratch16 fullShare.left (D.ob 6) := rfl

@[sl_rounds] theorem dut_0_21 : (Rd D).duties (dcell 0 21) 0 = {0} := duties_dma_some D rfl
@[sl_rounds] theorem exp_0_21 : (Rd D).expect (dcell 0 21) 0 = NB := expect_dma D (d := 0) rfl
@[sl_rounds] theorem amt_0_21 (r : ℕ) (d : Dev nD) : (Rd D).amount (dcell 0 21) r d = NB := rfl
@[sl_rounds] theorem pay_0_21 : (Rd D).payload (dcell 0 21) 0 0 = pt 0 cc0_scratch16 fullShare.right (D.ob 6) := rfl

@[sl_rounds] theorem dut_0_22 : (Rd D).duties (dcell 0 22) 0 = {0} := duties_dma_some D rfl
@[sl_rounds] theorem exp_0_22 : (Rd D).expect (dcell 0 22) 0 = NB := expect_dma D (d := 0) rfl
@[sl_rounds] theorem amt_0_22 (r : ℕ) (d : Dev nD) : (Rd D).amount (dcell 0 22) r d = NB := rfl
@[sl_rounds] theorem pay_0_22 : (Rd D).payload (dcell 0 22) 0 0 = pt 0 cc0_scratch17 fullShare.left (D.ob 7) := rfl

@[sl_rounds] theorem dut_0_23 : (Rd D).duties (dcell 0 23) 0 = {0} := duties_dma_some D rfl
@[sl_rounds] theorem exp_0_23 : (Rd D).expect (dcell 0 23) 0 = NB := expect_dma D (d := 0) rfl
@[sl_rounds] theorem amt_0_23 (r : ℕ) (d : Dev nD) : (Rd D).amount (dcell 0 23) r d = NB := rfl
@[sl_rounds] theorem pay_0_23 : (Rd D).payload (dcell 0 23) 0 0 = pt 0 cc0_scratch17 fullShare.right (D.ob 7) := rfl

@[sl_rounds] theorem dut_1_6 : (Rd D).duties (dcell 1 6) 0 = {1} := duties_dma_some D rfl
@[sl_rounds] theorem exp_1_6 : (Rd D).expect (dcell 1 6) 0 = NS := expect_dma D (d := 1) rfl
@[sl_rounds] theorem amt_1_6 (r : ℕ) (d : Dev nD) : (Rd D).amount (dcell 1 6) r d = NS := rfl
@[sl_rounds] theorem pay_1_6 : (Rd D).payload (dcell 1 6) 0 1 = pt 1 cc0_scratch3 fullShare D.sl := rfl

@[sl_rounds] theorem dut_1_24 : (Rd D).duties (dcell 1 24) 0 = {0} := duties_dma_some D rfl
@[sl_rounds] theorem exp_1_24 : (Rd D).expect (dcell 1 24) 0 = NB := expect_dma D (d := 0) rfl
@[sl_rounds] theorem amt_1_24 (r : ℕ) (d : Dev nD) : (Rd D).amount (dcell 1 24) r d = NB := rfl
@[sl_rounds] theorem pay_1_24 : (Rd D).payload (dcell 1 24) 0 0 = pt 1 cc0_scratch10 fullShare (D.ob 0) := rfl

@[sl_rounds] theorem dut_1_25 : (Rd D).duties (dcell 1 25) 0 = {0} := duties_dma_some D rfl
@[sl_rounds] theorem exp_1_25 : (Rd D).expect (dcell 1 25) 0 = NB := expect_dma D (d := 0) rfl
@[sl_rounds] theorem amt_1_25 (r : ℕ) (d : Dev nD) : (Rd D).amount (dcell 1 25) r d = NB := rfl
@[sl_rounds] theorem pay_1_25 : (Rd D).payload (dcell 1 25) 0 0 = pt 1 cc0_scratch11 fullShare (D.ob 1) := rfl

@[sl_rounds] theorem dut_1_26 : (Rd D).duties (dcell 1 26) 0 = {0} := duties_dma_some D rfl
@[sl_rounds] theorem exp_1_26 : (Rd D).expect (dcell 1 26) 0 = NB := expect_dma D (d := 0) rfl
@[sl_rounds] theorem amt_1_26 (r : ℕ) (d : Dev nD) : (Rd D).amount (dcell 1 26) r d = NB := rfl
@[sl_rounds] theorem pay_1_26 : (Rd D).payload (dcell 1 26) 0 0 = pt 1 cc0_scratch12 fullShare (D.ob 2) := rfl

@[sl_rounds] theorem dut_1_27 : (Rd D).duties (dcell 1 27) 0 = {0} := duties_dma_some D rfl
@[sl_rounds] theorem exp_1_27 : (Rd D).expect (dcell 1 27) 0 = NB := expect_dma D (d := 0) rfl
@[sl_rounds] theorem amt_1_27 (r : ℕ) (d : Dev nD) : (Rd D).amount (dcell 1 27) r d = NB := rfl
@[sl_rounds] theorem pay_1_27 : (Rd D).payload (dcell 1 27) 0 0 = pt 1 cc0_scratch13 fullShare (D.ob 3) := rfl

@[sl_rounds] theorem dut_1_28 : (Rd D).duties (dcell 1 28) 0 = {2} := duties_dma_some D rfl
@[sl_rounds] theorem exp_1_28 : (Rd D).expect (dcell 1 28) 0 = NB := expect_dma D (d := 2) rfl
@[sl_rounds] theorem amt_1_28 (r : ℕ) (d : Dev nD) : (Rd D).amount (dcell 1 28) r d = NB := rfl
@[sl_rounds] theorem pay_1_28 : (Rd D).payload (dcell 1 28) 0 2 = pt 1 cc0_scratch14 fullShare (D.ob 4) := rfl

@[sl_rounds] theorem dut_1_29 : (Rd D).duties (dcell 1 29) 0 = {2} := duties_dma_some D rfl
@[sl_rounds] theorem exp_1_29 : (Rd D).expect (dcell 1 29) 0 = NB := expect_dma D (d := 2) rfl
@[sl_rounds] theorem amt_1_29 (r : ℕ) (d : Dev nD) : (Rd D).amount (dcell 1 29) r d = NB := rfl
@[sl_rounds] theorem pay_1_29 : (Rd D).payload (dcell 1 29) 0 2 = pt 1 cc0_scratch15 fullShare (D.ob 5) := rfl

@[sl_rounds] theorem dut_1_30 : (Rd D).duties (dcell 1 30) 0 = {0} := duties_dma_some D rfl
@[sl_rounds] theorem exp_1_30 : (Rd D).expect (dcell 1 30) 0 = NB := expect_dma D (d := 0) rfl
@[sl_rounds] theorem amt_1_30 (r : ℕ) (d : Dev nD) : (Rd D).amount (dcell 1 30) r d = NB := rfl
@[sl_rounds] theorem pay_1_30 : (Rd D).payload (dcell 1 30) 0 0 = pt 1 cc0_scratch16 fullShare (D.ob 6) := rfl

@[sl_rounds] theorem dut_1_31 : (Rd D).duties (dcell 1 31) 0 = {0} := duties_dma_some D rfl
@[sl_rounds] theorem exp_1_31 : (Rd D).expect (dcell 1 31) 0 = NB := expect_dma D (d := 0) rfl
@[sl_rounds] theorem amt_1_31 (r : ℕ) (d : Dev nD) : (Rd D).amount (dcell 1 31) r d = NB := rfl
@[sl_rounds] theorem pay_1_31 : (Rd D).payload (dcell 1 31) 0 0 = pt 1 cc0_scratch17 fullShare (D.ob 7) := rfl

@[sl_rounds] theorem dut_1_32 : (Rd D).duties (dcell 1 32) 0 = {1} := duties_dma_some D rfl
@[sl_rounds] theorem exp_1_32 : (Rd D).expect (dcell 1 32) 0 = NB := expect_dma D (d := 1) rfl
@[sl_rounds] theorem amt_1_32 (r : ℕ) (d : Dev nD) : (Rd D).amount (dcell 1 32) r d = NB := rfl
@[sl_rounds] theorem pay_1_32 : (Rd D).payload (dcell 1 32) 0 1 = pt 1 cc0_scratch10 fullShare.left (D.ob 0) := rfl

@[sl_rounds] theorem dut_1_33 : (Rd D).duties (dcell 1 33) 0 = {1} := duties_dma_some D rfl
@[sl_rounds] theorem exp_1_33 : (Rd D).expect (dcell 1 33) 0 = NB := expect_dma D (d := 1) rfl
@[sl_rounds] theorem amt_1_33 (r : ℕ) (d : Dev nD) : (Rd D).amount (dcell 1 33) r d = NB := rfl
@[sl_rounds] theorem pay_1_33 : (Rd D).payload (dcell 1 33) 0 1 = pt 1 cc0_scratch11 fullShare.left (D.ob 1) := rfl

@[sl_rounds] theorem dut_1_34 : (Rd D).duties (dcell 1 34) 0 = {1} := duties_dma_some D rfl
@[sl_rounds] theorem exp_1_34 : (Rd D).expect (dcell 1 34) 0 = NB := expect_dma D (d := 1) rfl
@[sl_rounds] theorem amt_1_34 (r : ℕ) (d : Dev nD) : (Rd D).amount (dcell 1 34) r d = NB := rfl
@[sl_rounds] theorem pay_1_34 : (Rd D).payload (dcell 1 34) 0 1 = pt 1 cc0_scratch12 fullShare.left (D.ob 2) := rfl

@[sl_rounds] theorem dut_1_35 : (Rd D).duties (dcell 1 35) 0 = {1} := duties_dma_some D rfl
@[sl_rounds] theorem exp_1_35 : (Rd D).expect (dcell 1 35) 0 = NB := expect_dma D (d := 1) rfl
@[sl_rounds] theorem amt_1_35 (r : ℕ) (d : Dev nD) : (Rd D).amount (dcell 1 35) r d = NB := rfl
@[sl_rounds] theorem pay_1_35 : (Rd D).payload (dcell 1 35) 0 1 = pt 1 cc0_scratch13 fullShare.left (D.ob 3) := rfl

@[sl_rounds] theorem dut_2_24 : (Rd D).duties (dcell 2 24) 0 = {1} := duties_dma_some D rfl
@[sl_rounds] theorem exp_2_24 : (Rd D).expect (dcell 2 24) 0 = NB := expect_dma D (d := 1) rfl
@[sl_rounds] theorem amt_2_24 (r : ℕ) (d : Dev nD) : (Rd D).amount (dcell 2 24) r d = NB := rfl
@[sl_rounds] theorem pay_2_24 : (Rd D).payload (dcell 2 24) 0 1 = pt 2 cc0_scratch10 fullShare (D.ob 0) := rfl

@[sl_rounds] theorem dut_2_25 : (Rd D).duties (dcell 2 25) 0 = {1} := duties_dma_some D rfl
@[sl_rounds] theorem exp_2_25 : (Rd D).expect (dcell 2 25) 0 = NB := expect_dma D (d := 1) rfl
@[sl_rounds] theorem amt_2_25 (r : ℕ) (d : Dev nD) : (Rd D).amount (dcell 2 25) r d = NB := rfl
@[sl_rounds] theorem pay_2_25 : (Rd D).payload (dcell 2 25) 0 1 = pt 2 cc0_scratch11 fullShare (D.ob 1) := rfl

@[sl_rounds] theorem dut_2_26 : (Rd D).duties (dcell 2 26) 0 = {1} := duties_dma_some D rfl
@[sl_rounds] theorem exp_2_26 : (Rd D).expect (dcell 2 26) 0 = NB := expect_dma D (d := 1) rfl
@[sl_rounds] theorem amt_2_26 (r : ℕ) (d : Dev nD) : (Rd D).amount (dcell 2 26) r d = NB := rfl
@[sl_rounds] theorem pay_2_26 : (Rd D).payload (dcell 2 26) 0 1 = pt 2 cc0_scratch12 fullShare (D.ob 2) := rfl

@[sl_rounds] theorem dut_2_27 : (Rd D).duties (dcell 2 27) 0 = {1} := duties_dma_some D rfl
@[sl_rounds] theorem exp_2_27 : (Rd D).expect (dcell 2 27) 0 = NB := expect_dma D (d := 1) rfl
@[sl_rounds] theorem amt_2_27 (r : ℕ) (d : Dev nD) : (Rd D).amount (dcell 2 27) r d = NB := rfl
@[sl_rounds] theorem pay_2_27 : (Rd D).payload (dcell 2 27) 0 1 = pt 2 cc0_scratch13 fullShare (D.ob 3) := rfl

@[sl_rounds] theorem dut_2_28 : (Rd D).duties (dcell 2 28) 0 = {3} := duties_dma_some D rfl
@[sl_rounds] theorem exp_2_28 : (Rd D).expect (dcell 2 28) 0 = NB := expect_dma D (d := 3) rfl
@[sl_rounds] theorem amt_2_28 (r : ℕ) (d : Dev nD) : (Rd D).amount (dcell 2 28) r d = NB := rfl
@[sl_rounds] theorem pay_2_28 : (Rd D).payload (dcell 2 28) 0 3 = pt 2 cc0_scratch14 fullShare (D.ob 4) := rfl

@[sl_rounds] theorem dut_2_29 : (Rd D).duties (dcell 2 29) 0 = {3} := duties_dma_some D rfl
@[sl_rounds] theorem exp_2_29 : (Rd D).expect (dcell 2 29) 0 = NB := expect_dma D (d := 3) rfl
@[sl_rounds] theorem amt_2_29 (r : ℕ) (d : Dev nD) : (Rd D).amount (dcell 2 29) r d = NB := rfl
@[sl_rounds] theorem pay_2_29 : (Rd D).payload (dcell 2 29) 0 3 = pt 2 cc0_scratch15 fullShare (D.ob 5) := rfl

@[sl_rounds] theorem dut_2_30 : (Rd D).duties (dcell 2 30) 0 = {3} := duties_dma_some D rfl
@[sl_rounds] theorem exp_2_30 : (Rd D).expect (dcell 2 30) 0 = NB := expect_dma D (d := 3) rfl
@[sl_rounds] theorem amt_2_30 (r : ℕ) (d : Dev nD) : (Rd D).amount (dcell 2 30) r d = NB := rfl
@[sl_rounds] theorem pay_2_30 : (Rd D).payload (dcell 2 30) 0 3 = pt 2 cc0_scratch16 fullShare (D.ob 6) := rfl

@[sl_rounds] theorem dut_2_31 : (Rd D).duties (dcell 2 31) 0 = {3} := duties_dma_some D rfl
@[sl_rounds] theorem exp_2_31 : (Rd D).expect (dcell 2 31) 0 = NB := expect_dma D (d := 3) rfl
@[sl_rounds] theorem amt_2_31 (r : ℕ) (d : Dev nD) : (Rd D).amount (dcell 2 31) r d = NB := rfl
@[sl_rounds] theorem pay_2_31 : (Rd D).payload (dcell 2 31) 0 3 = pt 2 cc0_scratch17 fullShare (D.ob 7) := rfl

@[sl_rounds] theorem dut_2_40 : (Rd D).duties (dcell 2 40) 0 = {2} := duties_dma_some D rfl
@[sl_rounds] theorem exp_2_40 : (Rd D).expect (dcell 2 40) 0 = NB := expect_dma D (d := 2) rfl
@[sl_rounds] theorem amt_2_40 (r : ℕ) (d : Dev nD) : (Rd D).amount (dcell 2 40) r d = NB := rfl
@[sl_rounds] theorem pay_2_40 : (Rd D).payload (dcell 2 40) 0 2 = pt 2 cc0_scratch10 fullShare.left (D.ob 0) := rfl

@[sl_rounds] theorem dut_2_41 : (Rd D).duties (dcell 2 41) 0 = {2} := duties_dma_some D rfl
@[sl_rounds] theorem exp_2_41 : (Rd D).expect (dcell 2 41) 0 = NB := expect_dma D (d := 2) rfl
@[sl_rounds] theorem amt_2_41 (r : ℕ) (d : Dev nD) : (Rd D).amount (dcell 2 41) r d = NB := rfl
@[sl_rounds] theorem pay_2_41 : (Rd D).payload (dcell 2 41) 0 2 = pt 2 cc0_scratch11 fullShare.left (D.ob 1) := rfl

@[sl_rounds] theorem dut_2_44 : (Rd D).duties (dcell 2 44) 0 = {2} := duties_dma_some D rfl
@[sl_rounds] theorem exp_2_44 : (Rd D).expect (dcell 2 44) 0 = NB := expect_dma D (d := 2) rfl
@[sl_rounds] theorem amt_2_44 (r : ℕ) (d : Dev nD) : (Rd D).amount (dcell 2 44) r d = NB := rfl
@[sl_rounds] theorem pay_2_44 : (Rd D).payload (dcell 2 44) 0 2 = pt 2 cc0_scratch14 fullShare.left (D.ob 4) := rfl

@[sl_rounds] theorem dut_2_45 : (Rd D).duties (dcell 2 45) 0 = {2} := duties_dma_some D rfl
@[sl_rounds] theorem exp_2_45 : (Rd D).expect (dcell 2 45) 0 = NB := expect_dma D (d := 2) rfl
@[sl_rounds] theorem amt_2_45 (r : ℕ) (d : Dev nD) : (Rd D).amount (dcell 2 45) r d = NB := rfl
@[sl_rounds] theorem pay_2_45 : (Rd D).payload (dcell 2 45) 0 2 = pt 2 cc0_scratch15 fullShare.left (D.ob 5) := rfl

@[sl_rounds] theorem dut_3_24 : (Rd D).duties (dcell 3 24) 0 = {2} := duties_dma_some D rfl
@[sl_rounds] theorem exp_3_24 : (Rd D).expect (dcell 3 24) 0 = NB := expect_dma D (d := 2) rfl
@[sl_rounds] theorem amt_3_24 (r : ℕ) (d : Dev nD) : (Rd D).amount (dcell 3 24) r d = NB := rfl
@[sl_rounds] theorem pay_3_24 : (Rd D).payload (dcell 3 24) 0 2 = pt 3 cc0_scratch10 fullShare (D.ob 0) := rfl

@[sl_rounds] theorem dut_3_25 : (Rd D).duties (dcell 3 25) 0 = {2} := duties_dma_some D rfl
@[sl_rounds] theorem exp_3_25 : (Rd D).expect (dcell 3 25) 0 = NB := expect_dma D (d := 2) rfl
@[sl_rounds] theorem amt_3_25 (r : ℕ) (d : Dev nD) : (Rd D).amount (dcell 3 25) r d = NB := rfl
@[sl_rounds] theorem pay_3_25 : (Rd D).payload (dcell 3 25) 0 2 = pt 3 cc0_scratch11 fullShare (D.ob 1) := rfl

@[sl_rounds] theorem dut_3_26 : (Rd D).duties (dcell 3 26) 0 = {0} := duties_dma_some D rfl
@[sl_rounds] theorem exp_3_26 : (Rd D).expect (dcell 3 26) 0 = NB := expect_dma D (d := 0) rfl
@[sl_rounds] theorem amt_3_26 (r : ℕ) (d : Dev nD) : (Rd D).amount (dcell 3 26) r d = NB := rfl
@[sl_rounds] theorem pay_3_26 : (Rd D).payload (dcell 3 26) 0 0 = pt 3 cc0_scratch12 fullShare (D.ob 2) := rfl

@[sl_rounds] theorem dut_3_27 : (Rd D).duties (dcell 3 27) 0 = {0} := duties_dma_some D rfl
@[sl_rounds] theorem exp_3_27 : (Rd D).expect (dcell 3 27) 0 = NB := expect_dma D (d := 0) rfl
@[sl_rounds] theorem amt_3_27 (r : ℕ) (d : Dev nD) : (Rd D).amount (dcell 3 27) r d = NB := rfl
@[sl_rounds] theorem pay_3_27 : (Rd D).payload (dcell 3 27) 0 0 = pt 3 cc0_scratch13 fullShare (D.ob 3) := rfl

@[sl_rounds] theorem dut_3_28 : (Rd D).duties (dcell 3 28) 0 = {0} := duties_dma_some D rfl
@[sl_rounds] theorem exp_3_28 : (Rd D).expect (dcell 3 28) 0 = NB := expect_dma D (d := 0) rfl
@[sl_rounds] theorem amt_3_28 (r : ℕ) (d : Dev nD) : (Rd D).amount (dcell 3 28) r d = NB := rfl
@[sl_rounds] theorem pay_3_28 : (Rd D).payload (dcell 3 28) 0 0 = pt 3 cc0_scratch14 fullShare (D.ob 4) := rfl

@[sl_rounds] theorem dut_3_29 : (Rd D).duties (dcell 3 29) 0 = {0} := duties_dma_some D rfl
@[sl_rounds] theorem exp_3_29 : (Rd D).expect (dcell 3 29) 0 = NB := expect_dma D (d := 0) rfl
@[sl_rounds] theorem amt_3_29 (r : ℕ) (d : Dev nD) : (Rd D).amount (dcell 3 29) r d = NB := rfl
@[sl_rounds] theorem pay_3_29 : (Rd D).payload (dcell 3 29) 0 0 = pt 3 cc0_scratch15 fullShare (D.ob 5) := rfl

@[sl_rounds] theorem dut_3_30 : (Rd D).duties (dcell 3 30) 0 = {0} := duties_dma_some D rfl
@[sl_rounds] theorem exp_3_30 : (Rd D).expect (dcell 3 30) 0 = NB := expect_dma D (d := 0) rfl
@[sl_rounds] theorem amt_3_30 (r : ℕ) (d : Dev nD) : (Rd D).amount (dcell 3 30) r d = NB := rfl
@[sl_rounds] theorem pay_3_30 : (Rd D).payload (dcell 3 30) 0 0 = pt 3 cc0_scratch16 fullShare (D.ob 6) := rfl

@[sl_rounds] theorem dut_3_31 : (Rd D).duties (dcell 3 31) 0 = {0} := duties_dma_some D rfl
@[sl_rounds] theorem exp_3_31 : (Rd D).expect (dcell 3 31) 0 = NB := expect_dma D (d := 0) rfl
@[sl_rounds] theorem amt_3_31 (r : ℕ) (d : Dev nD) : (Rd D).amount (dcell 3 31) r d = NB := rfl
@[sl_rounds] theorem pay_3_31 : (Rd D).payload (dcell 3 31) 0 0 = pt 3 cc0_scratch17 fullShare (D.ob 7) := rfl

@[sl_rounds] theorem dut_3_36 : (Rd D).duties (dcell 3 36) 0 = {3} := duties_dma_some D rfl
@[sl_rounds] theorem exp_3_36 : (Rd D).expect (dcell 3 36) 0 = NB := expect_dma D (d := 3) rfl
@[sl_rounds] theorem amt_3_36 (r : ℕ) (d : Dev nD) : (Rd D).amount (dcell 3 36) r d = NB := rfl
@[sl_rounds] theorem pay_3_36 : (Rd D).payload (dcell 3 36) 0 3 = pt 3 cc0_scratch14 fullShare.left (D.ob 4) := rfl

@[sl_rounds] theorem dut_3_37 : (Rd D).duties (dcell 3 37) 0 = {3} := duties_dma_some D rfl
@[sl_rounds] theorem exp_3_37 : (Rd D).expect (dcell 3 37) 0 = NB := expect_dma D (d := 3) rfl
@[sl_rounds] theorem amt_3_37 (r : ℕ) (d : Dev nD) : (Rd D).amount (dcell 3 37) r d = NB := rfl
@[sl_rounds] theorem pay_3_37 : (Rd D).payload (dcell 3 37) 0 3 = pt 3 cc0_scratch15 fullShare.left (D.ob 5) := rfl

@[sl_rounds] theorem dut_3_38 : (Rd D).duties (dcell 3 38) 0 = {3} := duties_dma_some D rfl
@[sl_rounds] theorem exp_3_38 : (Rd D).expect (dcell 3 38) 0 = NB := expect_dma D (d := 3) rfl
@[sl_rounds] theorem amt_3_38 (r : ℕ) (d : Dev nD) : (Rd D).amount (dcell 3 38) r d = NB := rfl
@[sl_rounds] theorem pay_3_38 : (Rd D).payload (dcell 3 38) 0 3 = pt 3 cc0_scratch16 fullShare.left (D.ob 6) := rfl

@[sl_rounds] theorem dut_3_39 : (Rd D).duties (dcell 3 39) 0 = {3} := duties_dma_some D rfl
@[sl_rounds] theorem exp_3_39 : (Rd D).expect (dcell 3 39) 0 = NB := expect_dma D (d := 3) rfl
@[sl_rounds] theorem amt_3_39 (r : ℕ) (d : Dev nD) : (Rd D).amount (dcell 3 39) r d = NB := rfl
@[sl_rounds] theorem pay_3_39 : (Rd D).payload (dcell 3 39) 0 3 = pt 3 cc0_scratch17 fullShare.left (D.ob 7) := rfl

/-! ## Levels -/

/-- Everything `O` owes lies at a cell of level above `n`. -/
def Above (n : ℕ) (O : CellTallies nD τ sig ℕ) : Prop := ∀ g u, 0 < O g u → u ∈ L g ∧ n < lv g u

theorem above_zero (n : ℕ) : Above n 0 := fun _ _ h => absurd h (Nat.lt_irrefl 0)
theorem above_add {n : ℕ} {O O' : CellTallies nD τ sig ℕ} (h : Above n O) (h' : Above n O') : Above n (O + O') := fun g u hg => by
  rcases Nat.eq_zero_or_pos (O g u) with h0 | h0
  · exact h' g u (by have : (O + O') g u = O g u + O' g u := rfl
                     omega)
  · exact h g u h0
theorem above_tally {n k : ℕ} (c : Dev nD) (sm : SemLoc sig) (h : n < lv ((c : Thread nD τ), sm) 0) :
    Above n (tallyAt ((c : Thread nD τ), sm) 0 k) := fun g u hg => by
  rw [tallyAt_apply] at hg
  by_cases hc : g = ((c : Thread nD τ), sm) ∧ u = 0
  · rw [hc.1, L_tc]; exact ⟨Finset.mem_singleton.mpr hc.2, h⟩
  · rw [if_neg hc] at hg; exact absurd hg (Nat.lt_irrefl 0)

theorem mayWait {n : ℕ} (c : Dev nD) (sm : SemLoc sig) (h : lv ((c : Thread nD τ), sm) 0 ≤ n) (O : CellTallies nD τ sig ℕ) (hO : Above n O) :
    (levAts L lv : sProp 𝕄) ⊢ MayWait (c : Thread nD τ) sm 0 O :=
  MayOwe.of_cut (L := L) (lev := lv) n (fun p hp => by rw [Finset.mem_singleton.mp hp, L_tc]; exact Finset.mem_singleton_self _)
    (fun g u hg => (hO g u hg).1) (fun p hp => by rw [Finset.mem_singleton.mp hp]; exact h) (fun g u hg => (hO g u hg).2)

end Cert.KernelIdeal.Talk

end
-- ==== Proof.Vals.lean ====
/-
  The contents the copies move and the result's contents, in terms of the windows: the rows device 1 lends, and the result laid out
  from its eight row blocks.
-/
module

public import proofs.«01_k».proof.Proof.Tables
public import proofs.«01_k».proof.Proof.Gen.KernelIdeal.Points
public import Idealize.ShloMosaic.Lib.Writes
public import Idealize.ShloMosaic.Lib.PointwiseCore

@[expose] public section

set_option maxRecDepth 16384

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig ℕ (Elt F) ℕ UU ℕ

abbrev 𝒱₀ : Variants := Variants.none

/-- A buffer in two half shares. -/
theorem pt_halves (c : Dev nD) (b : Ref sig .tc) (f : b.ty.Contents (Elt F)) :
    (pt c b fullShare f : sProp 𝕄) ⊣⊢ iprop(((Memref.whole b).view.loc (c : Thread nD τ) ↦{fullShare.left} f) ∗ ((Memref.whole b).view.loc (c : Thread nD τ) ↦{fullShare.right} f)) :=
  pointsTo_share (PosShare.mem_left_op_right fullShare)

theorem pt_congr (c : Dev nD) (b : Ref sig .tc) (q : PosShare TreeShare) {f g : b.ty.Contents (Elt F)} (h : f = g) :
    (pt c b q f : sProp 𝕄) ⊢ ((Memref.whole b).view.loc (c : Thread nD τ) ↦{q} g) := Entails.of_eq (by rw [h])

/-- The first 128 rows of a K or V block. -/
def topRows (k : FVec F S1024x1024 .bf16) : FVec F S128x1024 .bf16 :=
  fun y => k (ix2 ⟨(y 0).val, lt_of_lt_of_le (y 0).isLt (by decide)⟩ (y 1))

/-- The rows device 1 lends: plane 0 the first 128 rows of its K, plane 1 those of its V. -/
def slOf (kk vv : FVec F S1024x1024 .bf16) : FVec F S2x128x1024 .bf16 :=
  fun y => if (y 0).val = 0 then topRows kk (ix2 (y 1) (y 2)) else topRows vv (ix2 (y 1) (y 2))

/-- The result from its row blocks, 128 rows each. -/
def outOf (g : ℕ → FVec F S128x1024 .f32) : FVec F S1x1024x1024 .f32 :=
  fun y => g ((y 1).val / 128) (ix2 ⟨(y 1).val % 128, Nat.mod_lt _ (by decide)⟩ (y 2))

/-- A 128-row block with a leading axis of one, as the stores of the result spell it. -/
def lead (x : FVec F S128x1024 .f32) : FVec F S1x128x1024 .f32 := shapeCast S1x128x1024 x shapeCasts_S128x1024_S1x128x1024
/-- A bf16 block widened. -/
def ext (x : FVec F S128x1024 .bf16) : FVec F S128x1024 .f32 := extf .f32 x bitsLt_bf16_f32

theorem lead_apply (x : FVec F S128x1024 .f32) (a : Fin 1) (b : Fin 128) (c : Fin 1024) : lead x (ix3 a b c) = x (ix2 b c) := by
  pointwise [lead]
theorem pay181_apply (x : FVec F S128x1024 .bf16) (a : Fin 1) (b : Fin 128) (c : Fin 1024) : k0_pay181 x (ix3 a b c) = x (ix2 b c) := by
  pointwise [k0_pay181]
theorem pay182_apply (x : FVec F S128x1024 .bf16) (a : Fin 1) (b : Fin 128) (c : Fin 1024) : k0_pay182 x (ix3 a b c) = x (ix2 b c) := by
  pointwise [k0_pay182]

/-- Pieces that cover a whole buffer and agree with `G` leave `G`. -/
theorem writes_whole_of_pieces (b : Ref sig .tc) (f G : b.ty.Contents (Elt F)) (L : List (View.Piece (Elt F) b.ty.shape b.ty.elt))
    (hG : ∀ p ∈ L, ∀ x : p.1.shape.Idx, p.2 x = G (p.1.emb x)) (hc : ∀ y : b.ty.shape.Idx, ∃ p ∈ L, y ∈ p.1.set) :
    (Memref.whole b).view.writes (Elt F) f L = G := by
  funext y
  exact (congrFun (View.read_whole b _) y).symm.trans (View.read_writes_apply_of_pieces (View.whole b) f G L hG y (hc y))

theorem sl_writes (kk vv : FVec F S1024x1024 .bf16) (f : FVec F S2x128x1024 .bf16) :
    (((Memref.whole cc0_scratch3 : Memref sig .tc .vmem S2x128x1024 .bf16).view.writes (Elt F) f
      [⟨Rect.unit (s := S2x128x1024) ![1, 0, 0] ![1, 128, 1024] inb_S2x128x1024_S1x128x1024_1_0_0,
        (k0_pay182 (F := F) (View.readAt (Elt F) (Memref.whole cc0_stg3_0).view
            (Rect.unit (s := S1024x1024) ![0, 0] ![128, 1024] inb_S1024x1024_S128x1024_0_0).toLoadRect vv))⟩,
      ⟨Rect.unit (s := S2x128x1024) ![0, 0, 0] ![1, 128, 1024] inb_S2x128x1024_S1x128x1024_0_0_0,
        k0_pay181 (F := F) (View.readAt (Elt F) (Memref.whole cc0_stg2_0).view
            (Rect.unit (s := S1024x1024) ![0, 0] ![128, 1024] inb_S1024x1024_S128x1024_0_0).toLoadRect kk)⟩]) : FVec F S2x128x1024 .bf16) = slOf kk vv := by
  refine writes_whole_of_pieces cc0_scratch3 f (slOf kk vv) _ ?_ ?_
  · intro p hp x
    simp only [List.mem_cons, List.not_mem_nil, or_false] at hp
    rcases hp with rfl | rfl
    · obtain ⟨a, b, c, rfl⟩ : ∃ (a : Fin 1) (b : Fin 128) (c : Fin 1024), x = ix3 a b c := ⟨x 0, x 1, x 2, eq_ix3 x⟩
      dsimp only; rw [pay182_apply]
      unfold slOf topRows
      rw [if_neg (by rw [show ((Rect.unit (s := S2x128x1024) ![1, 0, 0] ![1, 128, 1024] inb_S2x128x1024_S1x128x1024_1_0_0).emb (ix3 a b c) 0).val = 1 + 1 * a.val from rfl]; omega)]
      show vv _ = vv _
      congr 1; funext i; match i with | ⟨0, _⟩ => exact Fin.ext rfl | ⟨1, _⟩ => exact Fin.ext rfl
    · obtain ⟨a, b, c, rfl⟩ : ∃ (a : Fin 1) (b : Fin 128) (c : Fin 1024), x = ix3 a b c := ⟨x 0, x 1, x 2, eq_ix3 x⟩
      dsimp only; rw [pay181_apply]
      unfold slOf topRows
      rw [if_pos (by rw [show ((Rect.unit (s := S2x128x1024) ![0, 0, 0] ![1, 128, 1024] inb_S2x128x1024_S1x128x1024_0_0_0).emb (ix3 a b c) 0).val = 0 + 1 * a.val from rfl]; omega)]
      show kk _ = kk _
      congr 1; funext i; match i with | ⟨0, _⟩ => exact Fin.ext rfl | ⟨1, _⟩ => exact Fin.ext rfl
  · intro y
    have h0 : (y 0).val < 2 := (y 0).isLt
    have h1 : (y 1).val < 128 := (y 1).isLt
    have h2 : (y 2).val < 1024 := (y 2).isLt
    by_cases h : (y 0).val = 0
    · refine ⟨_, List.mem_cons_of_mem _ List.mem_cons_self, ?_⟩
      rw [Rect.mem_set_unit]
      intro a
      match a with
      | ⟨0, _⟩ => exact ⟨Nat.zero_le _, by show (y 0).val < 0 + 1; omega⟩
      | ⟨1, _⟩ => exact ⟨Nat.zero_le _, by show (y 1).val < 0 + 128; omega⟩
      | ⟨2, _⟩ => exact ⟨Nat.zero_le _, by show (y 2).val < 0 + 1024; omega⟩
    · refine ⟨_, List.mem_cons_self, ?_⟩
      rw [Rect.mem_set_unit]
      intro a
      match a with
      | ⟨0, _⟩ => exact ⟨by show 1 ≤ (y 0).val; omega, by show (y 0).val < 1 + 1; omega⟩
      | ⟨1, _⟩ => exact ⟨Nat.zero_le _, by show (y 1).val < 0 + 128; omega⟩
      | ⟨2, _⟩ => exact ⟨Nat.zero_le _, by show (y 2).val < 0 + 1024; omega⟩

/-- The piece of the result at row `o`, 128 rows long. -/
theorem out_piece (g : ℕ → FVec F S128x1024 .f32) (k : ℕ) (o : ℕ) (ho : o = 128 * k) (inb : ∀ a, (![0, o, 0] : Fin 3 → ℕ) a + S1x128x1024.size a ≤ S1x1024x1024.size a)
    (x : S1x128x1024.Idx) :
    lead (g k) x = outOf g ((Rect.unit (s := S1x1024x1024) ![0, o, 0] S1x128x1024.size inb).emb x) := by
  obtain ⟨a, b, c, rfl⟩ : ∃ (a : Fin 1) (b : Fin 128) (c : Fin 1024), x = ix3 a b c := ⟨x 0, x 1, x 2, eq_ix3 x⟩
  rw [lead_apply]
  have h1 : ((Rect.unit (s := S1x1024x1024) ![0, o, 0] S1x128x1024.size inb).emb (ix3 a b c) 1).val = o + 1 * b.val := rfl
  have hb := b.isLt
  unfold outOf
  rw [show ((Rect.unit (s := S1x1024x1024) ![0, o, 0] S1x128x1024.size inb).emb (ix3 a b c) 1).val / 128 = k by rw [h1]; omega]
  congr 1
  funext i
  match i with
  | ⟨0, _⟩ => exact Fin.ext (by show b.val = (o + 1 * b.val) % 128; omega)
  | ⟨1, _⟩ => exact Fin.ext (by show c.val = 0 + 1 * c.val; omega)

theorem out_mem (y : S1x1024x1024.Idx) (o : ℕ) (inb : ∀ a, (![0, o, 0] : Fin 3 → ℕ) a + S1x128x1024.size a ≤ S1x1024x1024.size a)
    (h : o ≤ (y 1).val ∧ (y 1).val < o + 128) : y ∈ (Rect.unit (s := S1x1024x1024) ![0, o, 0] S1x128x1024.size inb).set := by
  have h0 : (y 0).val < 1 := (y 0).isLt
  have h2 : (y 2).val < 1024 := (y 2).isLt
  rw [Rect.mem_set_unit]
  intro a
  match a with
  | ⟨0, _⟩ => exact ⟨Nat.zero_le _, by show (y 0).val < 0 + 1; omega⟩
  | ⟨1, _⟩ => exact h
  | ⟨2, _⟩ => exact ⟨Nat.zero_le _, by show (y 2).val < 0 + 1024; omega⟩

theorem out_inb (k : Fin 8) : ∀ a, (![0, 128 * k.val, 0] : Fin 3 → ℕ) a + S1x128x1024.size a ≤ S1x1024x1024.size a := by
  revert k; decide
/-- Block `k` of the result as a stored piece. -/
def outPiece (g : ℕ → FVec F S128x1024 .f32) (k : Fin 8) : View.Piece (Elt F) S1x1024x1024 .f32 :=
  ⟨Rect.unit (s := S1x1024x1024) ![0, 128 * k.val, 0] S1x128x1024.size (out_inb k), lead (g k.val)⟩

/-- The eight blocks stored in any order leave the result. -/
theorem out_writes (g : ℕ → FVec F S128x1024 .f32) (o0 : FVec F S1x1024x1024 .f32) (ks : List (Fin 8)) (hk : ∀ k, k ∈ ks) :
    (Memref.whole cc0_stg5_0 : Memref sig .tc .vmem S1x1024x1024 .f32).view.writes (Elt F) o0 (ks.map (outPiece g)) = outOf g := by
  refine writes_whole_of_pieces cc0_stg5_0 o0 (outOf g) _ ?_ ?_
  · intro p hp x
    obtain ⟨k, -, rfl⟩ := List.mem_map.mp hp
    exact out_piece g k.val _ rfl (out_inb k) x
  · intro y
    have h1 : (y 1).val < 1024 := (y 1).isLt
    refine ⟨outPiece g ⟨(y 1).val / 128, by omega⟩, List.mem_map.mpr ⟨_, hk _, rfl⟩, ?_⟩
    exact out_mem y _ (out_inb ⟨(y 1).val / 128, by omega⟩) (by show 128 * ((y 1).val / 128) ≤ _ ∧ _ < 128 * ((y 1).val / 128) + 128; omega)

/-- A load of a whole buffer reads its contents. -/
theorem readAt_full (b : Ref sig .tc) (off : Fin b.ty.shape.rank → ℕ) (hoff : ∀ a, off a = 0) (inb : ∀ a, off a + b.ty.shape.size a ≤ b.ty.shape.size a)
    (f : b.ty.Contents (Elt F)) : View.readAt (Elt F) (Memref.whole b).view (Rect.unit (s := b.ty.shape) off b.ty.shape.size inb).toLoadRect f = f := by
  funext y
  show f _ = f y
  congr 1; funext a
  exact Fin.ext (by show off a + 1 * (y a).val = (y a).val; rw [hoff a]; omega)

/-- Block buffer `k` loaded. -/
def rdOb (k : Fin 8) (f : FVec F S128x1024 .bf16) : FVec F S128x1024 .bf16 := match k with
  | 0 => View.readAt (Elt F) (Memref.whole cc0_scratch10).view (Rect.unit (s := S128x1024) ![0, 0] S128x1024.size inb_S128x1024_S128x1024_0_0).toLoadRect f
  | 1 => View.readAt (Elt F) (Memref.whole cc0_scratch11).view (Rect.unit (s := S128x1024) ![0, 0] S128x1024.size inb_S128x1024_S128x1024_0_0).toLoadRect f
  | 2 => View.readAt (Elt F) (Memref.whole cc0_scratch12).view (Rect.unit (s := S128x1024) ![0, 0] S128x1024.size inb_S128x1024_S128x1024_0_0).toLoadRect f
  | 3 => View.readAt (Elt F) (Memref.whole cc0_scratch13).view (Rect.unit (s := S128x1024) ![0, 0] S128x1024.size inb_S128x1024_S128x1024_0_0).toLoadRect f
  | 4 => View.readAt (Elt F) (Memref.whole cc0_scratch14).view (Rect.unit (s := S128x1024) ![0, 0] S128x1024.size inb_S128x1024_S128x1024_0_0).toLoadRect f
  | 5 => View.readAt (Elt F) (Memref.whole cc0_scratch15).view (Rect.unit (s := S128x1024) ![0, 0] S128x1024.size inb_S128x1024_S128x1024_0_0).toLoadRect f
  | 6 => View.readAt (Elt F) (Memref.whole cc0_scratch16).view (Rect.unit (s := S128x1024) ![0, 0] S128x1024.size inb_S128x1024_S128x1024_0_0).toLoadRect f
  | 7 => View.readAt (Elt F) (Memref.whole cc0_scratch17).view (Rect.unit (s := S128x1024) ![0, 0] S128x1024.size inb_S128x1024_S128x1024_0_0).toLoadRect f
theorem rdOb_eq (k : Fin 8) (f : FVec F S128x1024 .bf16) : rdOb k f = f := by
  match k with
  | 0 => exact readAt_full cc0_scratch10 _ (by decide) _ f
  | 1 => exact readAt_full cc0_scratch11 _ (by decide) _ f
  | 2 => exact readAt_full cc0_scratch12 _ (by decide) _ f
  | 3 => exact readAt_full cc0_scratch13 _ (by decide) _ f
  | 4 => exact readAt_full cc0_scratch14 _ (by decide) _ f
  | 5 => exact readAt_full cc0_scratch15 _ (by decide) _ f
  | 6 => exact readAt_full cc0_scratch16 _ (by decide) _ f
  | 7 => exact readAt_full cc0_scratch17 _ (by decide) _ f

/-- Block `k` of the result as devices 1, 2 and 3 store it. -/
def outPieceR (ob : ℕ → FVec F S128x1024 .bf16) (k : Fin 8) : View.Piece (Elt F) S1x1024x1024 .f32 :=
  ⟨Rect.unit (s := S1x1024x1024) ![0, 128 * k.val, 0] S1x128x1024.size (out_inb k), lead (ext (rdOb k (ob k.val)))⟩
theorem out_writesR (ob : ℕ → FVec F S128x1024 .bf16) (o0 : FVec F S1x1024x1024 .f32) (ks : List (Fin 8)) (hk : ∀ k, k ∈ ks) :
    (Memref.whole cc0_stg5_0 : Memref sig .tc .vmem S1x1024x1024 .f32).view.writes (Elt F) o0 (ks.map (outPieceR ob)) = outOf fun b => ext (ob b) := by
  rw [show outPieceR ob = outPiece (fun b => ext (ob b)) from funext fun k => by unfold outPieceR outPiece; rw [rdOb_eq]]
  exact out_writes _ o0 ks hk

end Cert.KernelIdeal.Talk
end
-- ==== Proof.Blocks.lean ====
/-
  The blocks device 0 computes, in terms of the windows.
-/
module

public import proofs.«01_k».proof.Proof.Vals
public import Idealize.ShloMosaic.Lib.PointwiseCore

@[expose] public section

set_option maxRecDepth 16384

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig ℕ (Elt F) ℕ UU ℕ

/-- The band's mask for queries from `q` on and keys from `s` on. -/
def maskOf (q s : BitVec 32) : IVec S128x384 1 :=
  cmpi .sle (absi (subi (addi (broadcast S128x384 q) (iota .tc S128x384 32 [0] iota_S128x384_d0_w32))
    (addi (broadcast S128x384 s) (iota .tc S128x384 32 [1] iota_S128x384_d1_w32)))) (broadcast S128x384 128#32)
/-- First key of the band of block `b`. -/
def kst (b : Fin 8) : ℕ := 128 * (b.val - 1)
def maskB (b : Fin 8) : IVec S128x384 1 := maskOf (BitVec.ofNat 32 (128 * b.val)) (BitVec.ofNat 32 (kst b))

theorem head_slices (h : Fin 8) : S128x1024.Slices ![0, 128 * h.val] S128x128 :=
  ⟨rfl, by revert h; decide⟩

/-- Head `h` of the projected queries. -/
def qh (q : FVec F S128x1024 .bf16) (h : Fin 8) : FVec F S128x128 .bf16 :=
  extractStridedSlice S128x128 ![0, 128 * h.val] q (head_slices h)

theorem pay41_eq (m : IVec S128x384 1) (q : FVec F S128x128 .bf16) (k v : FVec F S384x128 .bf16) : k0_pay41 m q k v = k0_pay81 m q k v := by
  unfold k0_pay41 k0_pay81
  simp only [shapeCast_self]

/-! ## The context buffer -/

/-- The context block from its eight heads. -/
def ctxOf (w : Fin 8 → FVec F S128x128 .bf16) : FVec F S128x1024 .bf16 :=
  fun y => w ⟨(y 1).val / 128, by have : (y 1).val < 1024 := (y 1).isLt; omega⟩ (ix2 (y 0) ⟨(y 1).val % 128, Nat.mod_lt _ (by decide)⟩)

theorem ctx_inb (h : Fin 8) : ∀ a, (![0, 128 * h.val] : Fin 2 → ℕ) a + S128x128.size a ≤ S128x1024.size a := by
  revert h; decide
def ctxPiece (w : Fin 8 → FVec F S128x128 .bf16) (h : Fin 8) : View.Piece (Elt F) S128x1024 .bf16 :=
  ⟨Rect.unit (s := S128x1024) ![0, 128 * h.val] S128x128.size (ctx_inb h), w h⟩

/-- The eight heads in the order the kernel stores them, newest first. -/
def hs : List (Fin 8) := [7, 6, 5, 4, 3, 2, 1, 0]

theorem ctx_writes (w : Fin 8 → FVec F S128x128 .bf16) (c0 : FVec F S128x1024 .bf16) :
    (Memref.whole cc0_scratch2 : Memref sig .tc .vmem S128x1024 .bf16).view.writes (Elt F) c0 (hs.map (ctxPiece w)) = ctxOf w := by
  refine writes_whole_of_pieces cc0_scratch2 c0 (ctxOf w) _ ?_ ?_
  · intro p hp x
    obtain ⟨k, -, rfl⟩ := List.mem_map.mp hp
    have hx : (x 1).val < 128 := (x 1).isLt
    have h1 : ((ctxPiece w k).1.emb x 1).val = 128 * k.val + 1 * (x 1).val := rfl
    show w k x = w _ _
    congr 1
    · exact Fin.ext (by show k.val = (128 * k.val + 1 * (x 1).val) / 128; omega)
    · funext i
      match i with
      | ⟨0, _⟩ => exact Fin.ext (by show (x 0).val = 0 + 1 * (x 0).val; omega)
      | ⟨1, _⟩ => exact Fin.ext (by show (x 1).val = (128 * k.val + 1 * (x 1).val) % 128; omega)
  · intro y
    have h0 : (y 0).val < 128 := (y 0).isLt
    have h1 : (y 1).val < 1024 := (y 1).isLt
    refine ⟨ctxPiece w ⟨(y 1).val / 128, by omega⟩, List.mem_map.mpr ⟨_, (by decide : ∀ k : Fin 8, k ∈ hs) _, rfl⟩, ?_⟩
    show y ∈ (Rect.unit (s := S128x1024) ![0, 128 * ((y 1).val / 128)] S128x128.size (ctx_inb ⟨(y 1).val / 128, by omega⟩)).set
    rw [Rect.mem_set_unit]
    intro a
    match a with
    | ⟨0, _⟩ => exact ⟨Nat.zero_le _, by show (y 0).val < 0 + 128; omega⟩
    | ⟨1, _⟩ => exact ⟨by show 128 * ((y 1).val / 128) ≤ (y 1).val; omega, by show (y 1).val < 128 * ((y 1).val / 128) + 128; omega⟩

/-- One store that covers a buffer leaves its value. -/
theorem full_writes (b : Ref sig .tc) (off : Fin b.ty.shape.rank → ℕ) (hoff : ∀ a, off a = 0) (inb : ∀ a, off a + b.ty.shape.size a ≤ b.ty.shape.size a)
    (f v : b.ty.Contents (Elt F)) : (Memref.whole b).view.writes (Elt F) f [⟨Rect.unit (s := b.ty.shape) off b.ty.shape.size inb, v⟩] = v := by
  refine writes_whole_of_pieces b f v _ ?_ ?_
  · intro p hp x
    obtain rfl := List.mem_singleton.mp hp
    show v x = v _
    congr 1; funext a
    exact Fin.ext (by show (x a).val = off a + 1 * (x a).val; rw [hoff a]; omega)
  · intro y
    refine ⟨_, List.mem_singleton_self _, ?_⟩
    rw [Rect.mem_set_unit]
    intro a
    exact ⟨by rw [hoff a]; exact Nat.zero_le _, by rw [hoff a]; have := (y a).isLt; omega⟩

/-! ## The bands of keys and values -/

/-- Row `r` of a device's rows continued by the rows lent from device 1. -/
def kext (p : Fin 2) (kk : FVec F S1024x1024 .bf16) (sl : FVec F S2x128x1024 .bf16) (r : ℕ) (c : Fin 1024) : Elt F .bf16 :=
  if hr : r < 1024 then kk (ix2 ⟨r, hr⟩ c) else sl (ix3 p ⟨(r - 1024) % 128, Nat.mod_lt _ (by decide)⟩ c)

/-- The band of block `b`, head `h`. -/
def kband (p : Fin 2) (b h : Fin 8) (kk : FVec F S1024x1024 .bf16) (sl : FVec F S2x128x1024 .bf16) : FVec F S384x128 .bf16 :=
  fun y => kext p kk sl (kst b + (y 0).val) ⟨128 * h.val + (y 1).val, by have := h.isLt; have : (y 1).val < 128 := (y 1).isLt; omega⟩

theorem k_inb (b : Fin 7) (h : Fin 8) : ∀ a, (![kst b.castSucc, 128 * h.val] : Fin 2 → ℕ) a + S384x128.size a ≤ S1024x1024.size a := by
  revert b h; decide
def rdK (b : Fin 7) (h : Fin 8) (kk : FVec F S1024x1024 .bf16) : FVec F S384x128 .bf16 :=
  View.readAt (Elt F) (Memref.whole cc0_stg2_0).view (Rect.unit (s := S1024x1024) ![kst b.castSucc, 128 * h.val] S384x128.size (k_inb b h)).toLoadRect kk
def rdV (b : Fin 7) (h : Fin 8) (vv : FVec F S1024x1024 .bf16) : FVec F S384x128 .bf16 :=
  View.readAt (Elt F) (Memref.whole cc0_stg3_0).view (Rect.unit (s := S1024x1024) ![kst b.castSucc, 128 * h.val] S384x128.size (k_inb b h)).toLoadRect vv

theorem kst_le (b : Fin 7) : kst b.castSucc + 384 ≤ 1024 := by revert b; decide

theorem rdK_eq (b : Fin 7) (h : Fin 8) (p : Fin 2) (kk : FVec F S1024x1024 .bf16) (sl : FVec F S2x128x1024 .bf16) : rdK b h kk = kband p b.castSucc h kk sl := by
  funext y
  have h0 : (y 0).val < 384 := (y 0).isLt
  unfold kband kext
  rw [dif_pos (by have := kst_le b; omega)]
  show kk _ = kk _
  congr 1; funext i
  match i with
  | ⟨0, _⟩ => exact Fin.ext (by show kst b.castSucc + 1 * (y 0).val = _ + (y 0).val; omega)
  | ⟨1, _⟩ => exact Fin.ext (by show 128 * h.val + 1 * (y 1).val = _ + (y 1).val; omega)
theorem rdV_eq (b : Fin 7) (h : Fin 8) (p : Fin 2) (vv : FVec F S1024x1024 .bf16) (sl : FVec F S2x128x1024 .bf16) : rdV b h vv = kband p b.castSucc h vv sl := rdK_eq b h p vv sl

theorem pay137_apply (x : FVec F S1x128x1024 .bf16) (b : Fin 128) (c : Fin 1024) : k0_pay137 (k0_pay136 x) (ix2 b c) = x (ix3 0 b c) := by
  pointwise [k0_pay137, k0_pay136]
theorem pay138_apply (x : FVec F S1x128x1024 .bf16) (b : Fin 128) (c : Fin 1024) : k0_pay138 x (ix2 b c) = x (ix3 0 b c) := by
  pointwise [k0_pay138]
theorem pay134_eq (x : FVec F S256x1024 .bf16) : k0_pay134 x = x := by
  unfold k0_pay134; simp only [shapeCast_self]
theorem pay135_eq (x : FVec F S256x1024 .bf16) : k0_pay135 x = x := by
  unfold k0_pay135; simp only [shapeCast_self]

/-- The last block's band: rows 768 on, then the lent rows. -/
def kb7 (p : Fin 2) (kk : FVec F S1024x1024 .bf16) (sl : FVec F S2x128x1024 .bf16) : FVec F S384x1024 .bf16 :=
  fun y => kext p kk sl (768 + (y 0).val) (y 1)

/-- What the kernel stores into the key buffer of the last block. -/
def kbW (k0 : FVec F S384x1024 .bf16) (kk : FVec F S1024x1024 .bf16) (sl : FVec F S2x128x1024 .bf16) : FVec F S384x1024 .bf16 :=
  (Memref.whole cc0_scratch0 : Memref sig .tc .vmem S384x1024 .bf16).view.writes (Elt F) k0
    [⟨Rect.unit (s := S384x1024) ![256, 0] S128x1024.size inb_S384x1024_S128x1024_256_0,
      k0_pay137 (F := F) (k0_pay136 (View.readAt (Elt F) (Memref.whole cc0_scratch3).view (Rect.unit (s := S2x128x1024) ![0, 0, 0] S1x128x1024.size inb_S2x128x1024_S1x128x1024_0_0_0).toLoadRect sl))⟩,
     ⟨Rect.unit (s := S384x1024) ![0, 0] S256x1024.size inb_S384x1024_S256x1024_0_0,
      k0_pay134 (F := F) (View.readAt (Elt F) (Memref.whole cc0_stg2_0).view (Rect.unit (s := S1024x1024) ![768, 0] S256x1024.size inb_S1024x1024_S256x1024_768_0).toLoadRect kk)⟩]
def vbW (v0 : FVec F S384x1024 .bf16) (vv : FVec F S1024x1024 .bf16) (sl : FVec F S2x128x1024 .bf16) : FVec F S384x1024 .bf16 :=
  (Memref.whole cc0_scratch1 : Memref sig .tc .vmem S384x1024 .bf16).view.writes (Elt F) v0
    [⟨Rect.unit (s := S384x1024) ![256, 0] S128x1024.size inb_S384x1024_S128x1024_256_0,
      k0_pay138 (F := F) (View.readAt (Elt F) (Memref.whole cc0_scratch3).view (Rect.unit (s := S2x128x1024) ![1, 0, 0] S1x128x1024.size inb_S2x128x1024_S1x128x1024_1_0_0).toLoadRect sl)⟩,
     ⟨Rect.unit (s := S384x1024) ![0, 0] S256x1024.size inb_S384x1024_S256x1024_0_0,
      k0_pay135 (F := F) (View.readAt (Elt F) (Memref.whole cc0_stg3_0).view (Rect.unit (s := S1024x1024) ![768, 0] S256x1024.size inb_S1024x1024_S256x1024_768_0).toLoadRect vv)⟩]

theorem rows_cover (y : S384x1024.Idx) :
    y ∈ (Rect.unit (s := S384x1024) ![256, 0] S128x1024.size inb_S384x1024_S128x1024_256_0).set
      ∨ y ∈ (Rect.unit (s := S384x1024) ![0, 0] S256x1024.size inb_S384x1024_S256x1024_0_0).set := by
  have h0 : (y 0).val < 384 := (y 0).isLt
  have h1 : (y 1).val < 1024 := (y 1).isLt
  by_cases h : 256 ≤ (y 0).val
  · left
    rw [Rect.mem_set_unit]
    intro a
    match a with
    | ⟨0, _⟩ => exact ⟨h, by show (y 0).val < 256 + 128; omega⟩
    | ⟨1, _⟩ => exact ⟨Nat.zero_le _, by show (y 1).val < 0 + 1024; omega⟩
  · right
    rw [Rect.mem_set_unit]
    intro a
    match a with
    | ⟨0, _⟩ => exact ⟨Nat.zero_le _, by show (y 0).val < 0 + 256; omega⟩
    | ⟨1, _⟩ => exact ⟨Nat.zero_le _, by show (y 1).val < 0 + 1024; omega⟩

theorem low_row (p : Fin 2) (kk : FVec F S1024x1024 .bf16) (sl : FVec F S2x128x1024 .bf16) (x : S256x1024.Idx) :
    kk ((Rect.unit (s := S1024x1024) ![768, 0] S256x1024.size inb_S1024x1024_S256x1024_768_0).emb x)
      = kb7 p kk sl ((Rect.unit (s := S384x1024) ![0, 0] S256x1024.size inb_S384x1024_S256x1024_0_0).emb x) := by
  have h0 : (x 0).val < 256 := (x 0).isLt
  unfold kb7 kext
  rw [dif_pos (by show 768 + (0 + 1 * (x 0).val) < 1024; omega)]
  congr 1; funext i
  match i with
  | ⟨0, _⟩ => exact Fin.ext (by show 768 + 1 * (x 0).val = 768 + (0 + 1 * (x 0).val); omega)
  | ⟨1, _⟩ => exact Fin.ext rfl

theorem high_row (p : Fin 2) (kk : FVec F S1024x1024 .bf16) (sl : FVec F S2x128x1024 .bf16) (b : Fin 128) (c : Fin 1024) :
    sl (ix3 p b c) = kb7 p kk sl ((Rect.unit (s := S384x1024) ![256, 0] S128x1024.size inb_S384x1024_S128x1024_256_0).emb (ix2 b c)) := by
  have h0 : b.val < 128 := b.isLt
  unfold kb7 kext
  rw [dif_neg (by show ¬ 768 + (256 + 1 * b.val) < 1024; omega)]
  congr 1; funext i
  match i with
  | ⟨0, _⟩ => rfl
  | ⟨1, _⟩ => exact Fin.ext (by show b.val = (768 + (256 + 1 * b.val) - 1024) % 128; omega)
  | ⟨2, _⟩ => exact Fin.ext (by show c.val = 0 + 1 * c.val; omega)

theorem kbW_eq (k0 : FVec F S384x1024 .bf16) (kk : FVec F S1024x1024 .bf16) (sl : FVec F S2x128x1024 .bf16) : kbW k0 kk sl = kb7 0 kk sl := by
  refine writes_whole_of_pieces cc0_scratch0 k0 (kb7 0 kk sl) _ ?_ ?_
  · intro p hp x
    simp only [List.mem_cons, List.not_mem_nil, or_false] at hp
    rcases hp with rfl | rfl
    · obtain ⟨b, c, rfl⟩ : ∃ (b : Fin 128) (c : Fin 1024), x = ix2 b c := ⟨x 0, x 1, eq_ix2 x⟩
      dsimp only; rw [pay137_apply]
      refine Eq.trans ?_ (high_row 0 kk sl b c)
      show sl _ = sl _
      congr 1; funext i
      match i with
      | ⟨0, _⟩ => exact Fin.ext rfl
      | ⟨1, _⟩ => exact Fin.ext (by show 0 + 1 * b.val = b.val; omega)
      | ⟨2, _⟩ => exact Fin.ext (by show 0 + 1 * c.val = c.val; omega)
    · dsimp only; rw [pay134_eq]; exact low_row 0 kk sl x
  · intro y
    rcases rows_cover y with h | h
    · exact ⟨_, List.mem_cons_self, h⟩
    · exact ⟨_, List.mem_cons_of_mem _ List.mem_cons_self, h⟩
theorem vbW_eq (v0 : FVec F S384x1024 .bf16) (vv : FVec F S1024x1024 .bf16) (sl : FVec F S2x128x1024 .bf16) : vbW v0 vv sl = kb7 1 vv sl := by
  refine writes_whole_of_pieces cc0_scratch1 v0 (kb7 1 vv sl) _ ?_ ?_
  · intro p hp x
    simp only [List.mem_cons, List.not_mem_nil, or_false] at hp
    rcases hp with rfl | rfl
    · obtain ⟨b, c, rfl⟩ : ∃ (b : Fin 128) (c : Fin 1024), x = ix2 b c := ⟨x 0, x 1, eq_ix2 x⟩
      dsimp only; rw [pay138_apply]
      refine Eq.trans ?_ (high_row 1 vv sl b c)
      show sl _ = sl _
      congr 1; funext i
      match i with
      | ⟨0, _⟩ => exact Fin.ext rfl
      | ⟨1, _⟩ => exact Fin.ext (by show 0 + 1 * b.val = b.val; omega)
      | ⟨2, _⟩ => exact Fin.ext (by show 0 + 1 * c.val = c.val; omega)
    · dsimp only; rw [pay135_eq]; exact low_row 1 vv sl x
  · intro y
    rcases rows_cover y with h | h
    · exact ⟨_, List.mem_cons_self, h⟩
    · exact ⟨_, List.mem_cons_of_mem _ List.mem_cons_self, h⟩

theorem col_inb (h : Fin 8) : ∀ a, (![0, 128 * h.val] : Fin 2 → ℕ) a + S384x128.size a ≤ S384x1024.size a := by
  revert h; decide
def rdK7 (h : Fin 8) (f : FVec F S384x1024 .bf16) : FVec F S384x128 .bf16 :=
  View.readAt (Elt F) (Memref.whole cc0_scratch0).view (Rect.unit (s := S384x1024) ![0, 128 * h.val] S384x128.size (col_inb h)).toLoadRect f
def rdV7 (h : Fin 8) (f : FVec F S384x1024 .bf16) : FVec F S384x128 .bf16 :=
  View.readAt (Elt F) (Memref.whole cc0_scratch1).view (Rect.unit (s := S384x1024) ![0, 128 * h.val] S384x128.size (col_inb h)).toLoadRect f
theorem rdK7_eq (p : Fin 2) (h : Fin 8) (kk : FVec F S1024x1024 .bf16) (sl : FVec F S2x128x1024 .bf16) : rdK7 h (kb7 p kk sl) = kband p 7 h kk sl := by
  funext y
  show kext p kk sl (768 + (0 + 1 * (y 0).val)) _ = kext p kk sl (768 + (y 0).val) _
  congr 1
  · omega
  · exact Fin.ext (by show 128 * h.val + 1 * (y 1).val = _ + (y 1).val; omega)
theorem rdV7_eq (p : Fin 2) (h : Fin 8) (kk : FVec F S1024x1024 .bf16) (sl : FVec F S2x128x1024 .bf16) : rdV7 h (kb7 p kk sl) = kband p 7 h kk sl := rdK7_eq p h kk sl

/-! ## The blocks -/

/-- The query rows of block `b`. -/
def xrows (b : Fin 8) (x : FVec F S1024x1024 .f32) : FVec F S128x1024 .f32 :=
  fun y => x (ix2 ⟨128 * b.val + (y 0).val, by have := b.isLt; have : (y 0).val < 128 := (y 0).isLt; omega⟩ (y 1))
theorem x_inb (b : Fin 8) : ∀ a, (![128 * b.val, 0] : Fin 2 → ℕ) a + S128x1024.size a ≤ S1024x1024.size a := by
  revert b; decide
def rdX (b : Fin 8) (x : FVec F S1024x1024 .f32) : FVec F S128x1024 .f32 :=
  View.readAt (Elt F) (Memref.whole cc0_stg0_0).view (Rect.unit (s := S1024x1024) ![128 * b.val, 0] S128x1024.size (x_inb b)).toLoadRect x
theorem rdX_eq (b : Fin 8) (x : FVec F S1024x1024 .f32) : rdX b x = xrows b x := by
  funext y
  show x _ = x _
  congr 1; funext i
  match i with
  | ⟨0, _⟩ => exact Fin.ext (by show 128 * b.val + 1 * (y 0).val = _ + (y 0).val; omega)
  | ⟨1, _⟩ => exact Fin.ext (by show 0 + 1 * (y 1).val = (y 1).val; omega)
def rdWq (w : FVec F S1024x1024 .f32) : FVec F S1024x1024 .f32 :=
  View.readAt (Elt F) (Memref.whole cc0_stg1_0).view (Rect.unit (s := S1024x1024) ![0, 0] S1024x1024.size inb_S1024x1024_S1024x1024_0_0).toLoadRect w
def rdWo (w : FVec F S1024x1024 .f32) : FVec F S1024x1024 .f32 :=
  View.readAt (Elt F) (Memref.whole cc0_stg4_0).view (Rect.unit (s := S1024x1024) ![0, 0] S1024x1024.size inb_S1024x1024_S1024x1024_0_0).toLoadRect w
theorem rdWq_eq (w : FVec F S1024x1024 .f32) : rdWq w = w := readAt_full cc0_stg1_0 _ (by decide) _ w
theorem rdWo_eq (w : FVec F S1024x1024 .f32) : rdWo w = w := readAt_full cc0_stg4_0 _ (by decide) _ w
def rdCtx (f : FVec F S128x1024 .bf16) : FVec F S128x1024 .bf16 :=
  View.readAt (Elt F) (Memref.whole cc0_scratch2).view (Rect.unit (s := S128x1024) ![0, 0] S128x1024.size inb_S128x1024_S128x1024_0_0).toLoadRect f
theorem rdCtx_eq (f : FVec F S128x1024 .bf16) : rdCtx f = f := readAt_full cc0_scratch2 _ (by decide) _ f

/-- Block `b` of the result: every head against its band, joined, and projected by `wo`. -/
def blk (x wq : FVec F S1024x1024 .f32) (kk vv : FVec F S1024x1024 .bf16) (wo : FVec F S1024x1024 .f32) (sl : FVec F S2x128x1024 .bf16) (b : Fin 8) : FVec F S128x1024 .f32 :=
  k0_pay17 (k0_pay2 wo) (ctxOf fun h => k0_pay81 (maskB b) (qh (k0_pay20 (k0_pay1 wq) (xrows b x)) h) (kband 0 b h kk sl) (kband 1 b h vv sl))
/-- The block in bf16, as it is sent. -/
def obOf (x wq : FVec F S1024x1024 .f32) (kk vv : FVec F S1024x1024 .bf16) (wo : FVec F S1024x1024 .f32) (sl : FVec F S2x128x1024 .bf16) (b : Fin 8) : FVec F S128x1024 .bf16 :=
  truncf .bf16 (blk x wq kk vv wo sl b) bitsLt_bf16_f32

/-- The heads of block `b < 7` as the kernel computes them. -/
def headsR (b : Fin 7) (x wq : FVec F S1024x1024 .f32) (kk vv : FVec F S1024x1024 .bf16) (h : Fin 8) : FVec F S128x128 .bf16 :=
  k0_pay41 (maskB b.castSucc) (qh (k0_pay20 (k0_pay1 (rdWq wq)) (rdX b.castSucc x)) h) (rdK b h kk) (rdV b h vv)
/-- The heads of the last block as the kernel computes them. -/
def headsR7 (x wq : FVec F S1024x1024 .f32) (kb vb : FVec F S384x1024 .bf16) (h : Fin 8) : FVec F S128x128 .bf16 :=
  k0_pay81 (maskB 7) (qh (k0_pay20 (k0_pay1 (rdWq wq)) (rdX 7 x)) h) (rdK7 h kb) (rdV7 h vb)

/-- The context buffer after the eight stores, loaded whole. -/
def ctxR (w : Fin 8 → FVec F S128x128 .bf16) : FVec F S128x1024 .bf16 :=
  (Memref.whole cc0_scratch2).view.readCov (Val := Elt F) (hs.map (ctxPiece w)) (Rect.unit (s := S128x1024) ![0, 0] S128x1024.size inb_S128x1024_S128x1024_0_0).toLoadRect
theorem ctxR_eq (w : Fin 8 → FVec F S128x128 .bf16) : ctxR w = ctxOf w :=
  (congrArg rdCtx (ctx_writes w (View.junk (Val := Elt F) (Memref.whole cc0_scratch2).view))).trans (rdCtx_eq _)

theorem pay19_eq (wo : FVec F S1024x1024 .bf16) (c : FVec F S128x1024 .bf16) : k0_pay19 wo c = truncf .bf16 (k0_pay17 wo c) bitsLt_bf16_f32 := by
  unfold k0_pay19; simp only [shapeCast_self]

theorem blk_eq (b : Fin 7) (x wq : FVec F S1024x1024 .f32) (kk vv : FVec F S1024x1024 .bf16) (wo : FVec F S1024x1024 .f32) (sl : FVec F S2x128x1024 .bf16) :
    k0_pay17 (k0_pay2 (rdWo wo)) (ctxR (headsR b x wq kk vv)) = blk x wq kk vv wo sl b.castSucc := by
  rw [ctxR_eq, rdWo_eq]
  unfold blk headsR
  simp only [rdWq_eq, rdX_eq, pay41_eq, rdK_eq b _ 0 kk sl, rdV_eq b _ 1 vv sl]
theorem blk_eq7 (k0 v0 : FVec F S384x1024 .bf16) (x wq : FVec F S1024x1024 .f32) (kk vv : FVec F S1024x1024 .bf16) (wo : FVec F S1024x1024 .f32) (sl : FVec F S2x128x1024 .bf16) :
    k0_pay17 (k0_pay2 (rdWo wo)) (ctxR (headsR7 x wq (kbW k0 kk sl) (vbW v0 vv sl))) = blk x wq kk vv wo sl 7 := by
  rw [ctxR_eq, rdWo_eq, kbW_eq, vbW_eq]
  unfold blk headsR7
  simp only [rdWq_eq, rdX_eq, rdK7_eq, rdV7_eq]

theorem ob_eq (b : Fin 7) (x wq : FVec F S1024x1024 .f32) (kk vv : FVec F S1024x1024 .bf16) (wo : FVec F S1024x1024 .f32) (sl : FVec F S2x128x1024 .bf16) :
    k0_pay19 (k0_pay2 (rdWo wo)) (ctxR (headsR b x wq kk vv)) = obOf x wq kk vv wo sl b.castSucc := by
  rw [pay19_eq, blk_eq b x wq kk vv wo sl]; rfl
theorem ob_eq7 (k0 v0 : FVec F S384x1024 .bf16) (x wq : FVec F S1024x1024 .f32) (kk vv : FVec F S1024x1024 .bf16) (wo : FVec F S1024x1024 .f32) (sl : FVec F S2x128x1024 .bf16) :
    k0_pay19 (k0_pay2 (rdWo wo)) (ctxR (headsR7 x wq (kbW k0 kk sl) (vbW v0 vv sl))) = obOf x wq kk vv wo sl 7 := by
  rw [pay19_eq, blk_eq7]; rfl

/-- The stored pieces of the result: block `b < 7`, and the last. -/
theorem lead_eq (b : Fin 7) (x wq : FVec F S1024x1024 .f32) (kk vv : FVec F S1024x1024 .bf16) (wo : FVec F S1024x1024 .f32) (sl : FVec F S2x128x1024 .bf16) :
    k0_pay18 (k0_pay2 (rdWo wo)) (ctxR (headsR b x wq kk vv)) = lead (blk x wq kk vv wo sl b.castSucc) := by
  unfold k0_pay18; rw [blk_eq b x wq kk vv wo sl]; rfl
theorem lead_eq7 (k0 v0 : FVec F S384x1024 .bf16) (x wq : FVec F S1024x1024 .f32) (kk vv : FVec F S1024x1024 .bf16) (wo : FVec F S1024x1024 .f32) (sl : FVec F S2x128x1024 .bf16) :
    k0_pay18 (k0_pay2 (rdWo wo)) (ctxR (headsR7 x wq (kbW k0 kk sl) (vbW v0 vv sl))) = lead (blk x wq kk vv wo sl 7) := by
  unfold k0_pay18; rw [blk_eq7]; rfl

/-- Contents of a buffer forgotten. -/
theorem pt_any (c : Dev nD) (b : Ref sig .tc) (q : PosShare TreeShare) (f : b.ty.Contents (Elt F)) :
    (((Memref.whole b).view.loc (c : Thread nD τ) ↦{q} f) : sProp 𝕄) ⊢ iprop(∃ g : b.ty.Contents (Elt F), (Memref.whole b).view.loc (c : Thread nD τ) ↦{q} g) := by
  iintro H; iexists f; iexact H

end Cert.KernelIdeal.Talk
end
-- ==== Proof.Run0.lean ====
/-
  Device 0 runs the kernel.
-/
module

public import proofs.«01_k».proof.Proof.Blocks

@[expose] public section

set_option maxRecDepth 16384

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig ℕ (Elt F) ℕ UU ℕ

variable (D : Vals F)

attribute [local irreducible] k0_dev3 k0_dev4 k0_dev5 k0_dev6 k0_dev7 k0_dev8 k0_dev9 k0_dev10 k0_dev11 k0_dev12 k0_dev13 k0_dev14 k0_dev15 k0_dev16 k0_dev17 k0_dev18 k0_dev19 k0_dev20 k0_dev21 k0_dev22 k0_dev23 k0_dev24 k0_dev25 k0_dev26 k0_dev27

set_option maxHeartbeats 2000000 in
theorem run0 (K : GSem nD τ sig → ℕ) (W : Waits sig ℕ) (Kt : PUnit → sProp 𝕄) (x wq : FVec F S1024x1024 .f32) (kk vv : FVec F S1024x1024 .bf16) (wo : FVec F S1024x1024 .f32)
    (o0 : FVec F S1x1024x1024 .f32) (hob : ∀ b : Fin 8, D.ob b.val = obOf x wq kk vv wo D.sl b) :
    iprop(cellInv ER (Rd D) (K (barCell 0)) (barCell 0)
        ∗ cellInv ER (Rd D) (K (dcell 0 7)) (dcell 0 7)
        ∗ cellInv ER (Rd D) (K (dcell 0 8)) (dcell 0 8)
        ∗ cellInv ER (Rd D) (K (dcell 0 10)) (dcell 0 10)
        ∗ cellInv ER (Rd D) (K (dcell 0 12)) (dcell 0 12)
        ∗ cellInv ER (Rd D) (K (dcell 0 13)) (dcell 0 13)
        ∗ cellInv ER (Rd D) (K (dcell 0 14)) (dcell 0 14)
        ∗ cellInv ER (Rd D) (K (dcell 0 15)) (dcell 0 15)
        ∗ cellInv ER (Rd D) (K (dcell 0 16)) (dcell 0 16)
        ∗ cellInv ER (Rd D) (K (dcell 0 18)) (dcell 0 18)
        ∗ cellInv ER (Rd D) (K (dcell 0 20)) (dcell 0 20)
        ∗ cellInv ER (Rd D) (K (dcell 0 21)) (dcell 0 21)
        ∗ cellInv ER (Rd D) (K (dcell 0 22)) (dcell 0 22)
        ∗ cellInv ER (Rd D) (K (dcell 0 23)) (dcell 0 23)
        ∗ cellInv ER (Rd D) (K (barCell 1)) (barCell 1)
        ∗ cellInv ER (Rd D) (K (barCell 3)) (barCell 3)
        ∗ cellInv ER (Rd D) (K (dcell 1 24)) (dcell 1 24)
        ∗ cellInv ER (Rd D) (K (dcell 3 28)) (dcell 3 28)
        ∗ cellInv ER (Rd D) (K (dcell 1 25)) (dcell 1 25)
        ∗ cellInv ER (Rd D) (K (dcell 3 29)) (dcell 3 29)
        ∗ cellInv ER (Rd D) (K (dcell 1 26)) (dcell 1 26)
        ∗ cellInv ER (Rd D) (K (dcell 3 26)) (dcell 3 26)
        ∗ cellInv ER (Rd D) (K (dcell 3 30)) (dcell 3 30)
        ∗ cellInv ER (Rd D) (K (dcell 1 30)) (dcell 1 30)
        ∗ cellInv ER (Rd D) (K (dcell 1 27)) (dcell 1 27)
        ∗ cellInv ER (Rd D) (K (dcell 3 27)) (dcell 3 27)
        ∗ cellInv ER (Rd D) (K (dcell 3 31)) (dcell 3 31)
        ∗ cellInv ER (Rd D) (K (dcell 1 31)) (dcell 1 31)
        ∗ reached ER (barCell 1) 0
        ∗ reached ER (barCell 3) 0
        ∗ reached ER (dcell 0 7) 0
        ∗ reached ER (dcell 0 8) 0
        ∗ reached ER (dcell 0 10) 0
        ∗ reached ER (dcell 0 12) 0
        ∗ reached ER (dcell 0 13) 0
        ∗ reached ER (dcell 0 14) 0
        ∗ reached ER (dcell 0 15) 0
        ∗ reached ER (dcell 0 16) 0
        ∗ reached ER (dcell 0 18) 0
        ∗ reached ER (dcell 0 20) 0
        ∗ reached ER (dcell 0 21) 0
        ∗ reached ER (dcell 0 22) 0
        ∗ reached ER (dcell 0 23) 0
        ∗ levAts L lv
        ∗ atPos ER (barCell 0) 0 ∅ 0
        ∗ atPos ER (dcell 0 7) 0 ∅ 0
        ∗ atPos ER (dcell 0 8) 0 ∅ 0
        ∗ atPos ER (dcell 0 10) 0 ∅ 0
        ∗ atPos ER (dcell 0 12) 0 ∅ 0
        ∗ atPos ER (dcell 0 13) 0 ∅ 0
        ∗ atPos ER (dcell 0 14) 0 ∅ 0
        ∗ atPos ER (dcell 0 15) 0 ∅ 0
        ∗ atPos ER (dcell 0 16) 0 ∅ 0
        ∗ atPos ER (dcell 0 18) 0 ∅ 0
        ∗ atPos ER (dcell 0 20) 0 ∅ 0
        ∗ atPos ER (dcell 0 21) 0 ∅ 0
        ∗ atPos ER (dcell 0 22) 0 ∅ 0
        ∗ atPos ER (dcell 0 23) 0 ∅ 0
        ∗ dutyTok ER (barCell 1) 0 (0 : Dev nD)
        ∗ dutyTok ER (barCell 3) 0 (0 : Dev nD)
        ∗ dutyTok ER (dcell 1 24) 0 (0 : Dev nD)
        ∗ dutyTok ER (dcell 3 28) 0 (0 : Dev nD)
        ∗ dutyTok ER (dcell 1 25) 0 (0 : Dev nD)
        ∗ dutyTok ER (dcell 3 29) 0 (0 : Dev nD)
        ∗ dutyTok ER (dcell 1 26) 0 (0 : Dev nD)
        ∗ dutyTok ER (dcell 3 26) 0 (0 : Dev nD)
        ∗ dutyTok ER (dcell 3 30) 0 (0 : Dev nD)
        ∗ dutyTok ER (dcell 1 30) 0 (0 : Dev nD)
        ∗ dutyTok ER (dcell 1 27) 0 (0 : Dev nD)
        ∗ dutyTok ER (dcell 3 27) 0 (0 : Dev nD)
        ∗ dutyTok ER (dcell 3 31) 0 (0 : Dev nD)
        ∗ dutyTok ER (dcell 1 31) 0 (0 : Dev nD)
        ∗ dutyTok ER (dcell 0 8) 0 (0 : Dev nD)
        ∗ dutyTok ER (dcell 0 10) 0 (0 : Dev nD)
        ∗ dutyTok ER (dcell 0 12) 0 (0 : Dev nD)
        ∗ dutyTok ER (dcell 0 13) 0 (0 : Dev nD)
        ∗ dutyTok ER (dcell 0 14) 0 (0 : Dev nD)
        ∗ dutyTok ER (dcell 0 15) 0 (0 : Dev nD)
        ∗ dutyTok ER (dcell 0 16) 0 (0 : Dev nD)
        ∗ dutyTok ER (dcell 0 18) 0 (0 : Dev nD)
        ∗ dutyTok ER (dcell 0 20) 0 (0 : Dev nD)
        ∗ dutyTok ER (dcell 0 21) 0 (0 : Dev nD)
        ∗ dutyTok ER (dcell 0 22) 0 (0 : Dev nD)
        ∗ dutyTok ER (dcell 0 23) 0 (0 : Dev nD)
        ∗ cred (tallyAt (barCell 0) 0 2)
        ∗ cred (tallyAt (dcell 0 7) 0 NS)
        ∗ owes ((0 : Dev nD) : Thread nD τ) (tallyAt (barCell 1) 0 1 + tallyAt (barCell 3) 0 1 + tallyAt (dcell 1 24) 0 NB + tallyAt (dcell 3 28) 0 NB + tallyAt (dcell 1 25) 0 NB + tallyAt (dcell 3 29) 0 NB + tallyAt (dcell 1 26) 0 NB + tallyAt (dcell 3 26) 0 NB + tallyAt (dcell 3 30) 0 NB + tallyAt (dcell 1 30) 0 NB + tallyAt (dcell 1 27) 0 NB + tallyAt (dcell 3 27) 0 NB + tallyAt (dcell 3 31) 0 NB + tallyAt (dcell 1 31) 0 NB) W
        ∗ pt 0 cc0_stg0_0 fullShare x
        ∗ pt 0 cc0_stg1_0 fullShare wq
        ∗ pt 0 cc0_stg2_0 fullShare kk
        ∗ pt 0 cc0_stg3_0 fullShare vv
        ∗ pt 0 cc0_stg4_0 fullShare wo
        ∗ pt 0 cc0_stg5_0 fullShare o0
        ∗ ptAny 0 cc0_scratch0
        ∗ ptAny 0 cc0_scratch1
        ∗ ptAny 0 cc0_scratch2
        ∗ ptAny 0 cc0_scratch3
        ∗ ptAny 0 cc0_scratch10
        ∗ ptAny 0 cc0_scratch11
        ∗ ptAny 0 cc0_scratch12
        ∗ ptAny 0 cc0_scratch13
        ∗ ptAny 0 cc0_scratch14
        ∗ ptAny 0 cc0_scratch15
        ∗ ptAny 0 cc0_scratch16
        ∗ ptAny 0 cc0_scratch17
        ∗ (((∃ W, owes ((0 : Dev nD) : Thread nD τ) (0 : CellTallies nD τ sig ℕ) W)
        ∗ pt 0 cc0_stg0_0 fullShare x
        ∗ pt 0 cc0_stg1_0 fullShare wq
        ∗ pt 0 cc0_stg2_0 fullShare kk
        ∗ pt 0 cc0_stg3_0 fullShare vv
        ∗ pt 0 cc0_stg4_0 fullShare wo
        ∗ pt 0 cc0_stg5_0 fullShare (outOf fun n => blk x wq kk vv wo D.sl (Fin.ofNat 8 n))
        ∗ ptAny 0 cc0_scratch0
        ∗ ptAny 0 cc0_scratch1
        ∗ ptAny 0 cc0_scratch2
        ∗ ptAny 0 cc0_scratch3
        ∗ ptAny 0 cc0_scratch10
        ∗ ptAny 0 cc0_scratch11
        ∗ ptAny 0 cc0_scratch12
        ∗ ptAny 0 cc0_scratch13
        ∗ ptAny 0 cc0_scratch14
        ∗ ptAny 0 cc0_scratch15
        ∗ ptAny 0 cc0_scratch16
        ∗ ptAny 0 cc0_scratch17
        ∗ atPos ER (barCell 0) 1 ∅ 0
        ∗ atPos ER (dcell 0 7) 1 ∅ 0
        ∗ atPos ER (dcell 0 8) 1 ∅ 0
        ∗ atPos ER (dcell 0 10) 1 ∅ 0
        ∗ atPos ER (dcell 0 12) 1 ∅ 0
        ∗ atPos ER (dcell 0 13) 1 ∅ 0
        ∗ atPos ER (dcell 0 14) 1 ∅ 0
        ∗ atPos ER (dcell 0 15) 1 ∅ 0
        ∗ atPos ER (dcell 0 16) 1 ∅ 0
        ∗ atPos ER (dcell 0 18) 1 ∅ 0
        ∗ atPos ER (dcell 0 20) 1 ∅ 0
        ∗ atPos ER (dcell 0 21) 1 ∅ 0
        ∗ atPos ER (dcell 0 22) 1 ∅ 0
        ∗ atPos ER (dcell 0 23) 1 ∅ 0) -∗ Kt ⟨⟩))
      ⊢ wp frame (wpE (defs₀ (F := F)) 𝒱₀ ((0 : Dev nD) : Thread nD τ) none) Set.univ (bodyAt0 (F := F) t0_0) Kt := by
  iintro ⟨#HIb0, #HI0_7, #HI0_8, #HI0_10, #HI0_12, #HI0_13, #HI0_14, #HI0_15, #HI0_16, #HI0_18, #HI0_20, #HI0_21, #HI0_22, #HI0_23, #HIb1, #HIb3, #HI1_24, #HI3_28, #HI1_25, #HI3_29, #HI1_26, #HI3_26, #HI3_30, #HI1_30, #HI1_27, #HI3_27, #HI3_31, #HI1_31, #Hrb1, #Hrb3, #Hr0_7, #Hr0_8, #Hr0_10, #Hr0_12, #Hr0_13, #Hr0_14, #Hr0_15, #Hr0_16, #Hr0_18, #Hr0_20, #Hr0_21, #Hr0_22, #Hr0_23, #Hlev, Hatb0, Hat0_7, Hat0_8, Hat0_10, Hat0_12, Hat0_13, Hat0_14, Hat0_15, Hat0_16, Hat0_18, Hat0_20, Hat0_21, Hat0_22, Hat0_23, Htb1, Htb3, Ht1_24, Ht3_28, Ht1_25, Ht3_29, Ht1_26, Ht3_26, Ht3_30, Ht1_30, Ht1_27, Ht3_27, Ht3_31, Ht1_31, Ht0_8, Ht0_10, Ht0_12, Ht0_13, Ht0_14, Ht0_15, Ht0_16, Ht0_18, Ht0_20, Ht0_21, Ht0_22, Ht0_23, Hcb0, Hc0_7, HO, H0, H1, H2, H3, H4, H5, ⟨%k0, H6⟩, ⟨%v0, H7⟩, ⟨%c0, H8⟩, Hs, ⟨%f0, Ho0⟩, ⟨%f1, Ho1⟩, ⟨%f2, Ho2⟩, ⟨%f3, Ho3⟩, ⟨%f4, Ho4⟩, ⟨%f5, Ho5⟩, ⟨%f6, Ho6⟩, ⟨%f7, Ho7⟩, Hk⟩
  have h2 : ¬ k0_cond2 (0 : Dev nD) = 1#1 := by decide
  have h3 : k0_cond3 (0 : Dev nD) = 1#1 := by decide
  have h4 : ¬ k0_cond4 (0 : Dev nD) = 1#1 := by decide
  have h5 : ¬ k0_cond5 (0 : Dev nD) = 1#1 := by decide
  have h6 : ¬ k0_cond6 (0 : Dev nD) = 1#1 := by decide
  have h0 : ¬ Scalar.cmpi .ne (Scalar.extui (Scalar.cmpi .ne (Scalar.remsi (Scalar.divsi (Dev.word (0 : Dev nD)) 1#32) 4#32) 0#32) : BitVec 32) 0#32 = 1#1 := by decide
  have e1 : (⟨k0_dev1 0, k0_dev1_lt 0⟩ : Dev nD) = 1 := by decide
  have e2 : (⟨k0_dev2 0, k0_dev2_lt 0⟩ : Dev nD) = 3 := by decide
  have e4 : ∀ h, (⟨k0_dev4, h⟩ : Dev nD) = 1 := fun _ => Fin.ext k0_dev4_eq
  have e5 : ∀ h, (⟨k0_dev5, h⟩ : Dev nD) = 3 := fun _ => Fin.ext k0_dev5_eq
  have e6 : ∀ h, (⟨k0_dev6, h⟩ : Dev nD) = 1 := fun _ => Fin.ext k0_dev6_eq
  have e7 : ∀ h, (⟨k0_dev7, h⟩ : Dev nD) = 3 := fun _ => Fin.ext k0_dev7_eq
  have e8 : ∀ h, (⟨k0_dev8, h⟩ : Dev nD) = 1 := fun _ => Fin.ext k0_dev8_eq
  have e9 : ∀ h, (⟨k0_dev9, h⟩ : Dev nD) = 3 := fun _ => Fin.ext k0_dev9_eq
  have e10 : ∀ h, (⟨k0_dev10, h⟩ : Dev nD) = 3 := fun _ => Fin.ext k0_dev10_eq
  have e11 : ∀ h, (⟨k0_dev11, h⟩ : Dev nD) = 1 := fun _ => Fin.ext k0_dev11_eq
  have e12 : ∀ h, (⟨k0_dev12, h⟩ : Dev nD) = 1 := fun _ => Fin.ext k0_dev12_eq
  have e13 : ∀ h, (⟨k0_dev13, h⟩ : Dev nD) = 3 := fun _ => Fin.ext k0_dev13_eq
  have e14 : ∀ h, (⟨k0_dev14, h⟩ : Dev nD) = 3 := fun _ => Fin.ext k0_dev14_eq
  have e15 : ∀ h, (⟨k0_dev15, h⟩ : Dev nD) = 1 := fun _ => Fin.ext k0_dev15_eq
  have mw0 : (levAts L lv : sProp 𝕄) ⊢ MayWait ((0 : Dev nD) : Thread nD τ) (.reg barS) 0 (tallyAt (dcell 1 24) 0 NB + tallyAt (dcell 3 28) 0 NB + tallyAt (dcell 1 25) 0 NB + tallyAt (dcell 3 29) 0 NB + tallyAt (dcell 1 26) 0 NB + tallyAt (dcell 3 26) 0 NB + tallyAt (dcell 3 30) 0 NB + tallyAt (dcell 1 30) 0 NB + tallyAt (dcell 1 27) 0 NB + tallyAt (dcell 3 27) 0 NB + tallyAt (dcell 3 31) 0 NB + tallyAt (dcell 1 31) 0 NB) :=
    mayWait 0 _ le_rfl _ (by repeat' (first | exact above_zero _ | apply above_add | exact above_tally _ _ (by decide)))
  have mw1 : (levAts L lv : sProp 𝕄) ⊢ MayWait ((0 : Dev nD) : Thread nD τ) (.dma ((7 : Fin 48))) 0 (tallyAt (dcell 3 31) 0 NB + tallyAt (dcell 1 31) 0 NB) :=
    mayWait 0 _ le_rfl _ (by repeat' (first | exact above_zero _ | apply above_add | exact above_tally _ _ (by decide)))
  unfold bodyAt0
  rw [cc0_body_eq_skeleton]; unfold cc0_body_skel
  rw [k0_part56_eq_skeleton]; unfold k0_part56_skel
  simp only [semSignalWord, semWaitWord, Prog.lift, Prog.bind_op, Prog.bind_ret, Prog.pure_eq_ret, wp_deviceId]
  sl_exec
  ihave Hbp := (Entails.of_eq (rfl : _ = (iprop(((∃ f : cc0_scratch10.ty.Contents (Elt F), ((Memref.whole cc0_scratch10).view.loc ((1 : Dev nD) : Thread nD τ) ↦{fullShare} f)) ∗ reached ER (dcell 1 24) 0 ∗ (∃ f : cc0_scratch11.ty.Contents (Elt F), ((Memref.whole cc0_scratch11).view.loc ((1 : Dev nD) : Thread nD τ) ↦{fullShare} f)) ∗ reached ER (dcell 1 25) 0 ∗ (∃ f : cc0_scratch12.ty.Contents (Elt F), ((Memref.whole cc0_scratch12).view.loc ((1 : Dev nD) : Thread nD τ) ↦{fullShare} f)) ∗ reached ER (dcell 1 26) 0 ∗ (∃ f : cc0_scratch13.ty.Contents (Elt F), ((Memref.whole cc0_scratch13).view.loc ((1 : Dev nD) : Thread nD τ) ↦{fullShare} f)) ∗ reached ER (dcell 1 27) 0 ∗ (∃ f : cc0_scratch16.ty.Contents (Elt F), ((Memref.whole cc0_scratch16).view.loc ((1 : Dev nD) : Thread nD τ) ↦{fullShare} f)) ∗ reached ER (dcell 1 30) 0 ∗ (∃ f : cc0_scratch17.ty.Contents (Elt F), ((Memref.whole cc0_scratch17).view.loc ((1 : Dev nD) : Thread nD τ) ↦{fullShare} f)) ∗ reached ER (dcell 1 31) 0) ∗ ((∃ f : cc0_scratch12.ty.Contents (Elt F), ((Memref.whole cc0_scratch12).view.loc ((3 : Dev nD) : Thread nD τ) ↦{fullShare} f)) ∗ reached ER (dcell 3 26) 0 ∗ (∃ f : cc0_scratch13.ty.Contents (Elt F), ((Memref.whole cc0_scratch13).view.loc ((3 : Dev nD) : Thread nD τ) ↦{fullShare} f)) ∗ reached ER (dcell 3 27) 0 ∗ (∃ f : cc0_scratch14.ty.Contents (Elt F), ((Memref.whole cc0_scratch14).view.loc ((3 : Dev nD) : Thread nD τ) ↦{fullShare} f)) ∗ reached ER (dcell 3 28) 0 ∗ (∃ f : cc0_scratch15.ty.Contents (Elt F), ((Memref.whole cc0_scratch15).view.loc ((3 : Dev nD) : Thread nD τ) ↦{fullShare} f)) ∗ reached ER (dcell 3 29) 0 ∗ (∃ f : cc0_scratch16.ty.Contents (Elt F), ((Memref.whole cc0_scratch16).view.loc ((3 : Dev nD) : Thread nD τ) ↦{fullShare} f)) ∗ reached ER (dcell 3 30) 0 ∗ (∃ f : cc0_scratch17.ty.Contents (Elt F), ((Memref.whole cc0_scratch17).view.loc ((3 : Dev nD) : Thread nD τ) ↦{fullShare} f)) ∗ reached ER (dcell 3 31) 0)) : sProp 𝕄))) $$ Hatb0_pay1
  icases Hbp with ⟨⟨⟨%g1_0, Hg1_0⟩, #Hq1_0, ⟨%g1_1, Hg1_1⟩, #Hq1_1, ⟨%g1_2, Hg1_2⟩, #Hq1_2, ⟨%g1_3, Hg1_3⟩, #Hq1_3, ⟨%g1_6, Hg1_6⟩, #Hq1_6, ⟨%g1_7, Hg1_7⟩, #Hq1_7⟩, ⟨⟨%g3_2, Hg3_2⟩, #Hq3_2, ⟨%g3_3, Hg3_3⟩, #Hq3_3, ⟨%g3_4, Hg3_4⟩, #Hq3_4, ⟨%g3_5, Hg3_5⟩, #Hq3_5, ⟨%g3_6, Hg3_6⟩, #Hq3_6, ⟨%g3_7, Hg3_7⟩, #Hq3_7⟩⟩
  have hv0 : k0_pay19 (run0.sl.r_1 wo) (run0.sl.v205 x wq kk vv) = D.ob 0 := (ob_eq 0 x wq kk vv wo D.sl).trans (hob 0).symm
  have hw0 : (Memref.whole cc0_scratch10 : Memref sig .tc .vmem S128x1024 .bf16).view.writes (Elt F) f0
      [⟨Rect.unit (s := S128x1024) ![0, 0] S128x1024.size inb_S128x1024_S128x1024_0_0, k0_pay19 (run0.sl.r_1 wo) (run0.sl.v205 x wq kk vv)⟩] = D.ob 0 := (full_writes cc0_scratch10 _ (by decide) _ f0 _).trans hv0
  ihave Ho0 := (pt_congr 0 cc0_scratch10 fullShare hw0) $$ Ho0
  ihave H8 := (pt_any 0 cc0_scratch2 fullShare _) $$ H8
  icases H8 with ⟨%c1, H8⟩
  set_option sl_exec.stopBefore "k0_part11" in sl_exec
  have hv4 : k0_pay36 (run0.sl.r_1 wo) (run0.sl.v389 x wq kk vv) = D.ob 4 := (ob_eq 4 x wq kk vv wo D.sl).trans (hob 4).symm
  have hw4 : (Memref.whole cc0_scratch14 : Memref sig .tc .vmem S128x1024 .bf16).view.writes (Elt F) f4
      [⟨Rect.unit (s := S128x1024) ![0, 0] S128x1024.size inb_S128x1024_S128x1024_0_0, k0_pay36 (run0.sl.r_1 wo) (run0.sl.v389 x wq kk vv)⟩] = D.ob 4 := (full_writes cc0_scratch14 _ (by decide) _ f4 _).trans hv4
  ihave Ho4 := (pt_congr 0 cc0_scratch14 fullShare hw4) $$ Ho4
  ihave H8 := (pt_any 0 cc0_scratch2 fullShare _) $$ H8
  icases H8 with ⟨%c2, H8⟩
  set_option sl_exec.stopBefore "k0_part16" in sl_exec
  have hv1 : k0_pay53 (run0.sl.r_1 wo) (run0.sl.v573 x wq kk vv) = D.ob 1 := (ob_eq 1 x wq kk vv wo D.sl).trans (hob 1).symm
  have hw1 : (Memref.whole cc0_scratch11 : Memref sig .tc .vmem S128x1024 .bf16).view.writes (Elt F) f1
      [⟨Rect.unit (s := S128x1024) ![0, 0] S128x1024.size inb_S128x1024_S128x1024_0_0, k0_pay53 (run0.sl.r_1 wo) (run0.sl.v573 x wq kk vv)⟩] = D.ob 1 := (full_writes cc0_scratch11 _ (by decide) _ f1 _).trans hv1
  ihave Ho1 := (pt_congr 0 cc0_scratch11 fullShare hw1) $$ Ho1
  ihave H8 := (pt_any 0 cc0_scratch2 fullShare _) $$ H8
  icases H8 with ⟨%c3, H8⟩
  sl_exec
  have hv5 : k0_pay74 (run0.sl.r_1 wo) (run0.sl.v757 x wq kk vv) = D.ob 5 := (ob_eq 5 x wq kk vv wo D.sl).trans (hob 5).symm
  have hw5 : (Memref.whole cc0_scratch15 : Memref sig .tc .vmem S128x1024 .bf16).view.writes (Elt F) f5
      [⟨Rect.unit (s := S128x1024) ![0, 0] S128x1024.size inb_S128x1024_S128x1024_0_0, k0_pay74 (run0.sl.r_1 wo) (run0.sl.v757 x wq kk vv)⟩] = D.ob 5 := (full_writes cc0_scratch15 _ (by decide) _ f5 _).trans hv5
  ihave Ho5 := (pt_congr 0 cc0_scratch15 fullShare hw5) $$ Ho5
  ihave H8 := (pt_any 0 cc0_scratch2 fullShare _) $$ H8
  icases H8 with ⟨%c4, H8⟩
  sl_exec
  have hv2 : k0_pay99 (run0.sl.r_1 wo) (run0.sl.v941 x wq kk vv) = D.ob 2 := (ob_eq 2 x wq kk vv wo D.sl).trans (hob 2).symm
  have hw2 : (Memref.whole cc0_scratch12 : Memref sig .tc .vmem S128x1024 .bf16).view.writes (Elt F) f2
      [⟨Rect.unit (s := S128x1024) ![0, 0] S128x1024.size inb_S128x1024_S128x1024_0_0, k0_pay99 (run0.sl.r_1 wo) (run0.sl.v941 x wq kk vv)⟩] = D.ob 2 := (full_writes cc0_scratch12 _ (by decide) _ f2 _).trans hv2
  ihave Ho2 := (pt_congr 0 cc0_scratch12 fullShare hw2) $$ Ho2
  ihave H8 := (pt_any 0 cc0_scratch2 fullShare _) $$ H8
  icases H8 with ⟨%c5, H8⟩
  ihave Hh := (pt_halves 0 cc0_scratch12 (D.ob 2)).1 $$ Ho2
  icases Hh with ⟨Ha2, Hb2⟩
  sl_exec
  have hv6 : k0_pay112 (run0.sl.r_1 wo) (run0.sl.v1131 x wq kk vv) = D.ob 6 := (ob_eq 6 x wq kk vv wo D.sl).trans (hob 6).symm
  have hw6 : (Memref.whole cc0_scratch16 : Memref sig .tc .vmem S128x1024 .bf16).view.writes (Elt F) f6
      [⟨Rect.unit (s := S128x1024) ![0, 0] S128x1024.size inb_S128x1024_S128x1024_0_0, k0_pay112 (run0.sl.r_1 wo) (run0.sl.v1131 x wq kk vv)⟩] = D.ob 6 := (full_writes cc0_scratch16 _ (by decide) _ f6 _).trans hv6
  ihave Ho6 := (pt_congr 0 cc0_scratch16 fullShare hw6) $$ Ho6
  ihave H8 := (pt_any 0 cc0_scratch2 fullShare _) $$ H8
  icases H8 with ⟨%c6, H8⟩
  ihave Hh := (pt_halves 0 cc0_scratch16 (D.ob 6)).1 $$ Ho6
  icases Hh with ⟨Ha6, Hb6⟩
  sl_exec
  have hv3 : k0_pay133 (run0.sl.r_1 wo) (run0.sl.v1321 x wq kk vv) = D.ob 3 := (ob_eq 3 x wq kk vv wo D.sl).trans (hob 3).symm
  have hw3 : (Memref.whole cc0_scratch13 : Memref sig .tc .vmem S128x1024 .bf16).view.writes (Elt F) f3
      [⟨Rect.unit (s := S128x1024) ![0, 0] S128x1024.size inb_S128x1024_S128x1024_0_0, k0_pay133 (run0.sl.r_1 wo) (run0.sl.v1321 x wq kk vv)⟩] = D.ob 3 := (full_writes cc0_scratch13 _ (by decide) _ f3 _).trans hv3
  ihave Ho3 := (pt_congr 0 cc0_scratch13 fullShare hw3) $$ Ho3
  ihave H8 := (pt_any 0 cc0_scratch2 fullShare _) $$ H8
  icases H8 with ⟨%c7, H8⟩
  ihave Hh := (pt_halves 0 cc0_scratch13 (D.ob 3)).1 $$ Ho3
  icases Hh with ⟨Ha3, Hb3⟩
  sl_exec
  have hv7 : k0_pay154 (run0.sl.r_1 wo) (run0.sl.v1519 D x wq kk vv) = D.ob 7 := (ob_eq7 (View.junk (Val := Elt F) (Memref.whole cc0_scratch0).view) (View.junk (Val := Elt F) (Memref.whole cc0_scratch1).view) x wq kk vv wo D.sl).trans (hob 7).symm
  have hw7 : (Memref.whole cc0_scratch17 : Memref sig .tc .vmem S128x1024 .bf16).view.writes (Elt F) f7
      [⟨Rect.unit (s := S128x1024) ![0, 0] S128x1024.size inb_S128x1024_S128x1024_0_0, k0_pay154 (run0.sl.r_1 wo) (run0.sl.v1519 D x wq kk vv)⟩] = D.ob 7 := (full_writes cc0_scratch17 _ (by decide) _ f7 _).trans hv7
  ihave Ho7 := (pt_congr 0 cc0_scratch17 fullShare hw7) $$ Ho7
  ihave H8 := (pt_any 0 cc0_scratch2 fullShare _) $$ H8
  icases H8 with ⟨%c8, H8⟩
  ihave Hh := (pt_halves 0 cc0_scratch17 (D.ob 7)).1 $$ Ho7
  icases Hh with ⟨Ha7, Hb7⟩
  sl_exec
  sl_step
  have hl0 : k0_pay18 (run0.sl.r_1 wo) (run0.sl.v205 x wq kk vv) = lead (blk x wq kk vv wo D.sl 0) := lead_eq 0 x wq kk vv wo D.sl
  have hl4 : k0_pay35 (run0.sl.r_1 wo) (run0.sl.v389 x wq kk vv) = lead (blk x wq kk vv wo D.sl 4) := lead_eq 4 x wq kk vv wo D.sl
  have hl1 : k0_pay52 (run0.sl.r_1 wo) (run0.sl.v573 x wq kk vv) = lead (blk x wq kk vv wo D.sl 1) := lead_eq 1 x wq kk vv wo D.sl
  have hl5 : k0_pay73 (run0.sl.r_1 wo) (run0.sl.v757 x wq kk vv) = lead (blk x wq kk vv wo D.sl 5) := lead_eq 5 x wq kk vv wo D.sl
  have hl2 : k0_pay98 (run0.sl.r_1 wo) (run0.sl.v941 x wq kk vv) = lead (blk x wq kk vv wo D.sl 2) := lead_eq 2 x wq kk vv wo D.sl
  have hl6 : k0_pay111 (run0.sl.r_1 wo) (run0.sl.v1131 x wq kk vv) = lead (blk x wq kk vv wo D.sl 6) := lead_eq 6 x wq kk vv wo D.sl
  have hl3 : k0_pay132 (run0.sl.r_1 wo) (run0.sl.v1321 x wq kk vv) = lead (blk x wq kk vv wo D.sl 3) := lead_eq 3 x wq kk vv wo D.sl
  have hl7 : k0_pay153 (run0.sl.r_1 wo) (run0.sl.v1519 D x wq kk vv) = lead (blk x wq kk vv wo D.sl 7) := lead_eq7 (View.junk (Val := Elt F) (Memref.whole cc0_scratch0).view) (View.junk (Val := Elt F) (Memref.whole cc0_scratch1).view) x wq kk vv wo D.sl
  have hw : (Memref.whole cc0_stg5_0 : Memref sig .tc .vmem S1x1024x1024 .f32).view.writes (Elt F) o0
      [⟨Rect.unit (s := S1x1024x1024) ![0, 896, 0] S1x128x1024.size inb_S1x1024x1024_S1x128x1024_0_896_0, k0_pay153 (run0.sl.r_1 wo) (run0.sl.v1519 D x wq kk vv)⟩, ⟨Rect.unit (s := S1x1024x1024) ![0, 384, 0] S1x128x1024.size inb_S1x1024x1024_S1x128x1024_0_384_0, k0_pay132 (run0.sl.r_1 wo) (run0.sl.v1321 x wq kk vv)⟩, ⟨Rect.unit (s := S1x1024x1024) ![0, 768, 0] S1x128x1024.size inb_S1x1024x1024_S1x128x1024_0_768_0, k0_pay111 (run0.sl.r_1 wo) (run0.sl.v1131 x wq kk vv)⟩, ⟨Rect.unit (s := S1x1024x1024) ![0, 256, 0] S1x128x1024.size inb_S1x1024x1024_S1x128x1024_0_256_0, k0_pay98 (run0.sl.r_1 wo) (run0.sl.v941 x wq kk vv)⟩, ⟨Rect.unit (s := S1x1024x1024) ![0, 640, 0] S1x128x1024.size inb_S1x1024x1024_S1x128x1024_0_640_0, k0_pay73 (run0.sl.r_1 wo) (run0.sl.v757 x wq kk vv)⟩, ⟨Rect.unit (s := S1x1024x1024) ![0, 128, 0] S1x128x1024.size inb_S1x1024x1024_S1x128x1024_0_128_0, k0_pay52 (run0.sl.r_1 wo) (run0.sl.v573 x wq kk vv)⟩, ⟨Rect.unit (s := S1x1024x1024) ![0, 512, 0] S1x128x1024.size inb_S1x1024x1024_S1x128x1024_0_512_0, k0_pay35 (run0.sl.r_1 wo) (run0.sl.v389 x wq kk vv)⟩, ⟨Rect.unit (s := S1x1024x1024) ![0, 0, 0] S1x128x1024.size inb_S1x1024x1024_S1x128x1024_0_0_0, k0_pay18 (run0.sl.r_1 wo) (run0.sl.v205 x wq kk vv)⟩] = (outOf fun n => blk x wq kk vv wo D.sl (Fin.ofNat 8 n)) := by
    rw [hl0, hl4, hl1, hl5, hl2, hl6, hl3, hl7]
    exact out_writes (fun n => blk x wq kk vv wo D.sl (Fin.ofNat 8 n)) o0 [7, 3, 6, 2, 5, 1, 4, 0] (by decide)
  ihave H5 := (pt_congr 0 cc0_stg5_0 fullShare hw) $$ H5
  ihave Hj12 := (pt_halves 0 cc0_scratch12 (D.ob 2)).2 $$ [Hat0_12_pay1 Hat0_13_pay1]
  · isplitl [Hat0_12_pay1]; · iexact Hat0_12_pay1
    iexact Hat0_13_pay1
  ihave Hj13 := (pt_halves 0 cc0_scratch13 (D.ob 3)).2 $$ [Hat0_14_pay1 Hat0_15_pay1]
  · isplitl [Hat0_14_pay1]; · iexact Hat0_14_pay1
    iexact Hat0_15_pay1
  ihave Hj16 := (pt_halves 0 cc0_scratch16 (D.ob 6)).2 $$ [Hat0_20_pay1 Hat0_21_pay1]
  · isplitl [Hat0_20_pay1]; · iexact Hat0_20_pay1
    iexact Hat0_21_pay1
  ihave Hj17 := (pt_halves 0 cc0_scratch17 (D.ob 7)).2 $$ [Hat0_22_pay1 Hat0_23_pay1]
  · isplitl [Hat0_22_pay1]; · iexact Hat0_22_pay1
    iexact Hat0_23_pay1
  iapply Hk
  isplitl [HO]; · iexists _; iexact HO
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [Hat0_7_pay1]; · iexists _; iexact Hat0_7_pay1
  isplitl [Hat0_8_pay1]; · iexists _; iexact Hat0_8_pay1
  isplitl [Hat0_10_pay1]; · iexists _; iexact Hat0_10_pay1
  isplitl [Hj12]; · iexists _; iexact Hj12
  isplitl [Hj13]; · iexists _; iexact Hj13
  isplitl [Hat0_16_pay1]; · iexists _; iexact Hat0_16_pay1
  isplitl [Hat0_18_pay1]; · iexists _; iexact Hat0_18_pay1
  isplitl [Hj16]; · iexists _; iexact Hj16
  isplitl [Hj17]; · iexists _; iexact Hj17
  isplitl [Hatb0]; · iexact Hatb0
  isplitl [Hat0_7]; · iexact Hat0_7
  isplitl [Hat0_8]; · iexact Hat0_8
  isplitl [Hat0_10]; · iexact Hat0_10
  isplitl [Hat0_12]; · iexact Hat0_12
  isplitl [Hat0_13]; · iexact Hat0_13
  isplitl [Hat0_14]; · iexact Hat0_14
  isplitl [Hat0_15]; · iexact Hat0_15
  isplitl [Hat0_16]; · iexact Hat0_16
  isplitl [Hat0_18]; · iexact Hat0_18
  isplitl [Hat0_20]; · iexact Hat0_20
  isplitl [Hat0_21]; · iexact Hat0_21
  isplitl [Hat0_22]; · iexact Hat0_22
  iexact Hat0_23

end Cert.KernelIdeal.Talk

end
-- ==== Proof.Run1.lean ====
/-
  Device 1 runs the kernel.
-/
module

public import proofs.«01_k».proof.Proof.Run0

@[expose] public section

set_option maxRecDepth 16384

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig ℕ (Elt F) ℕ UU ℕ

variable (D : Vals F)

attribute [local irreducible] k0_dev3 k0_dev4 k0_dev5 k0_dev6 k0_dev7 k0_dev8 k0_dev9 k0_dev10 k0_dev11 k0_dev12 k0_dev13 k0_dev14 k0_dev15 k0_dev16 k0_dev17 k0_dev18 k0_dev19 k0_dev20 k0_dev21 k0_dev22 k0_dev23 k0_dev24 k0_dev25 k0_dev26 k0_dev27

set_option maxHeartbeats 2000000 in
theorem run1 (K : GSem nD τ sig → ℕ) (W : Waits sig ℕ) (Kt : PUnit → sProp 𝕄) (kk vv : FVec F S1024x1024 .bf16) (o0 : FVec F S1x1024x1024 .f32)
    (hsl : D.sl = slOf kk vv) :
    iprop(cellInv ER (Rd D) (K (barCell 1)) (barCell 1)
        ∗ cellInv ER (Rd D) (K (dcell 1 6)) (dcell 1 6)
        ∗ cellInv ER (Rd D) (K (dcell 1 24)) (dcell 1 24)
        ∗ cellInv ER (Rd D) (K (dcell 1 25)) (dcell 1 25)
        ∗ cellInv ER (Rd D) (K (dcell 1 26)) (dcell 1 26)
        ∗ cellInv ER (Rd D) (K (dcell 1 27)) (dcell 1 27)
        ∗ cellInv ER (Rd D) (K (dcell 1 28)) (dcell 1 28)
        ∗ cellInv ER (Rd D) (K (dcell 1 29)) (dcell 1 29)
        ∗ cellInv ER (Rd D) (K (dcell 1 30)) (dcell 1 30)
        ∗ cellInv ER (Rd D) (K (dcell 1 31)) (dcell 1 31)
        ∗ cellInv ER (Rd D) (K (dcell 1 32)) (dcell 1 32)
        ∗ cellInv ER (Rd D) (K (dcell 1 33)) (dcell 1 33)
        ∗ cellInv ER (Rd D) (K (dcell 1 34)) (dcell 1 34)
        ∗ cellInv ER (Rd D) (K (dcell 1 35)) (dcell 1 35)
        ∗ cellInv ER (Rd D) (K (barCell 2)) (barCell 2)
        ∗ cellInv ER (Rd D) (K (barCell 0)) (barCell 0)
        ∗ cellInv ER (Rd D) (K (dcell 0 7)) (dcell 0 7)
        ∗ cellInv ER (Rd D) (K (dcell 2 24)) (dcell 2 24)
        ∗ cellInv ER (Rd D) (K (dcell 2 25)) (dcell 2 25)
        ∗ cellInv ER (Rd D) (K (dcell 2 26)) (dcell 2 26)
        ∗ cellInv ER (Rd D) (K (dcell 2 27)) (dcell 2 27)
        ∗ reached ER (barCell 2) 0
        ∗ reached ER (barCell 0) 0
        ∗ reached ER (dcell 1 6) 0
        ∗ reached ER (dcell 1 24) 0
        ∗ reached ER (dcell 1 25) 0
        ∗ reached ER (dcell 1 26) 0
        ∗ reached ER (dcell 1 27) 0
        ∗ reached ER (dcell 1 28) 0
        ∗ reached ER (dcell 1 29) 0
        ∗ reached ER (dcell 1 30) 0
        ∗ reached ER (dcell 1 31) 0
        ∗ reached ER (dcell 1 32) 0
        ∗ reached ER (dcell 1 33) 0
        ∗ reached ER (dcell 1 34) 0
        ∗ reached ER (dcell 1 35) 0
        ∗ levAts L lv
        ∗ atPos ER (barCell 1) 0 ∅ 0
        ∗ atPos ER (dcell 1 6) 0 ∅ 0
        ∗ atPos ER (dcell 1 24) 0 ∅ 0
        ∗ atPos ER (dcell 1 25) 0 ∅ 0
        ∗ atPos ER (dcell 1 26) 0 ∅ 0
        ∗ atPos ER (dcell 1 27) 0 ∅ 0
        ∗ atPos ER (dcell 1 28) 0 ∅ 0
        ∗ atPos ER (dcell 1 29) 0 ∅ 0
        ∗ atPos ER (dcell 1 30) 0 ∅ 0
        ∗ atPos ER (dcell 1 31) 0 ∅ 0
        ∗ atPos ER (dcell 1 32) 0 ∅ 0
        ∗ atPos ER (dcell 1 33) 0 ∅ 0
        ∗ atPos ER (dcell 1 34) 0 ∅ 0
        ∗ atPos ER (dcell 1 35) 0 ∅ 0
        ∗ dutyTok ER (barCell 2) 0 (1 : Dev nD)
        ∗ dutyTok ER (barCell 0) 0 (1 : Dev nD)
        ∗ dutyTok ER (dcell 0 7) 0 (1 : Dev nD)
        ∗ dutyTok ER (dcell 2 24) 0 (1 : Dev nD)
        ∗ dutyTok ER (dcell 2 25) 0 (1 : Dev nD)
        ∗ dutyTok ER (dcell 2 26) 0 (1 : Dev nD)
        ∗ dutyTok ER (dcell 2 27) 0 (1 : Dev nD)
        ∗ dutyTok ER (dcell 1 6) 0 (1 : Dev nD)
        ∗ dutyTok ER (dcell 1 32) 0 (1 : Dev nD)
        ∗ dutyTok ER (dcell 1 33) 0 (1 : Dev nD)
        ∗ dutyTok ER (dcell 1 34) 0 (1 : Dev nD)
        ∗ dutyTok ER (dcell 1 35) 0 (1 : Dev nD)
        ∗ cred (tallyAt (barCell 1) 0 2)
        ∗ cred (tallyAt (dcell 1 24) 0 NB)
        ∗ cred (tallyAt (dcell 1 25) 0 NB)
        ∗ cred (tallyAt (dcell 1 26) 0 NB)
        ∗ cred (tallyAt (dcell 1 27) 0 NB)
        ∗ cred (tallyAt (dcell 1 28) 0 NB)
        ∗ cred (tallyAt (dcell 1 29) 0 NB)
        ∗ cred (tallyAt (dcell 1 30) 0 NB)
        ∗ cred (tallyAt (dcell 1 31) 0 NB)
        ∗ owes ((1 : Dev nD) : Thread nD τ) (tallyAt (barCell 2) 0 1 + tallyAt (barCell 0) 0 1 + tallyAt (dcell 0 7) 0 NS + tallyAt (dcell 2 24) 0 NB + tallyAt (dcell 2 25) 0 NB + tallyAt (dcell 2 26) 0 NB + tallyAt (dcell 2 27) 0 NB) W
        ∗ pt 1 cc0_stg2_0 fullShare kk
        ∗ pt 1 cc0_stg3_0 fullShare vv
        ∗ pt 1 cc0_stg5_0 fullShare o0
        ∗ ptAny 1 cc0_scratch3
        ∗ ptAny 1 cc0_scratch10
        ∗ ptAny 1 cc0_scratch11
        ∗ ptAny 1 cc0_scratch12
        ∗ ptAny 1 cc0_scratch13
        ∗ ptAny 1 cc0_scratch14
        ∗ ptAny 1 cc0_scratch15
        ∗ ptAny 1 cc0_scratch16
        ∗ ptAny 1 cc0_scratch17
        ∗ (((∃ W, owes ((1 : Dev nD) : Thread nD τ) (0 : CellTallies nD τ sig ℕ) W)
        ∗ pt 1 cc0_stg2_0 fullShare kk
        ∗ pt 1 cc0_stg3_0 fullShare vv
        ∗ pt 1 cc0_stg5_0 fullShare (outOf fun b => ext (D.ob b))
        ∗ ptAny 1 cc0_scratch3
        ∗ ptAny 1 cc0_scratch10
        ∗ ptAny 1 cc0_scratch11
        ∗ ptAny 1 cc0_scratch12
        ∗ ptAny 1 cc0_scratch13
        ∗ ptAny 1 cc0_scratch14
        ∗ ptAny 1 cc0_scratch15
        ∗ ptAny 1 cc0_scratch16
        ∗ ptAny 1 cc0_scratch17
        ∗ atPos ER (barCell 1) 1 ∅ 0
        ∗ atPos ER (dcell 1 6) 1 ∅ 0
        ∗ atPos ER (dcell 1 24) 1 ∅ 0
        ∗ atPos ER (dcell 1 25) 1 ∅ 0
        ∗ atPos ER (dcell 1 26) 1 ∅ 0
        ∗ atPos ER (dcell 1 27) 1 ∅ 0
        ∗ atPos ER (dcell 1 28) 1 ∅ 0
        ∗ atPos ER (dcell 1 29) 1 ∅ 0
        ∗ atPos ER (dcell 1 30) 1 ∅ 0
        ∗ atPos ER (dcell 1 31) 1 ∅ 0
        ∗ atPos ER (dcell 1 32) 1 ∅ 0
        ∗ atPos ER (dcell 1 33) 1 ∅ 0
        ∗ atPos ER (dcell 1 34) 1 ∅ 0
        ∗ atPos ER (dcell 1 35) 1 ∅ 0) -∗ Kt ⟨⟩))
      ⊢ wp frame (wpE (defs₀ (F := F)) 𝒱₀ ((1 : Dev nD) : Thread nD τ) none) Set.univ (bodyAt0 (F := F) t0_0) Kt := by
  iintro ⟨#HIb1, #HI1_6, #HI1_24, #HI1_25, #HI1_26, #HI1_27, #HI1_28, #HI1_29, #HI1_30, #HI1_31, #HI1_32, #HI1_33, #HI1_34, #HI1_35, #HIb2, #HIb0, #HI0_7, #HI2_24, #HI2_25, #HI2_26, #HI2_27, #Hrb2, #Hrb0, #Hr1_6, #Hr1_24, #Hr1_25, #Hr1_26, #Hr1_27, #Hr1_28, #Hr1_29, #Hr1_30, #Hr1_31, #Hr1_32, #Hr1_33, #Hr1_34, #Hr1_35, #Hlev, Hatb1, Hat1_6, Hat1_24, Hat1_25, Hat1_26, Hat1_27, Hat1_28, Hat1_29, Hat1_30, Hat1_31, Hat1_32, Hat1_33, Hat1_34, Hat1_35, Htb2, Htb0, Ht0_7, Ht2_24, Ht2_25, Ht2_26, Ht2_27, Ht1_6, Ht1_32, Ht1_33, Ht1_34, Ht1_35, Hcb1, Hc1_24, Hc1_25, Hc1_26, Hc1_27, Hc1_28, Hc1_29, Hc1_30, Hc1_31, HO, H2, H3, H5, ⟨%fsl, Hsl⟩, Ho0, Ho1, Ho2, Ho3, Ho4, Ho5, Ho6, Ho7, Hk⟩
  have h2 : k0_cond2 (1 : Dev nD) = 1#1 := by decide
  have h3 : ¬ k0_cond3 (1 : Dev nD) = 1#1 := by decide
  have h4 : k0_cond4 (1 : Dev nD) = 1#1 := by decide
  have h5 : ¬ k0_cond5 (1 : Dev nD) = 1#1 := by decide
  have h6 : ¬ k0_cond6 (1 : Dev nD) = 1#1 := by decide
  have h0 : Scalar.cmpi .ne (Scalar.extui (Scalar.cmpi .ne (Scalar.remsi (Scalar.divsi (Dev.word (1 : Dev nD)) 1#32) 4#32) 0#32) : BitVec 32) 0#32 = 1#1 := by decide
  have e1 : (⟨k0_dev1 1, k0_dev1_lt 1⟩ : Dev nD) = 2 := by decide
  have e2 : (⟨k0_dev2 1, k0_dev2_lt 1⟩ : Dev nD) = 0 := by decide
  have e3 : ∀ h, (⟨k0_dev3, h⟩ : Dev nD) = 0 := fun _ => Fin.ext k0_dev3_eq
  have e16 : ∀ h, (⟨k0_dev16, h⟩ : Dev nD) = 2 := fun _ => Fin.ext k0_dev16_eq
  have e17 : ∀ h, (⟨k0_dev17, h⟩ : Dev nD) = 2 := fun _ => Fin.ext k0_dev17_eq
  have e18 : ∀ h, (⟨k0_dev18, h⟩ : Dev nD) = 2 := fun _ => Fin.ext k0_dev18_eq
  have e19 : ∀ h, (⟨k0_dev19, h⟩ : Dev nD) = 2 := fun _ => Fin.ext k0_dev19_eq
  have mw0 : (levAts L lv : sProp 𝕄) ⊢ MayWait ((1 : Dev nD) : Thread nD τ) (.reg barS) 0 (tallyAt (dcell 0 7) 0 NS + tallyAt (dcell 2 24) 0 NB + tallyAt (dcell 2 25) 0 NB + tallyAt (dcell 2 26) 0 NB + tallyAt (dcell 2 27) 0 NB) :=
    mayWait 1 _ le_rfl _ (by repeat' (first | exact above_zero _ | apply above_add | exact above_tally _ _ (by decide)))
  have mw1 : (levAts L lv : sProp 𝕄) ⊢ MayWait ((1 : Dev nD) : Thread nD τ) (.dma ((6 : Fin 48))) 0 (tallyAt (dcell 2 24) 0 NB + tallyAt (dcell 2 25) 0 NB + tallyAt (dcell 2 26) 0 NB + tallyAt (dcell 2 27) 0 NB) :=
    mayWait 1 _ le_rfl _ (by repeat' (first | exact above_zero _ | apply above_add | exact above_tally _ _ (by decide)))
  have mw2 : (levAts L lv : sProp 𝕄) ⊢ MayWait ((1 : Dev nD) : Thread nD τ) (.dma ((24 : Fin 48))) 0 (tallyAt (dcell 2 24) 0 NB + tallyAt (dcell 2 25) 0 NB + tallyAt (dcell 2 26) 0 NB + tallyAt (dcell 2 27) 0 NB) :=
    mayWait 1 _ le_rfl _ (by repeat' (first | exact above_zero _ | apply above_add | exact above_tally _ _ (by decide)))
  have mw3 : (levAts L lv : sProp 𝕄) ⊢ MayWait ((1 : Dev nD) : Thread nD τ) (.dma ((25 : Fin 48))) 0 (tallyAt (dcell 2 25) 0 NB + tallyAt (dcell 2 26) 0 NB + tallyAt (dcell 2 27) 0 NB) :=
    mayWait 1 _ le_rfl _ (by repeat' (first | exact above_zero _ | apply above_add | exact above_tally _ _ (by decide)))
  have mw4 : (levAts L lv : sProp 𝕄) ⊢ MayWait ((1 : Dev nD) : Thread nD τ) (.dma ((26 : Fin 48))) 0 (tallyAt (dcell 2 26) 0 NB + tallyAt (dcell 2 27) 0 NB) :=
    mayWait 1 _ le_rfl _ (by repeat' (first | exact above_zero _ | apply above_add | exact above_tally _ _ (by decide)))
  have mw5 : (levAts L lv : sProp 𝕄) ⊢ MayWait ((1 : Dev nD) : Thread nD τ) (.dma ((30 : Fin 48))) 0 (tallyAt (dcell 2 27) 0 NB) :=
    mayWait 1 _ le_rfl _ (by repeat' (first | exact above_zero _ | apply above_add | exact above_tally _ _ (by decide)))
  have mw6 : (levAts L lv : sProp 𝕄) ⊢ MayWait ((1 : Dev nD) : Thread nD τ) (.dma ((27 : Fin 48))) 0 (tallyAt (dcell 2 27) 0 NB) :=
    mayWait 1 _ le_rfl _ (by repeat' (first | exact above_zero _ | apply above_add | exact above_tally _ _ (by decide)))
  unfold bodyAt0
  rw [cc0_body_eq_skeleton]; unfold cc0_body_skel
  rw [k0_part56_eq_skeleton]; unfold k0_part56_skel
  simp only [semSignalWord, semWaitWord, Prog.lift, Prog.bind_op, Prog.bind_ret, Prog.pure_eq_ret, wp_deviceId]
  sl_exec
  ihave Hbp := (Entails.of_eq (rfl : _ = (iprop(((∃ f : cc0_scratch10.ty.Contents (Elt F), ((Memref.whole cc0_scratch10).view.loc ((2 : Dev nD) : Thread nD τ) ↦{fullShare} f)) ∗ reached ER (dcell 2 24) 0 ∗ (∃ f : cc0_scratch11.ty.Contents (Elt F), ((Memref.whole cc0_scratch11).view.loc ((2 : Dev nD) : Thread nD τ) ↦{fullShare} f)) ∗ reached ER (dcell 2 25) 0 ∗ (∃ f : cc0_scratch12.ty.Contents (Elt F), ((Memref.whole cc0_scratch12).view.loc ((2 : Dev nD) : Thread nD τ) ↦{fullShare} f)) ∗ reached ER (dcell 2 26) 0 ∗ (∃ f : cc0_scratch13.ty.Contents (Elt F), ((Memref.whole cc0_scratch13).view.loc ((2 : Dev nD) : Thread nD τ) ↦{fullShare} f)) ∗ reached ER (dcell 2 27) 0) ∗ ((∃ f : cc0_scratch3.ty.Contents (Elt F), ((Memref.whole cc0_scratch3).view.loc ((0 : Dev nD) : Thread nD τ) ↦{fullShare} f)) ∗ reached ER (dcell 0 7) 0)) : sProp 𝕄))) $$ Hatb1_pay1
  icases Hbp with ⟨⟨⟨%g2_0, Hg2_0⟩, #Hq2_0, ⟨%g2_1, Hg2_1⟩, #Hq2_1, ⟨%g2_2, Hg2_2⟩, #Hq2_2, ⟨%g2_3, Hg2_3⟩, #Hq2_3⟩, ⟨⟨%gs, Hgs⟩, #Hqs⟩⟩
  ihave Hsl := (pt_congr 1 cc0_scratch3 fullShare ((sl_writes kk vv fsl).trans hsl.symm)) $$ Hsl
  sl_exec
  ihave Hh := (pt_halves 1 cc0_scratch10 (D.ob 0)).1 $$ Hat1_24_pay1
  icases Hh with ⟨Ha0, Hb0⟩
  sl_exec
  ihave Hh := (pt_halves 1 cc0_scratch11 (D.ob 1)).1 $$ Hat1_25_pay1
  icases Hh with ⟨Ha1, Hb1⟩
  sl_exec
  ihave Hh := (pt_halves 1 cc0_scratch12 (D.ob 2)).1 $$ Hat1_26_pay1
  icases Hh with ⟨Ha2, Hb2⟩
  sl_exec
  ihave Hh := (pt_halves 1 cc0_scratch13 (D.ob 3)).1 $$ Hat1_27_pay1
  icases Hh with ⟨Ha3, Hb3⟩
  sl_exec
  sl_step
  have hw : (Memref.whole cc0_stg5_0 : Memref sig .tc .vmem S1x1024x1024 .f32).view.writes (Elt F) o0
      [⟨Rect.unit (s := S1x1024x1024) ![0, 640, 0] S1x128x1024.size inb_S1x1024x1024_S1x128x1024_0_640_0, run1.sl.v125 D⟩, ⟨Rect.unit (s := S1x1024x1024) ![0, 512, 0] S1x128x1024.size inb_S1x1024x1024_S1x128x1024_0_512_0, run1.sl.v116 D⟩, ⟨Rect.unit (s := S1x1024x1024) ![0, 896, 0] S1x128x1024.size inb_S1x1024x1024_S1x128x1024_0_896_0, run1.sl.v107 D⟩, ⟨Rect.unit (s := S1x1024x1024) ![0, 384, 0] S1x128x1024.size inb_S1x1024x1024_S1x128x1024_0_384_0, run1.sl.v98 D⟩, ⟨Rect.unit (s := S1x1024x1024) ![0, 768, 0] S1x128x1024.size inb_S1x1024x1024_S1x128x1024_0_768_0, run1.sl.v83 D⟩, ⟨Rect.unit (s := S1x1024x1024) ![0, 256, 0] S1x128x1024.size inb_S1x1024x1024_S1x128x1024_0_256_0, run1.sl.v74 D⟩, ⟨Rect.unit (s := S1x1024x1024) ![0, 128, 0] S1x128x1024.size inb_S1x1024x1024_S1x128x1024_0_128_0, run1.sl.v59 D⟩, ⟨Rect.unit (s := S1x1024x1024) ![0, 0, 0] S1x128x1024.size inb_S1x1024x1024_S1x128x1024_0_0_0, run1.sl.v44 D⟩] = outOf fun b => ext (D.ob b) := out_writesR D.ob o0 [5, 4, 7, 3, 6, 2, 1, 0] (by decide)
  ihave H5 := (pt_congr 1 cc0_stg5_0 fullShare hw) $$ H5
  ihave Hj10 := (pt_halves 1 cc0_scratch10 (D.ob 0)).2 $$ [Hat1_32_pay1 Hb0]
  · isplitl [Hat1_32_pay1]; · iexact Hat1_32_pay1
    iexact Hb0
  ihave Hj11 := (pt_halves 1 cc0_scratch11 (D.ob 1)).2 $$ [Hat1_33_pay1 Hb1]
  · isplitl [Hat1_33_pay1]; · iexact Hat1_33_pay1
    iexact Hb1
  ihave Hj12 := (pt_halves 1 cc0_scratch12 (D.ob 2)).2 $$ [Hat1_34_pay1 Hb2]
  · isplitl [Hat1_34_pay1]; · iexact Hat1_34_pay1
    iexact Hb2
  ihave Hj13 := (pt_halves 1 cc0_scratch13 (D.ob 3)).2 $$ [Hat1_35_pay1 Hb3]
  · isplitl [Hat1_35_pay1]; · iexact Hat1_35_pay1
    iexact Hb3
  iapply Hk
  isplitl [HO]; · iexists _; iexact HO
  isplitl [H2]; · iexact H2
  isplitl [H3]; · iexact H3
  isplitl [H5]; · iexact H5
  isplitl [Hat1_6_pay1]; · iexists _; iexact Hat1_6_pay1
  isplitl [Hj10]; · iexists _; iexact Hj10
  isplitl [Hj11]; · iexists _; iexact Hj11
  isplitl [Hj12]; · iexists _; iexact Hj12
  isplitl [Hj13]; · iexists _; iexact Hj13
  isplitl [Hat1_28_pay1]; · iexists _; iexact Hat1_28_pay1
  isplitl [Hat1_29_pay1]; · iexists _; iexact Hat1_29_pay1
  isplitl [Hat1_30_pay1]; · iexists _; iexact Hat1_30_pay1
  isplitl [Hat1_31_pay1]; · iexists _; iexact Hat1_31_pay1
  isplitl [Hatb1]; · iexact Hatb1
  isplitl [Hat1_6]; · iexact Hat1_6
  isplitl [Hat1_24]; · iexact Hat1_24
  isplitl [Hat1_25]; · iexact Hat1_25
  isplitl [Hat1_26]; · iexact Hat1_26
  isplitl [Hat1_27]; · iexact Hat1_27
  isplitl [Hat1_28]; · iexact Hat1_28
  isplitl [Hat1_29]; · iexact Hat1_29
  isplitl [Hat1_30]; · iexact Hat1_30
  isplitl [Hat1_31]; · iexact Hat1_31
  isplitl [Hat1_32]; · iexact Hat1_32
  isplitl [Hat1_33]; · iexact Hat1_33
  isplitl [Hat1_34]; · iexact Hat1_34
  iexact Hat1_35

end Cert.KernelIdeal.Talk

end
-- ==== Proof.Run2.lean ====
/-
  Device 2 runs the kernel.
-/
module

public import proofs.«01_k».proof.Proof.Run1

@[expose] public section

set_option maxRecDepth 16384

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig ℕ (Elt F) ℕ UU ℕ

variable (D : Vals F)

attribute [local irreducible] k0_dev3 k0_dev4 k0_dev5 k0_dev6 k0_dev7 k0_dev8 k0_dev9 k0_dev10 k0_dev11 k0_dev12 k0_dev13 k0_dev14 k0_dev15 k0_dev16 k0_dev17 k0_dev18 k0_dev19 k0_dev20 k0_dev21 k0_dev22 k0_dev23 k0_dev24 k0_dev25 k0_dev26 k0_dev27

set_option maxHeartbeats 2000000 in
theorem run2 (K : GSem nD τ sig → ℕ) (W : Waits sig ℕ) (Kt : PUnit → sProp 𝕄) (o0 : FVec F S1x1024x1024 .f32) :
    iprop(cellInv ER (Rd D) (K (barCell 2)) (barCell 2)
        ∗ cellInv ER (Rd D) (K (dcell 2 24)) (dcell 2 24)
        ∗ cellInv ER (Rd D) (K (dcell 2 25)) (dcell 2 25)
        ∗ cellInv ER (Rd D) (K (dcell 2 26)) (dcell 2 26)
        ∗ cellInv ER (Rd D) (K (dcell 2 27)) (dcell 2 27)
        ∗ cellInv ER (Rd D) (K (dcell 2 28)) (dcell 2 28)
        ∗ cellInv ER (Rd D) (K (dcell 2 29)) (dcell 2 29)
        ∗ cellInv ER (Rd D) (K (dcell 2 30)) (dcell 2 30)
        ∗ cellInv ER (Rd D) (K (dcell 2 31)) (dcell 2 31)
        ∗ cellInv ER (Rd D) (K (dcell 2 40)) (dcell 2 40)
        ∗ cellInv ER (Rd D) (K (dcell 2 41)) (dcell 2 41)
        ∗ cellInv ER (Rd D) (K (dcell 2 44)) (dcell 2 44)
        ∗ cellInv ER (Rd D) (K (dcell 2 45)) (dcell 2 45)
        ∗ cellInv ER (Rd D) (K (barCell 3)) (barCell 3)
        ∗ cellInv ER (Rd D) (K (barCell 1)) (barCell 1)
        ∗ cellInv ER (Rd D) (K (dcell 3 24)) (dcell 3 24)
        ∗ cellInv ER (Rd D) (K (dcell 1 28)) (dcell 1 28)
        ∗ cellInv ER (Rd D) (K (dcell 3 25)) (dcell 3 25)
        ∗ cellInv ER (Rd D) (K (dcell 1 29)) (dcell 1 29)
        ∗ reached ER (barCell 3) 0
        ∗ reached ER (barCell 1) 0
        ∗ reached ER (dcell 2 24) 0
        ∗ reached ER (dcell 2 25) 0
        ∗ reached ER (dcell 2 26) 0
        ∗ reached ER (dcell 2 27) 0
        ∗ reached ER (dcell 2 28) 0
        ∗ reached ER (dcell 2 29) 0
        ∗ reached ER (dcell 2 30) 0
        ∗ reached ER (dcell 2 31) 0
        ∗ reached ER (dcell 2 40) 0
        ∗ reached ER (dcell 2 41) 0
        ∗ reached ER (dcell 2 44) 0
        ∗ reached ER (dcell 2 45) 0
        ∗ levAts L lv
        ∗ atPos ER (barCell 2) 0 ∅ 0
        ∗ atPos ER (dcell 2 24) 0 ∅ 0
        ∗ atPos ER (dcell 2 25) 0 ∅ 0
        ∗ atPos ER (dcell 2 26) 0 ∅ 0
        ∗ atPos ER (dcell 2 27) 0 ∅ 0
        ∗ atPos ER (dcell 2 28) 0 ∅ 0
        ∗ atPos ER (dcell 2 29) 0 ∅ 0
        ∗ atPos ER (dcell 2 30) 0 ∅ 0
        ∗ atPos ER (dcell 2 31) 0 ∅ 0
        ∗ atPos ER (dcell 2 40) 0 ∅ 0
        ∗ atPos ER (dcell 2 41) 0 ∅ 0
        ∗ atPos ER (dcell 2 44) 0 ∅ 0
        ∗ atPos ER (dcell 2 45) 0 ∅ 0
        ∗ dutyTok ER (barCell 3) 0 (2 : Dev nD)
        ∗ dutyTok ER (barCell 1) 0 (2 : Dev nD)
        ∗ dutyTok ER (dcell 3 24) 0 (2 : Dev nD)
        ∗ dutyTok ER (dcell 1 28) 0 (2 : Dev nD)
        ∗ dutyTok ER (dcell 3 25) 0 (2 : Dev nD)
        ∗ dutyTok ER (dcell 1 29) 0 (2 : Dev nD)
        ∗ dutyTok ER (dcell 2 40) 0 (2 : Dev nD)
        ∗ dutyTok ER (dcell 2 41) 0 (2 : Dev nD)
        ∗ dutyTok ER (dcell 2 44) 0 (2 : Dev nD)
        ∗ dutyTok ER (dcell 2 45) 0 (2 : Dev nD)
        ∗ cred (tallyAt (barCell 2) 0 2)
        ∗ cred (tallyAt (dcell 2 24) 0 NB)
        ∗ cred (tallyAt (dcell 2 25) 0 NB)
        ∗ cred (tallyAt (dcell 2 26) 0 NB)
        ∗ cred (tallyAt (dcell 2 27) 0 NB)
        ∗ cred (tallyAt (dcell 2 28) 0 NB)
        ∗ cred (tallyAt (dcell 2 29) 0 NB)
        ∗ cred (tallyAt (dcell 2 30) 0 NB)
        ∗ cred (tallyAt (dcell 2 31) 0 NB)
        ∗ owes ((2 : Dev nD) : Thread nD τ) (tallyAt (barCell 3) 0 1 + tallyAt (barCell 1) 0 1 + tallyAt (dcell 3 24) 0 NB + tallyAt (dcell 1 28) 0 NB + tallyAt (dcell 3 25) 0 NB + tallyAt (dcell 1 29) 0 NB) W
        ∗ pt 2 cc0_stg5_0 fullShare o0
        ∗ ptAny 2 cc0_scratch10
        ∗ ptAny 2 cc0_scratch11
        ∗ ptAny 2 cc0_scratch12
        ∗ ptAny 2 cc0_scratch13
        ∗ ptAny 2 cc0_scratch14
        ∗ ptAny 2 cc0_scratch15
        ∗ ptAny 2 cc0_scratch16
        ∗ ptAny 2 cc0_scratch17
        ∗ (((∃ W, owes ((2 : Dev nD) : Thread nD τ) (0 : CellTallies nD τ sig ℕ) W)
        ∗ pt 2 cc0_stg5_0 fullShare (outOf fun b => ext (D.ob b))
        ∗ ptAny 2 cc0_scratch10
        ∗ ptAny 2 cc0_scratch11
        ∗ ptAny 2 cc0_scratch12
        ∗ ptAny 2 cc0_scratch13
        ∗ ptAny 2 cc0_scratch14
        ∗ ptAny 2 cc0_scratch15
        ∗ ptAny 2 cc0_scratch16
        ∗ ptAny 2 cc0_scratch17
        ∗ atPos ER (barCell 2) 1 ∅ 0
        ∗ atPos ER (dcell 2 24) 1 ∅ 0
        ∗ atPos ER (dcell 2 25) 1 ∅ 0
        ∗ atPos ER (dcell 2 26) 1 ∅ 0
        ∗ atPos ER (dcell 2 27) 1 ∅ 0
        ∗ atPos ER (dcell 2 28) 1 ∅ 0
        ∗ atPos ER (dcell 2 29) 1 ∅ 0
        ∗ atPos ER (dcell 2 30) 1 ∅ 0
        ∗ atPos ER (dcell 2 31) 1 ∅ 0
        ∗ atPos ER (dcell 2 40) 1 ∅ 0
        ∗ atPos ER (dcell 2 41) 1 ∅ 0
        ∗ atPos ER (dcell 2 44) 1 ∅ 0
        ∗ atPos ER (dcell 2 45) 1 ∅ 0) -∗ Kt ⟨⟩))
      ⊢ wp frame (wpE (defs₀ (F := F)) 𝒱₀ ((2 : Dev nD) : Thread nD τ) none) Set.univ (bodyAt0 (F := F) t0_0) Kt := by
  iintro ⟨#HIb2, #HI2_24, #HI2_25, #HI2_26, #HI2_27, #HI2_28, #HI2_29, #HI2_30, #HI2_31, #HI2_40, #HI2_41, #HI2_44, #HI2_45, #HIb3, #HIb1, #HI3_24, #HI1_28, #HI3_25, #HI1_29, #Hrb3, #Hrb1, #Hr2_24, #Hr2_25, #Hr2_26, #Hr2_27, #Hr2_28, #Hr2_29, #Hr2_30, #Hr2_31, #Hr2_40, #Hr2_41, #Hr2_44, #Hr2_45, #Hlev, Hatb2, Hat2_24, Hat2_25, Hat2_26, Hat2_27, Hat2_28, Hat2_29, Hat2_30, Hat2_31, Hat2_40, Hat2_41, Hat2_44, Hat2_45, Htb3, Htb1, Ht3_24, Ht1_28, Ht3_25, Ht1_29, Ht2_40, Ht2_41, Ht2_44, Ht2_45, Hcb2, Hc2_24, Hc2_25, Hc2_26, Hc2_27, Hc2_28, Hc2_29, Hc2_30, Hc2_31, HO, H5, Ho0, Ho1, Ho2, Ho3, Ho4, Ho5, Ho6, Ho7, Hk⟩
  have h2 : ¬ k0_cond2 (2 : Dev nD) = 1#1 := by decide
  have h3 : ¬ k0_cond3 (2 : Dev nD) = 1#1 := by decide
  have h4 : ¬ k0_cond4 (2 : Dev nD) = 1#1 := by decide
  have h5 : ¬ k0_cond5 (2 : Dev nD) = 1#1 := by decide
  have h6 : k0_cond6 (2 : Dev nD) = 1#1 := by decide
  have h0 : Scalar.cmpi .ne (Scalar.extui (Scalar.cmpi .ne (Scalar.remsi (Scalar.divsi (Dev.word (2 : Dev nD)) 1#32) 4#32) 0#32) : BitVec 32) 0#32 = 1#1 := by decide
  have e1 : (⟨k0_dev1 2, k0_dev1_lt 2⟩ : Dev nD) = 3 := by decide
  have e2 : (⟨k0_dev2 2, k0_dev2_lt 2⟩ : Dev nD) = 1 := by decide
  have e24 : ∀ h, (⟨k0_dev24, h⟩ : Dev nD) = 3 := fun _ => Fin.ext k0_dev24_eq
  have e25 : ∀ h, (⟨k0_dev25, h⟩ : Dev nD) = 1 := fun _ => Fin.ext k0_dev25_eq
  have e26 : ∀ h, (⟨k0_dev26, h⟩ : Dev nD) = 3 := fun _ => Fin.ext k0_dev26_eq
  have e27 : ∀ h, (⟨k0_dev27, h⟩ : Dev nD) = 1 := fun _ => Fin.ext k0_dev27_eq
  have mw0 : (levAts L lv : sProp 𝕄) ⊢ MayWait ((2 : Dev nD) : Thread nD τ) (.reg barS) 0 (tallyAt (dcell 3 24) 0 NB + tallyAt (dcell 1 28) 0 NB + tallyAt (dcell 3 25) 0 NB + tallyAt (dcell 1 29) 0 NB) :=
    mayWait 2 _ le_rfl _ (by repeat' (first | exact above_zero _ | apply above_add | exact above_tally _ _ (by decide)))
  have mw1 : (levAts L lv : sProp 𝕄) ⊢ MayWait ((2 : Dev nD) : Thread nD τ) (.dma ((24 : Fin 48))) 0 (tallyAt (dcell 3 24) 0 NB + tallyAt (dcell 1 28) 0 NB + tallyAt (dcell 3 25) 0 NB + tallyAt (dcell 1 29) 0 NB) :=
    mayWait 2 _ le_rfl _ (by repeat' (first | exact above_zero _ | apply above_add | exact above_tally _ _ (by decide)))
  have mw2 : (levAts L lv : sProp 𝕄) ⊢ MayWait ((2 : Dev nD) : Thread nD τ) (.dma ((28 : Fin 48))) 0 (tallyAt (dcell 1 28) 0 NB + tallyAt (dcell 3 25) 0 NB + tallyAt (dcell 1 29) 0 NB) :=
    mayWait 2 _ le_rfl _ (by repeat' (first | exact above_zero _ | apply above_add | exact above_tally _ _ (by decide)))
  have mw3 : (levAts L lv : sProp 𝕄) ⊢ MayWait ((2 : Dev nD) : Thread nD τ) (.dma ((25 : Fin 48))) 0 (tallyAt (dcell 3 25) 0 NB + tallyAt (dcell 1 29) 0 NB) :=
    mayWait 2 _ le_rfl _ (by repeat' (first | exact above_zero _ | apply above_add | exact above_tally _ _ (by decide)))
  have mw4 : (levAts L lv : sProp 𝕄) ⊢ MayWait ((2 : Dev nD) : Thread nD τ) (.dma ((29 : Fin 48))) 0 (tallyAt (dcell 1 29) 0 NB) :=
    mayWait 2 _ le_rfl _ (by repeat' (first | exact above_zero _ | apply above_add | exact above_tally _ _ (by decide)))
  unfold bodyAt0
  rw [cc0_body_eq_skeleton]; unfold cc0_body_skel
  rw [k0_part56_eq_skeleton]; unfold k0_part56_skel
  simp only [semSignalWord, semWaitWord, Prog.lift, Prog.bind_op, Prog.bind_ret, Prog.pure_eq_ret, wp_deviceId]
  sl_exec
  ihave Hbp := (Entails.of_eq (rfl : _ = (iprop(((∃ f : cc0_scratch10.ty.Contents (Elt F), ((Memref.whole cc0_scratch10).view.loc ((3 : Dev nD) : Thread nD τ) ↦{fullShare} f)) ∗ reached ER (dcell 3 24) 0 ∗ (∃ f : cc0_scratch11.ty.Contents (Elt F), ((Memref.whole cc0_scratch11).view.loc ((3 : Dev nD) : Thread nD τ) ↦{fullShare} f)) ∗ reached ER (dcell 3 25) 0) ∗ ((∃ f : cc0_scratch14.ty.Contents (Elt F), ((Memref.whole cc0_scratch14).view.loc ((1 : Dev nD) : Thread nD τ) ↦{fullShare} f)) ∗ reached ER (dcell 1 28) 0 ∗ (∃ f : cc0_scratch15.ty.Contents (Elt F), ((Memref.whole cc0_scratch15).view.loc ((1 : Dev nD) : Thread nD τ) ↦{fullShare} f)) ∗ reached ER (dcell 1 29) 0)) : sProp 𝕄))) $$ Hatb2_pay1
  icases Hbp with ⟨⟨⟨%g3_0, Hg3_0⟩, #Hq3_0, ⟨%g3_1, Hg3_1⟩, #Hq3_1⟩, ⟨⟨%g1_4, Hg1_4⟩, #Hq1_4, ⟨%g1_5, Hg1_5⟩, #Hq1_5⟩⟩
  ihave Hh := (pt_halves 2 cc0_scratch10 (D.ob 0)).1 $$ Hat2_24_pay1
  icases Hh with ⟨Ha0, Hb0⟩
  sl_exec
  ihave Hh := (pt_halves 2 cc0_scratch14 (D.ob 4)).1 $$ Hat2_28_pay1
  icases Hh with ⟨Ha4, Hb4⟩
  sl_exec
  ihave Hh := (pt_halves 2 cc0_scratch11 (D.ob 1)).1 $$ Hat2_25_pay1
  icases Hh with ⟨Ha1, Hb1⟩
  sl_exec
  ihave Hh := (pt_halves 2 cc0_scratch15 (D.ob 5)).1 $$ Hat2_29_pay1
  icases Hh with ⟨Ha5, Hb5⟩
  sl_exec
  sl_step
  have hw : (Memref.whole cc0_stg5_0 : Memref sig .tc .vmem S1x1024x1024 .f32).view.writes (Elt F) o0
      [⟨Rect.unit (s := S1x1024x1024) ![0, 896, 0] S1x128x1024.size inb_S1x1024x1024_S1x128x1024_0_896_0, run2.sl.v125 D⟩, ⟨Rect.unit (s := S1x1024x1024) ![0, 384, 0] S1x128x1024.size inb_S1x1024x1024_S1x128x1024_0_384_0, run2.sl.v116 D⟩, ⟨Rect.unit (s := S1x1024x1024) ![0, 768, 0] S1x128x1024.size inb_S1x1024x1024_S1x128x1024_0_768_0, run2.sl.v107 D⟩, ⟨Rect.unit (s := S1x1024x1024) ![0, 256, 0] S1x128x1024.size inb_S1x1024x1024_S1x128x1024_0_256_0, run2.sl.v98 D⟩, ⟨Rect.unit (s := S1x1024x1024) ![0, 640, 0] S1x128x1024.size inb_S1x1024x1024_S1x128x1024_0_640_0, run2.sl.v89 D⟩, ⟨Rect.unit (s := S1x1024x1024) ![0, 128, 0] S1x128x1024.size inb_S1x1024x1024_S1x128x1024_0_128_0, run2.sl.v74 D⟩, ⟨Rect.unit (s := S1x1024x1024) ![0, 512, 0] S1x128x1024.size inb_S1x1024x1024_S1x128x1024_0_512_0, run2.sl.v59 D⟩, ⟨Rect.unit (s := S1x1024x1024) ![0, 0, 0] S1x128x1024.size inb_S1x1024x1024_S1x128x1024_0_0_0, run2.sl.v44 D⟩] = outOf fun b => ext (D.ob b) := out_writesR D.ob o0 [7, 3, 6, 2, 5, 1, 4, 0] (by decide)
  ihave H5 := (pt_congr 2 cc0_stg5_0 fullShare hw) $$ H5
  ihave Hj10 := (pt_halves 2 cc0_scratch10 (D.ob 0)).2 $$ [Hat2_40_pay1 Hb0]
  · isplitl [Hat2_40_pay1]; · iexact Hat2_40_pay1
    iexact Hb0
  ihave Hj11 := (pt_halves 2 cc0_scratch11 (D.ob 1)).2 $$ [Hat2_41_pay1 Hb1]
  · isplitl [Hat2_41_pay1]; · iexact Hat2_41_pay1
    iexact Hb1
  ihave Hj14 := (pt_halves 2 cc0_scratch14 (D.ob 4)).2 $$ [Hat2_44_pay1 Hb4]
  · isplitl [Hat2_44_pay1]; · iexact Hat2_44_pay1
    iexact Hb4
  ihave Hj15 := (pt_halves 2 cc0_scratch15 (D.ob 5)).2 $$ [Hat2_45_pay1 Hb5]
  · isplitl [Hat2_45_pay1]; · iexact Hat2_45_pay1
    iexact Hb5
  iapply Hk
  isplitl [HO]; · iexists _; iexact HO
  isplitl [H5]; · iexact H5
  isplitl [Hj10]; · iexists _; iexact Hj10
  isplitl [Hj11]; · iexists _; iexact Hj11
  isplitl [Hat2_26_pay1]; · iexists _; iexact Hat2_26_pay1
  isplitl [Hat2_27_pay1]; · iexists _; iexact Hat2_27_pay1
  isplitl [Hj14]; · iexists _; iexact Hj14
  isplitl [Hj15]; · iexists _; iexact Hj15
  isplitl [Hat2_30_pay1]; · iexists _; iexact Hat2_30_pay1
  isplitl [Hat2_31_pay1]; · iexists _; iexact Hat2_31_pay1
  isplitl [Hatb2]; · iexact Hatb2
  isplitl [Hat2_24]; · iexact Hat2_24
  isplitl [Hat2_25]; · iexact Hat2_25
  isplitl [Hat2_26]; · iexact Hat2_26
  isplitl [Hat2_27]; · iexact Hat2_27
  isplitl [Hat2_28]; · iexact Hat2_28
  isplitl [Hat2_29]; · iexact Hat2_29
  isplitl [Hat2_30]; · iexact Hat2_30
  isplitl [Hat2_31]; · iexact Hat2_31
  isplitl [Hat2_40]; · iexact Hat2_40
  isplitl [Hat2_41]; · iexact Hat2_41
  isplitl [Hat2_44]; · iexact Hat2_44
  iexact Hat2_45

end Cert.KernelIdeal.Talk

end
-- ==== Proof.Run3.lean ====
/-
  Device 3 runs the kernel.
-/
module

public import proofs.«01_k».proof.Proof.Run2

@[expose] public section

set_option maxRecDepth 16384

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig ℕ (Elt F) ℕ UU ℕ

variable (D : Vals F)

attribute [local irreducible] k0_dev3 k0_dev4 k0_dev5 k0_dev6 k0_dev7 k0_dev8 k0_dev9 k0_dev10 k0_dev11 k0_dev12 k0_dev13 k0_dev14 k0_dev15 k0_dev16 k0_dev17 k0_dev18 k0_dev19 k0_dev20 k0_dev21 k0_dev22 k0_dev23 k0_dev24 k0_dev25 k0_dev26 k0_dev27

set_option maxHeartbeats 2000000 in
theorem run3 (K : GSem nD τ sig → ℕ) (W : Waits sig ℕ) (Kt : PUnit → sProp 𝕄) (o0 : FVec F S1x1024x1024 .f32) :
    iprop(cellInv ER (Rd D) (K (barCell 3)) (barCell 3)
        ∗ cellInv ER (Rd D) (K (dcell 3 24)) (dcell 3 24)
        ∗ cellInv ER (Rd D) (K (dcell 3 25)) (dcell 3 25)
        ∗ cellInv ER (Rd D) (K (dcell 3 26)) (dcell 3 26)
        ∗ cellInv ER (Rd D) (K (dcell 3 27)) (dcell 3 27)
        ∗ cellInv ER (Rd D) (K (dcell 3 28)) (dcell 3 28)
        ∗ cellInv ER (Rd D) (K (dcell 3 29)) (dcell 3 29)
        ∗ cellInv ER (Rd D) (K (dcell 3 30)) (dcell 3 30)
        ∗ cellInv ER (Rd D) (K (dcell 3 31)) (dcell 3 31)
        ∗ cellInv ER (Rd D) (K (dcell 3 36)) (dcell 3 36)
        ∗ cellInv ER (Rd D) (K (dcell 3 37)) (dcell 3 37)
        ∗ cellInv ER (Rd D) (K (dcell 3 38)) (dcell 3 38)
        ∗ cellInv ER (Rd D) (K (dcell 3 39)) (dcell 3 39)
        ∗ cellInv ER (Rd D) (K (barCell 0)) (barCell 0)
        ∗ cellInv ER (Rd D) (K (barCell 2)) (barCell 2)
        ∗ cellInv ER (Rd D) (K (dcell 2 28)) (dcell 2 28)
        ∗ cellInv ER (Rd D) (K (dcell 2 29)) (dcell 2 29)
        ∗ cellInv ER (Rd D) (K (dcell 2 30)) (dcell 2 30)
        ∗ cellInv ER (Rd D) (K (dcell 2 31)) (dcell 2 31)
        ∗ reached ER (barCell 0) 0
        ∗ reached ER (barCell 2) 0
        ∗ reached ER (dcell 3 24) 0
        ∗ reached ER (dcell 3 25) 0
        ∗ reached ER (dcell 3 26) 0
        ∗ reached ER (dcell 3 27) 0
        ∗ reached ER (dcell 3 28) 0
        ∗ reached ER (dcell 3 29) 0
        ∗ reached ER (dcell 3 30) 0
        ∗ reached ER (dcell 3 31) 0
        ∗ reached ER (dcell 3 36) 0
        ∗ reached ER (dcell 3 37) 0
        ∗ reached ER (dcell 3 38) 0
        ∗ reached ER (dcell 3 39) 0
        ∗ levAts L lv
        ∗ atPos ER (barCell 3) 0 ∅ 0
        ∗ atPos ER (dcell 3 24) 0 ∅ 0
        ∗ atPos ER (dcell 3 25) 0 ∅ 0
        ∗ atPos ER (dcell 3 26) 0 ∅ 0
        ∗ atPos ER (dcell 3 27) 0 ∅ 0
        ∗ atPos ER (dcell 3 28) 0 ∅ 0
        ∗ atPos ER (dcell 3 29) 0 ∅ 0
        ∗ atPos ER (dcell 3 30) 0 ∅ 0
        ∗ atPos ER (dcell 3 31) 0 ∅ 0
        ∗ atPos ER (dcell 3 36) 0 ∅ 0
        ∗ atPos ER (dcell 3 37) 0 ∅ 0
        ∗ atPos ER (dcell 3 38) 0 ∅ 0
        ∗ atPos ER (dcell 3 39) 0 ∅ 0
        ∗ dutyTok ER (barCell 0) 0 (3 : Dev nD)
        ∗ dutyTok ER (barCell 2) 0 (3 : Dev nD)
        ∗ dutyTok ER (dcell 2 28) 0 (3 : Dev nD)
        ∗ dutyTok ER (dcell 2 29) 0 (3 : Dev nD)
        ∗ dutyTok ER (dcell 2 30) 0 (3 : Dev nD)
        ∗ dutyTok ER (dcell 2 31) 0 (3 : Dev nD)
        ∗ dutyTok ER (dcell 3 36) 0 (3 : Dev nD)
        ∗ dutyTok ER (dcell 3 37) 0 (3 : Dev nD)
        ∗ dutyTok ER (dcell 3 38) 0 (3 : Dev nD)
        ∗ dutyTok ER (dcell 3 39) 0 (3 : Dev nD)
        ∗ cred (tallyAt (barCell 3) 0 2)
        ∗ cred (tallyAt (dcell 3 24) 0 NB)
        ∗ cred (tallyAt (dcell 3 25) 0 NB)
        ∗ cred (tallyAt (dcell 3 26) 0 NB)
        ∗ cred (tallyAt (dcell 3 27) 0 NB)
        ∗ cred (tallyAt (dcell 3 28) 0 NB)
        ∗ cred (tallyAt (dcell 3 29) 0 NB)
        ∗ cred (tallyAt (dcell 3 30) 0 NB)
        ∗ cred (tallyAt (dcell 3 31) 0 NB)
        ∗ owes ((3 : Dev nD) : Thread nD τ) (tallyAt (barCell 0) 0 1 + tallyAt (barCell 2) 0 1 + tallyAt (dcell 2 28) 0 NB + tallyAt (dcell 2 29) 0 NB + tallyAt (dcell 2 30) 0 NB + tallyAt (dcell 2 31) 0 NB) W
        ∗ pt 3 cc0_stg5_0 fullShare o0
        ∗ ptAny 3 cc0_scratch10
        ∗ ptAny 3 cc0_scratch11
        ∗ ptAny 3 cc0_scratch12
        ∗ ptAny 3 cc0_scratch13
        ∗ ptAny 3 cc0_scratch14
        ∗ ptAny 3 cc0_scratch15
        ∗ ptAny 3 cc0_scratch16
        ∗ ptAny 3 cc0_scratch17
        ∗ (((∃ W, owes ((3 : Dev nD) : Thread nD τ) (0 : CellTallies nD τ sig ℕ) W)
        ∗ pt 3 cc0_stg5_0 fullShare (outOf fun b => ext (D.ob b))
        ∗ ptAny 3 cc0_scratch10
        ∗ ptAny 3 cc0_scratch11
        ∗ ptAny 3 cc0_scratch12
        ∗ ptAny 3 cc0_scratch13
        ∗ ptAny 3 cc0_scratch14
        ∗ ptAny 3 cc0_scratch15
        ∗ ptAny 3 cc0_scratch16
        ∗ ptAny 3 cc0_scratch17
        ∗ atPos ER (barCell 3) 1 ∅ 0
        ∗ atPos ER (dcell 3 24) 1 ∅ 0
        ∗ atPos ER (dcell 3 25) 1 ∅ 0
        ∗ atPos ER (dcell 3 26) 1 ∅ 0
        ∗ atPos ER (dcell 3 27) 1 ∅ 0
        ∗ atPos ER (dcell 3 28) 1 ∅ 0
        ∗ atPos ER (dcell 3 29) 1 ∅ 0
        ∗ atPos ER (dcell 3 30) 1 ∅ 0
        ∗ atPos ER (dcell 3 31) 1 ∅ 0
        ∗ atPos ER (dcell 3 36) 1 ∅ 0
        ∗ atPos ER (dcell 3 37) 1 ∅ 0
        ∗ atPos ER (dcell 3 38) 1 ∅ 0
        ∗ atPos ER (dcell 3 39) 1 ∅ 0) -∗ Kt ⟨⟩))
      ⊢ wp frame (wpE (defs₀ (F := F)) 𝒱₀ ((3 : Dev nD) : Thread nD τ) none) Set.univ (bodyAt0 (F := F) t0_0) Kt := by
  iintro ⟨#HIb3, #HI3_24, #HI3_25, #HI3_26, #HI3_27, #HI3_28, #HI3_29, #HI3_30, #HI3_31, #HI3_36, #HI3_37, #HI3_38, #HI3_39, #HIb0, #HIb2, #HI2_28, #HI2_29, #HI2_30, #HI2_31, #Hrb0, #Hrb2, #Hr3_24, #Hr3_25, #Hr3_26, #Hr3_27, #Hr3_28, #Hr3_29, #Hr3_30, #Hr3_31, #Hr3_36, #Hr3_37, #Hr3_38, #Hr3_39, #Hlev, Hatb3, Hat3_24, Hat3_25, Hat3_26, Hat3_27, Hat3_28, Hat3_29, Hat3_30, Hat3_31, Hat3_36, Hat3_37, Hat3_38, Hat3_39, Htb0, Htb2, Ht2_28, Ht2_29, Ht2_30, Ht2_31, Ht3_36, Ht3_37, Ht3_38, Ht3_39, Hcb3, Hc3_24, Hc3_25, Hc3_26, Hc3_27, Hc3_28, Hc3_29, Hc3_30, Hc3_31, HO, H5, Ho0, Ho1, Ho2, Ho3, Ho4, Ho5, Ho6, Ho7, Hk⟩
  have h2 : ¬ k0_cond2 (3 : Dev nD) = 1#1 := by decide
  have h3 : ¬ k0_cond3 (3 : Dev nD) = 1#1 := by decide
  have h4 : ¬ k0_cond4 (3 : Dev nD) = 1#1 := by decide
  have h5 : k0_cond5 (3 : Dev nD) = 1#1 := by decide
  have h6 : ¬ k0_cond6 (3 : Dev nD) = 1#1 := by decide
  have h0 : Scalar.cmpi .ne (Scalar.extui (Scalar.cmpi .ne (Scalar.remsi (Scalar.divsi (Dev.word (3 : Dev nD)) 1#32) 4#32) 0#32) : BitVec 32) 0#32 = 1#1 := by decide
  have e1 : (⟨k0_dev1 3, k0_dev1_lt 3⟩ : Dev nD) = 0 := by decide
  have e2 : (⟨k0_dev2 3, k0_dev2_lt 3⟩ : Dev nD) = 2 := by decide
  have e20 : ∀ h, (⟨k0_dev20, h⟩ : Dev nD) = 2 := fun _ => Fin.ext k0_dev20_eq
  have e21 : ∀ h, (⟨k0_dev21, h⟩ : Dev nD) = 2 := fun _ => Fin.ext k0_dev21_eq
  have e22 : ∀ h, (⟨k0_dev22, h⟩ : Dev nD) = 2 := fun _ => Fin.ext k0_dev22_eq
  have e23 : ∀ h, (⟨k0_dev23, h⟩ : Dev nD) = 2 := fun _ => Fin.ext k0_dev23_eq
  have mw0 : (levAts L lv : sProp 𝕄) ⊢ MayWait ((3 : Dev nD) : Thread nD τ) (.reg barS) 0 (tallyAt (dcell 2 28) 0 NB + tallyAt (dcell 2 29) 0 NB + tallyAt (dcell 2 30) 0 NB + tallyAt (dcell 2 31) 0 NB) :=
    mayWait 3 _ le_rfl _ (by repeat' (first | exact above_zero _ | apply above_add | exact above_tally _ _ (by decide)))
  have mw1 : (levAts L lv : sProp 𝕄) ⊢ MayWait ((3 : Dev nD) : Thread nD τ) (.dma ((28 : Fin 48))) 0 (tallyAt (dcell 2 28) 0 NB + tallyAt (dcell 2 29) 0 NB + tallyAt (dcell 2 30) 0 NB + tallyAt (dcell 2 31) 0 NB) :=
    mayWait 3 _ le_rfl _ (by repeat' (first | exact above_zero _ | apply above_add | exact above_tally _ _ (by decide)))
  have mw2 : (levAts L lv : sProp 𝕄) ⊢ MayWait ((3 : Dev nD) : Thread nD τ) (.dma ((29 : Fin 48))) 0 (tallyAt (dcell 2 29) 0 NB + tallyAt (dcell 2 30) 0 NB + tallyAt (dcell 2 31) 0 NB) :=
    mayWait 3 _ le_rfl _ (by repeat' (first | exact above_zero _ | apply above_add | exact above_tally _ _ (by decide)))
  have mw3 : (levAts L lv : sProp 𝕄) ⊢ MayWait ((3 : Dev nD) : Thread nD τ) (.dma ((26 : Fin 48))) 0 (tallyAt (dcell 2 30) 0 NB + tallyAt (dcell 2 31) 0 NB) :=
    mayWait 3 _ le_rfl _ (by repeat' (first | exact above_zero _ | apply above_add | exact above_tally _ _ (by decide)))
  have mw4 : (levAts L lv : sProp 𝕄) ⊢ MayWait ((3 : Dev nD) : Thread nD τ) (.dma ((30 : Fin 48))) 0 (tallyAt (dcell 2 30) 0 NB + tallyAt (dcell 2 31) 0 NB) :=
    mayWait 3 _ le_rfl _ (by repeat' (first | exact above_zero _ | apply above_add | exact above_tally _ _ (by decide)))
  have mw5 : (levAts L lv : sProp 𝕄) ⊢ MayWait ((3 : Dev nD) : Thread nD τ) (.dma ((27 : Fin 48))) 0 (tallyAt (dcell 2 31) 0 NB) :=
    mayWait 3 _ le_rfl _ (by repeat' (first | exact above_zero _ | apply above_add | exact above_tally _ _ (by decide)))
  have mw6 : (levAts L lv : sProp 𝕄) ⊢ MayWait ((3 : Dev nD) : Thread nD τ) (.dma ((31 : Fin 48))) 0 (tallyAt (dcell 2 31) 0 NB) :=
    mayWait 3 _ le_rfl _ (by repeat' (first | exact above_zero _ | apply above_add | exact above_tally _ _ (by decide)))
  unfold bodyAt0
  rw [cc0_body_eq_skeleton]; unfold cc0_body_skel
  rw [k0_part56_eq_skeleton]; unfold k0_part56_skel
  simp only [semSignalWord, semWaitWord, Prog.lift, Prog.bind_op, Prog.bind_ret, Prog.pure_eq_ret, wp_deviceId]
  sl_exec
  ihave Hx := (Entails.of_eq (rfl : _ = (iprop((∃ f : cc0_scratch14.ty.Contents (Elt F), ((Memref.whole cc0_scratch14).view.loc ((2 : Dev nD) : Thread nD τ) ↦{fullShare} f))) : sProp 𝕄))) $$ Hatb3_pay1
  icases Hx with ⟨%g2_4, Hg2_4⟩
  ihave Hx := (Entails.of_eq (rfl : _ = (iprop((∃ f : cc0_scratch15.ty.Contents (Elt F), ((Memref.whole cc0_scratch15).view.loc ((2 : Dev nD) : Thread nD τ) ↦{fullShare} f))) : sProp 𝕄))) $$ Hatb3_pay3
  icases Hx with ⟨%g2_5, Hg2_5⟩
  ihave Hx := (Entails.of_eq (rfl : _ = (iprop((∃ f : cc0_scratch16.ty.Contents (Elt F), ((Memref.whole cc0_scratch16).view.loc ((2 : Dev nD) : Thread nD τ) ↦{fullShare} f))) : sProp 𝕄))) $$ Hatb3_pay5
  icases Hx with ⟨%g2_6, Hg2_6⟩
  ihave Hx := (Entails.of_eq (rfl : _ = (iprop((∃ f : cc0_scratch17.ty.Contents (Elt F), ((Memref.whole cc0_scratch17).view.loc ((2 : Dev nD) : Thread nD τ) ↦{fullShare} f))) : sProp 𝕄))) $$ Hatb3_pay7
  icases Hx with ⟨%g2_7, Hg2_7⟩
  ihave Hh := (pt_halves 3 cc0_scratch14 (D.ob 4)).1 $$ Hat3_28_pay1
  icases Hh with ⟨Ha4, Hb4⟩
  sl_exec
  ihave Hh := (pt_halves 3 cc0_scratch15 (D.ob 5)).1 $$ Hat3_29_pay1
  icases Hh with ⟨Ha5, Hb5⟩
  sl_exec
  ihave Hh := (pt_halves 3 cc0_scratch16 (D.ob 6)).1 $$ Hat3_30_pay1
  icases Hh with ⟨Ha6, Hb6⟩
  sl_exec
  ihave Hh := (pt_halves 3 cc0_scratch17 (D.ob 7)).1 $$ Hat3_31_pay1
  icases Hh with ⟨Ha7, Hb7⟩
  sl_exec
  sl_step
  have hw : (Memref.whole cc0_stg5_0 : Memref sig .tc .vmem S1x1024x1024 .f32).view.writes (Elt F) o0
      [⟨Rect.unit (s := S1x1024x1024) ![0, 128, 0] S1x128x1024.size inb_S1x1024x1024_S1x128x1024_0_128_0, run3.sl.v125 D⟩, ⟨Rect.unit (s := S1x1024x1024) ![0, 0, 0] S1x128x1024.size inb_S1x1024x1024_S1x128x1024_0_0_0, run3.sl.v116 D⟩, ⟨Rect.unit (s := S1x1024x1024) ![0, 896, 0] S1x128x1024.size inb_S1x1024x1024_S1x128x1024_0_896_0, run3.sl.v107 D⟩, ⟨Rect.unit (s := S1x1024x1024) ![0, 384, 0] S1x128x1024.size inb_S1x1024x1024_S1x128x1024_0_384_0, run3.sl.v92 D⟩, ⟨Rect.unit (s := S1x1024x1024) ![0, 768, 0] S1x128x1024.size inb_S1x1024x1024_S1x128x1024_0_768_0, run3.sl.v83 D⟩, ⟨Rect.unit (s := S1x1024x1024) ![0, 256, 0] S1x128x1024.size inb_S1x1024x1024_S1x128x1024_0_256_0, run3.sl.v68 D⟩, ⟨Rect.unit (s := S1x1024x1024) ![0, 640, 0] S1x128x1024.size inb_S1x1024x1024_S1x128x1024_0_640_0, run3.sl.v59 D⟩, ⟨Rect.unit (s := S1x1024x1024) ![0, 512, 0] S1x128x1024.size inb_S1x1024x1024_S1x128x1024_0_512_0, run3.sl.v44 D⟩] = outOf fun b => ext (D.ob b) := out_writesR D.ob o0 [1, 0, 7, 3, 6, 2, 5, 4] (by decide)
  ihave H5 := (pt_congr 3 cc0_stg5_0 fullShare hw) $$ H5
  ihave Hj14 := (pt_halves 3 cc0_scratch14 (D.ob 4)).2 $$ [Hat3_36_pay1 Hb4]
  · isplitl [Hat3_36_pay1]; · iexact Hat3_36_pay1
    iexact Hb4
  ihave Hj15 := (pt_halves 3 cc0_scratch15 (D.ob 5)).2 $$ [Hat3_37_pay1 Hb5]
  · isplitl [Hat3_37_pay1]; · iexact Hat3_37_pay1
    iexact Hb5
  ihave Hj16 := (pt_halves 3 cc0_scratch16 (D.ob 6)).2 $$ [Hat3_38_pay1 Hb6]
  · isplitl [Hat3_38_pay1]; · iexact Hat3_38_pay1
    iexact Hb6
  ihave Hj17 := (pt_halves 3 cc0_scratch17 (D.ob 7)).2 $$ [Hat3_39_pay1 Hb7]
  · isplitl [Hat3_39_pay1]; · iexact Hat3_39_pay1
    iexact Hb7
  iapply Hk
  isplitl [HO]; · iexists _; iexact HO
  isplitl [H5]; · iexact H5
  isplitl [Hat3_24_pay1]; · iexists _; iexact Hat3_24_pay1
  isplitl [Hat3_25_pay1]; · iexists _; iexact Hat3_25_pay1
  isplitl [Hat3_26_pay1]; · iexists _; iexact Hat3_26_pay1
  isplitl [Hat3_27_pay1]; · iexists _; iexact Hat3_27_pay1
  isplitl [Hj14]; · iexists _; iexact Hj14
  isplitl [Hj15]; · iexists _; iexact Hj15
  isplitl [Hj16]; · iexists _; iexact Hj16
  isplitl [Hj17]; · iexists _; iexact Hj17
  isplitl [Hatb3]; · iexact Hatb3
  isplitl [Hat3_24]; · iexact Hat3_24
  isplitl [Hat3_25]; · iexact Hat3_25
  isplitl [Hat3_26]; · iexact Hat3_26
  isplitl [Hat3_27]; · iexact Hat3_27
  isplitl [Hat3_28]; · iexact Hat3_28
  isplitl [Hat3_29]; · iexact Hat3_29
  isplitl [Hat3_30]; · iexact Hat3_30
  isplitl [Hat3_31]; · iexact Hat3_31
  isplitl [Hat3_36]; · iexact Hat3_36
  isplitl [Hat3_37]; · iexact Hat3_37
  isplitl [Hat3_38]; · iexact Hat3_38
  iexact Hat3_39

end Cert.KernelIdeal.Talk

end
-- ==== Proof.Ghost.lean ====
/-
  What the launch deals to each device, from the resources the library funds: the cells' invariants, the positions, the
  duty tokens and the credits, as each device's run takes them; the own cells opened before the run and closed after it.
-/
module

public import proofs.«01_k».proof.Proof.Run3

@[expose] public section

set_option maxRecDepth 16384

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig ℕ (Elt F) ℕ UU ℕ

variable (D : Vals F)

/-! ## The cells as a family -/

/-- The kernel's own DMA semaphores, 6 to 47. -/
abbrev ow (k : Fin 42) : Fin 48 := ⟨k.val + 6, by omega⟩
abbrev osem (k : Fin 42) : SemLoc sig := .dma (ow k)
theorem osem_inj : Function.Injective osem := by decide
def owE : Fin 42 ↪ SemLoc sig := ⟨osem, osem_inj⟩

/-- The own cells a device pays itself. -/
def depCells (c : Dev nD) : List (GSem nD τ sig) := match c with
  | 0 => [dcell 0 8, dcell 0 10, dcell 0 12, dcell 0 13, dcell 0 14, dcell 0 15, dcell 0 16, dcell 0 18, dcell 0 20, dcell 0 21, dcell 0 22, dcell 0 23]
  | 1 => [dcell 1 6, dcell 1 32, dcell 1 33, dcell 1 34, dcell 1 35]
  | 2 => [dcell 2 40, dcell 2 41, dcell 2 44, dcell 2 45]
  | 3 => [dcell 3 36, dcell 3 37, dcell 3 38, dcell 3 39]
/-- The duties device `c` pays. -/
def tokL (c : Dev nD) : List (GSem nD τ sig × ℕ × Dev nD) := (owedCells c ++ depCells c).map fun g => (g, 0, c)

def fam : TalkSites.Fam nD τ sig (Dev nD) 1 where
  bar := .reg barS
  dorm _ := Finset.univ.map owE
  toks c _ := (tokL c).toFinset
  semKey _ := 0
  hsem j _ _ := Subsingleton.elim _ _
  hbar _ := by decide
  tokKey x := (x.2.2, 0)
  htok c j x hx := by
    obtain ⟨g, -, rfl⟩ := List.mem_map.mp (List.mem_toFinset.mp hx)
    exact Prod.ext rfl (Subsingleton.elim _ _)

theorem inv_bar (κ : GSem nD τ sig → ℕ) (c : Dev nD) :
    (fam.cellInvs ER (Rd D) κ : sProp 𝕄) ⊢ cellInv ER (Rd D) (κ (barCell c)) (barCell c) := fam.cellInvs_bar ER (Rd D) κ c
theorem inv_ow (κ : GSem nD τ sig → ℕ) (c : Dev nD) (k : Fin 42) :
    (fam.cellInvs ER (Rd D) κ : sProp 𝕄) ⊢ cellInv ER (Rd D) (κ (dcell c (ow k))) (dcell c (ow k)) :=
  fam.cellInvs_dorm ER (Rd D) κ c (j := 0) (Finset.mem_map.mpr ⟨k, Finset.mem_univ _, rfl⟩)
theorem inv_dma (κ : GSem nD τ sig → ℕ) (c : Dev nD) (i : Fin 48) (h : 6 ≤ i.val) :
    (fam.cellInvs ER (Rd D) κ : sProp 𝕄) ⊢ cellInv ER (Rd D) (κ (dcell c i)) (dcell c i) := by
  have e : i = ow ⟨i.val - 6, by omega⟩ := Fin.ext (by show i.val = i.val - 6 + 6; omega)
  rw [e]; exact inv_ow D κ c _

/-! ## Updates under a big separating conjunction -/

theorem upd_all {I : Type} [DecidableEq I] (S : Finset I) {Φ Ψ : I → sProp 𝕄} {R : sProp 𝕄} [BI.Persistent R]
    (h : ∀ i ∈ S, iprop(R ∗ Φ i) ⊢ iprop(|={Set.univ}=> Ψ i)) : iprop(R ∗ bigSep S Φ) ⊢ iprop(|={Set.univ}=> bigSep S Ψ) := by
  induction S using Finset.induction_on with
  | empty =>
    rw [BI.bigSep_empty, BI.bigSep_empty]
    iintro ⟨-, -⟩; imodintro; iempintro
  | insert i S hi ih =>
    rw [show bigSep (insert i S) Φ = iprop(Φ i ∗ bigSep S Φ) from BI.bigSep_insert hi, show bigSep (insert i S) Ψ = iprop(Ψ i ∗ bigSep S Ψ) from BI.bigSep_insert hi]
    iintro ⟨#HR, Hi, HS⟩
    imod (h i (Finset.mem_insert_self i S)) $$ [Hi] with Hi'
    · isplitr; · iexact HR
      iexact Hi
    imod (ih fun j hj => h j (Finset.mem_insert_of_mem hj)) $$ [HS] with HS'
    · isplitr; · iexact HR
      iexact HS
    imodintro
    isplitl [Hi']; · iexact Hi'
    iexact HS'

/-! ## Opening and closing the own cells -/

def usedK (c : Dev nD) : Finset (Fin 42) := Finset.univ.filter fun k => (payer c (ow k)).isSome = true
def idleK (c : Dev nD) : Finset (Fin 42) := Finset.univ.filter fun k => ¬(payer c (ow k)).isSome = true

theorem split_used (c : Dev nD) (Φ : Fin 42 → sProp 𝕄) : bigSep Finset.univ Φ = iprop(bigSep (usedK c) Φ ∗ bigSep (idleK c) Φ) :=
  BI.bigSep_filter_split _ _

theorem open_all (κ : GSem nD τ sig → ℕ) (c : Dev nD) :
    iprop(fam.cellInvs ER (Rd D) κ ∗ (bigSep (fam.dorm 0) fun sm => openTok ER ((c.tc : Thread nD τ), sm)) ∗ Pipeline.ownSems0 osem c)
      ⊢ (iprop(|={Set.univ}=> (bigSep Finset.univ fun k : Fin 42 => iprop(atPos ER (dcell c (ow k)) 0 ∅ 0 ∗ reached ER (dcell c (ow k)) 0))) : sProp 𝕄) := by
  have e : (bigSep (fam.dorm 0) fun sm => (openTok ER ((c.tc : Thread nD τ), sm) : sProp 𝕄))
      = bigSep Finset.univ fun k : Fin 42 => openTok ER (dcell c (ow k)) := bigSep_map owE
  rw [e]
  unfold Pipeline.ownSems0
  rw [← bigSep_sep']
  refine upd_all Finset.univ fun k _ => ?_
  iintro ⟨#HI, Ho, Hv⟩
  ihave #Hc := (inv_ow D κ c k) $$ HI
  iapply (Rounds.cell_open ER (Rd D) (g := dcell c (ow k)) (Set.mem_univ (κ (dcell c (ow k)))))
  isplitr; · iexact Hc
  isplitl [Ho]; · iexact Ho
  iexact Hv

theorem close_used (κ : GSem nD τ sig → ℕ) (c : Dev nD) :
    iprop(fam.cellInvs ER (Rd D) κ ∗ (bigSep (usedK c) fun k => atPos ER (dcell c (ow k)) 1 ∅ 0))
      ⊢ (iprop(|={Set.univ}=> (bigSep (usedK c) fun k => semVal (dcell c (ow k)) 0)) : sProp 𝕄) := by
  refine upd_all _ fun k _ => ?_
  iintro ⟨#HI, Ha⟩
  ihave #Hc := (inv_ow D κ c k) $$ HI
  iapply (Rounds.cell_close ER (Rd D) (g := dcell c (ow k)) (Set.mem_univ (κ (dcell c (ow k)))) id (duties_later D _))
  isplitr; · iexact Hc
  iexact Ha
theorem close_idle (κ : GSem nD τ sig → ℕ) (c : Dev nD) :
    iprop(fam.cellInvs ER (Rd D) κ ∗ (bigSep (idleK c) fun k => atPos ER (dcell c (ow k)) 0 ∅ 0))
      ⊢ (iprop(|={Set.univ}=> (bigSep (idleK c) fun k => semVal (dcell c (ow k)) 0)) : sProp 𝕄) := by
  refine upd_all _ fun k hk => ?_
  have hn : payer c (ow k) = none := Option.not_isSome_iff_eq_none.mp (Finset.mem_filter.mp hk).2
  iintro ⟨#HI, Ha⟩
  ihave #Hc := (inv_ow D κ c k) $$ HI
  iapply (Rounds.cell_close ER (Rd D) (g := dcell c (ow k)) (Set.mem_univ (κ (dcell c (ow k)))) id (duties_none D hn))
  isplitr; · iexact Hc
  iexact Ha
theorem close_bar (κ : GSem nD τ sig → ℕ) (c : Dev nD) :
    iprop(fam.cellInvs ER (Rd D) κ ∗ atPos ER (barCell c) 1 ∅ 0) ⊢ (iprop(|={Set.univ}=> semVal (barCell c) 0) : sProp 𝕄) := by
  iintro ⟨#HI, Ha⟩
  ihave #Hc := (inv_bar D κ c) $$ HI
  iapply (Rounds.cell_close ER (Rd D) (g := barCell c) (Set.mem_univ (κ (barCell c))) id (duties_later D _))
  isplitr; · iexact Hc
  iexact Ha

/-! ## What a device's run takes -/

theorem amtN (i : Fin 48) (h : 8 ≤ i.val) : amt (.dma i : SemLoc sig) = NB := if_neg (by omega)
theorem amtS (i : Fin 48) (h : i.val < 8) : amt (.dma i : SemLoc sig) = NS := if_pos h
theorem amtB (s : Sem sig) : amt (.reg s : SemLoc sig) = 1 := rfl

/-- The own cells, opened; the barrier positions and words; the tokens and the credits. -/
def ghost (κ : GSem nD τ sig → ℕ) (c : Dev nD) : sProp 𝕄 :=
  iprop(fam.cellInvs ER (Rd D) κ ∗ (bigSep Finset.univ fun n : Dev nD => reached ER (barCell n) 0) ∗ levAts L lv
    ∗ (bigSep Finset.univ fun k : Fin 42 => reached ER (dcell c (ow k)) 0)
    ∗ atPos ER (barCell c) 0 ∅ 0 ∗ (bigSep (usedK c) fun k => atPos ER (dcell c (ow k)) 0 ∅ 0)
    ∗ (bigSep (fam.toks c 0) fun x => dutyTok ER x.1 x.2.1 x.2.2) ∗ cred (TalkSites.tallyL (TalkSites.credOf dueL c)))

theorem bars_at (n : Dev nD) : (bigSep Finset.univ fun n : Dev nD => reached ER (barCell n) 0 : sProp 𝕄) ⊢ reached ER (barCell n) 0 :=
  bigSep_elim (Finset.mem_univ n)
theorem own_at (c : Dev nD) (k : Fin 42) : (bigSep Finset.univ fun k : Fin 42 => reached ER (dcell c (ow k)) 0 : sProp 𝕄) ⊢ reached ER (dcell c (ow k)) 0 :=
  bigSep_elim (Finset.mem_univ k)

theorem used0_0 : (bigSep (usedK 0) fun k => (atPos ER (dcell 0 (ow k)) 0 ∅ 0 : sProp 𝕄))
    = iprop(atPos ER (dcell 0 7) 0 ∅ 0 ∗ atPos ER (dcell 0 8) 0 ∅ 0 ∗ atPos ER (dcell 0 10) 0 ∅ 0 ∗ atPos ER (dcell 0 12) 0 ∅ 0 ∗ atPos ER (dcell 0 13) 0 ∅ 0 ∗ atPos ER (dcell 0 14) 0 ∅ 0 ∗ atPos ER (dcell 0 15) 0 ∅ 0 ∗ atPos ER (dcell 0 16) 0 ∅ 0 ∗ atPos ER (dcell 0 18) 0 ∅ 0 ∗ atPos ER (dcell 0 20) 0 ∅ 0 ∗ atPos ER (dcell 0 21) 0 ∅ 0 ∗ atPos ER (dcell 0 22) 0 ∅ 0 ∗ atPos ER (dcell 0 23) 0 ∅ 0) :=
  bigSep_eq_bigSepL_of_eq [(1 : Fin 42), (2 : Fin 42), (4 : Fin 42), (6 : Fin 42), (7 : Fin 42), (8 : Fin 42), (9 : Fin 42), (10 : Fin 42), (12 : Fin 42), (14 : Fin 42), (15 : Fin 42), (16 : Fin 42), (17 : Fin 42)] (by decide) (by decide) _
theorem used0_1 : (bigSep (usedK 0) fun k => (atPos ER (dcell 0 (ow k)) 1 ∅ 0 : sProp 𝕄))
    = iprop(atPos ER (dcell 0 7) 1 ∅ 0 ∗ atPos ER (dcell 0 8) 1 ∅ 0 ∗ atPos ER (dcell 0 10) 1 ∅ 0 ∗ atPos ER (dcell 0 12) 1 ∅ 0 ∗ atPos ER (dcell 0 13) 1 ∅ 0 ∗ atPos ER (dcell 0 14) 1 ∅ 0 ∗ atPos ER (dcell 0 15) 1 ∅ 0 ∗ atPos ER (dcell 0 16) 1 ∅ 0 ∗ atPos ER (dcell 0 18) 1 ∅ 0 ∗ atPos ER (dcell 0 20) 1 ∅ 0 ∗ atPos ER (dcell 0 21) 1 ∅ 0 ∗ atPos ER (dcell 0 22) 1 ∅ 0 ∗ atPos ER (dcell 0 23) 1 ∅ 0) :=
  bigSep_eq_bigSepL_of_eq [(1 : Fin 42), (2 : Fin 42), (4 : Fin 42), (6 : Fin 42), (7 : Fin 42), (8 : Fin 42), (9 : Fin 42), (10 : Fin 42), (12 : Fin 42), (14 : Fin 42), (15 : Fin 42), (16 : Fin 42), (17 : Fin 42)] (by decide) (by decide) _
theorem toks0 : (bigSep (fam.toks 0 0) fun x => (dutyTok ER x.1 x.2.1 x.2.2 : sProp 𝕄))
    = iprop(dutyTok ER (barCell 1) 0 (0 : Dev nD) ∗ dutyTok ER (barCell 3) 0 (0 : Dev nD) ∗ dutyTok ER (dcell 1 24) 0 (0 : Dev nD) ∗ dutyTok ER (dcell 3 28) 0 (0 : Dev nD) ∗ dutyTok ER (dcell 1 25) 0 (0 : Dev nD) ∗ dutyTok ER (dcell 3 29) 0 (0 : Dev nD) ∗ dutyTok ER (dcell 1 26) 0 (0 : Dev nD) ∗ dutyTok ER (dcell 3 26) 0 (0 : Dev nD) ∗ dutyTok ER (dcell 3 30) 0 (0 : Dev nD) ∗ dutyTok ER (dcell 1 30) 0 (0 : Dev nD) ∗ dutyTok ER (dcell 1 27) 0 (0 : Dev nD) ∗ dutyTok ER (dcell 3 27) 0 (0 : Dev nD) ∗ dutyTok ER (dcell 3 31) 0 (0 : Dev nD) ∗ dutyTok ER (dcell 1 31) 0 (0 : Dev nD) ∗ dutyTok ER (dcell 0 8) 0 (0 : Dev nD) ∗ dutyTok ER (dcell 0 10) 0 (0 : Dev nD) ∗ dutyTok ER (dcell 0 12) 0 (0 : Dev nD) ∗ dutyTok ER (dcell 0 13) 0 (0 : Dev nD) ∗ dutyTok ER (dcell 0 14) 0 (0 : Dev nD) ∗ dutyTok ER (dcell 0 15) 0 (0 : Dev nD) ∗ dutyTok ER (dcell 0 16) 0 (0 : Dev nD) ∗ dutyTok ER (dcell 0 18) 0 (0 : Dev nD) ∗ dutyTok ER (dcell 0 20) 0 (0 : Dev nD) ∗ dutyTok ER (dcell 0 21) 0 (0 : Dev nD) ∗ dutyTok ER (dcell 0 22) 0 (0 : Dev nD) ∗ dutyTok ER (dcell 0 23) 0 (0 : Dev nD)) :=
  bigSep_eq_bigSepL_of_eq (tokL 0) rfl (by decide) _
theorem credL0 : TalkSites.credOf dueL 0 = ([(barCell 0, 0, amt (.reg barS : SemLoc sig)), (dcell 0 7, 0, amt (.dma (7 : Fin 48) : SemLoc sig)), (barCell 0, 0, amt (.reg barS : SemLoc sig))] : List (TalkSites.Pay nD τ sig)) := rfl
theorem creds0 : (cred (TalkSites.tallyL (TalkSites.credOf dueL 0)) : sProp 𝕄)
    = iprop(cred (tallyAt (barCell 0) 0 1) ∗ cred (tallyAt (dcell 0 7) 0 NS) ∗ cred (tallyAt (barCell 0) 0 1)) := by
  rw [TalkSites.cred_tallyL, credL0]
  simp only [amtB, amtS 7 (by decide)]
  rfl
theorem owed0 : (O₀ 0 : CellTallies nD τ sig ℕ) = tallyAt (barCell 1) 0 1 + tallyAt (barCell 3) 0 1 + tallyAt (dcell 1 24) 0 NB + tallyAt (dcell 3 28) 0 NB + tallyAt (dcell 1 25) 0 NB + tallyAt (dcell 3 29) 0 NB + tallyAt (dcell 1 26) 0 NB + tallyAt (dcell 3 26) 0 NB + tallyAt (dcell 3 30) 0 NB + tallyAt (dcell 1 30) 0 NB + tallyAt (dcell 1 27) 0 NB + tallyAt (dcell 3 27) 0 NB + tallyAt (dcell 3 31) 0 NB + tallyAt (dcell 1 31) 0 NB := by
  show TalkSites.tallyL ([(barCell 1, 0, amt (.reg barS : SemLoc sig)), (barCell 3, 0, amt (.reg barS : SemLoc sig)), (dcell 1 24, 0, amt (.dma (24 : Fin 48) : SemLoc sig)), (dcell 3 28, 0, amt (.dma (28 : Fin 48) : SemLoc sig)), (dcell 1 25, 0, amt (.dma (25 : Fin 48) : SemLoc sig)), (dcell 3 29, 0, amt (.dma (29 : Fin 48) : SemLoc sig)), (dcell 1 26, 0, amt (.dma (26 : Fin 48) : SemLoc sig)), (dcell 3 26, 0, amt (.dma (26 : Fin 48) : SemLoc sig)), (dcell 3 30, 0, amt (.dma (30 : Fin 48) : SemLoc sig)), (dcell 1 30, 0, amt (.dma (30 : Fin 48) : SemLoc sig)), (dcell 1 27, 0, amt (.dma (27 : Fin 48) : SemLoc sig)), (dcell 3 27, 0, amt (.dma (27 : Fin 48) : SemLoc sig)), (dcell 3 31, 0, amt (.dma (31 : Fin 48) : SemLoc sig)), (dcell 1 31, 0, amt (.dma (31 : Fin 48) : SemLoc sig))] : List (TalkSites.Pay nD τ sig)) = _
  simp only [amtB, amtN 24 (by decide), amtN 28 (by decide), amtN 25 (by decide), amtN 29 (by decide), amtN 26 (by decide), amtN 30 (by decide), amtN 27 (by decide), amtN 31 (by decide), TalkSites.tallyL, TalkSites.Pay.tally, add_zero, add_assoc]

theorem used1_0 : (bigSep (usedK 1) fun k => (atPos ER (dcell 1 (ow k)) 0 ∅ 0 : sProp 𝕄))
    = iprop(atPos ER (dcell 1 6) 0 ∅ 0 ∗ atPos ER (dcell 1 24) 0 ∅ 0 ∗ atPos ER (dcell 1 25) 0 ∅ 0 ∗ atPos ER (dcell 1 26) 0 ∅ 0 ∗ atPos ER (dcell 1 27) 0 ∅ 0 ∗ atPos ER (dcell 1 28) 0 ∅ 0 ∗ atPos ER (dcell 1 29) 0 ∅ 0 ∗ atPos ER (dcell 1 30) 0 ∅ 0 ∗ atPos ER (dcell 1 31) 0 ∅ 0 ∗ atPos ER (dcell 1 32) 0 ∅ 0 ∗ atPos ER (dcell 1 33) 0 ∅ 0 ∗ atPos ER (dcell 1 34) 0 ∅ 0 ∗ atPos ER (dcell 1 35) 0 ∅ 0) :=
  bigSep_eq_bigSepL_of_eq [(0 : Fin 42), (18 : Fin 42), (19 : Fin 42), (20 : Fin 42), (21 : Fin 42), (22 : Fin 42), (23 : Fin 42), (24 : Fin 42), (25 : Fin 42), (26 : Fin 42), (27 : Fin 42), (28 : Fin 42), (29 : Fin 42)] (by decide) (by decide) _
theorem used1_1 : (bigSep (usedK 1) fun k => (atPos ER (dcell 1 (ow k)) 1 ∅ 0 : sProp 𝕄))
    = iprop(atPos ER (dcell 1 6) 1 ∅ 0 ∗ atPos ER (dcell 1 24) 1 ∅ 0 ∗ atPos ER (dcell 1 25) 1 ∅ 0 ∗ atPos ER (dcell 1 26) 1 ∅ 0 ∗ atPos ER (dcell 1 27) 1 ∅ 0 ∗ atPos ER (dcell 1 28) 1 ∅ 0 ∗ atPos ER (dcell 1 29) 1 ∅ 0 ∗ atPos ER (dcell 1 30) 1 ∅ 0 ∗ atPos ER (dcell 1 31) 1 ∅ 0 ∗ atPos ER (dcell 1 32) 1 ∅ 0 ∗ atPos ER (dcell 1 33) 1 ∅ 0 ∗ atPos ER (dcell 1 34) 1 ∅ 0 ∗ atPos ER (dcell 1 35) 1 ∅ 0) :=
  bigSep_eq_bigSepL_of_eq [(0 : Fin 42), (18 : Fin 42), (19 : Fin 42), (20 : Fin 42), (21 : Fin 42), (22 : Fin 42), (23 : Fin 42), (24 : Fin 42), (25 : Fin 42), (26 : Fin 42), (27 : Fin 42), (28 : Fin 42), (29 : Fin 42)] (by decide) (by decide) _
theorem toks1 : (bigSep (fam.toks 1 0) fun x => (dutyTok ER x.1 x.2.1 x.2.2 : sProp 𝕄))
    = iprop(dutyTok ER (barCell 2) 0 (1 : Dev nD) ∗ dutyTok ER (barCell 0) 0 (1 : Dev nD) ∗ dutyTok ER (dcell 0 7) 0 (1 : Dev nD) ∗ dutyTok ER (dcell 2 24) 0 (1 : Dev nD) ∗ dutyTok ER (dcell 2 25) 0 (1 : Dev nD) ∗ dutyTok ER (dcell 2 26) 0 (1 : Dev nD) ∗ dutyTok ER (dcell 2 27) 0 (1 : Dev nD) ∗ dutyTok ER (dcell 1 6) 0 (1 : Dev nD) ∗ dutyTok ER (dcell 1 32) 0 (1 : Dev nD) ∗ dutyTok ER (dcell 1 33) 0 (1 : Dev nD) ∗ dutyTok ER (dcell 1 34) 0 (1 : Dev nD) ∗ dutyTok ER (dcell 1 35) 0 (1 : Dev nD)) :=
  bigSep_eq_bigSepL_of_eq (tokL 1) rfl (by decide) _
theorem credL1 : TalkSites.credOf dueL 1 = ([(barCell 1, 0, amt (.reg barS : SemLoc sig)), (dcell 1 24, 0, amt (.dma (24 : Fin 48) : SemLoc sig)), (dcell 1 25, 0, amt (.dma (25 : Fin 48) : SemLoc sig)), (dcell 1 26, 0, amt (.dma (26 : Fin 48) : SemLoc sig)), (dcell 1 30, 0, amt (.dma (30 : Fin 48) : SemLoc sig)), (dcell 1 27, 0, amt (.dma (27 : Fin 48) : SemLoc sig)), (dcell 1 31, 0, amt (.dma (31 : Fin 48) : SemLoc sig)), (barCell 1, 0, amt (.reg barS : SemLoc sig)), (dcell 1 28, 0, amt (.dma (28 : Fin 48) : SemLoc sig)), (dcell 1 29, 0, amt (.dma (29 : Fin 48) : SemLoc sig))] : List (TalkSites.Pay nD τ sig)) := rfl
theorem creds1 : (cred (TalkSites.tallyL (TalkSites.credOf dueL 1)) : sProp 𝕄)
    = iprop(cred (tallyAt (barCell 1) 0 1) ∗ cred (tallyAt (dcell 1 24) 0 NB) ∗ cred (tallyAt (dcell 1 25) 0 NB) ∗ cred (tallyAt (dcell 1 26) 0 NB) ∗ cred (tallyAt (dcell 1 30) 0 NB) ∗ cred (tallyAt (dcell 1 27) 0 NB) ∗ cred (tallyAt (dcell 1 31) 0 NB) ∗ cred (tallyAt (barCell 1) 0 1) ∗ cred (tallyAt (dcell 1 28) 0 NB) ∗ cred (tallyAt (dcell 1 29) 0 NB)) := by
  rw [TalkSites.cred_tallyL, credL1]
  simp only [amtB, amtN 24 (by decide), amtN 25 (by decide), amtN 26 (by decide), amtN 30 (by decide), amtN 27 (by decide), amtN 31 (by decide), amtN 28 (by decide), amtN 29 (by decide)]
  rfl
theorem owed1 : (O₀ 1 : CellTallies nD τ sig ℕ) = tallyAt (barCell 2) 0 1 + tallyAt (barCell 0) 0 1 + tallyAt (dcell 0 7) 0 NS + tallyAt (dcell 2 24) 0 NB + tallyAt (dcell 2 25) 0 NB + tallyAt (dcell 2 26) 0 NB + tallyAt (dcell 2 27) 0 NB := by
  show TalkSites.tallyL ([(barCell 2, 0, amt (.reg barS : SemLoc sig)), (barCell 0, 0, amt (.reg barS : SemLoc sig)), (dcell 0 7, 0, amt (.dma (7 : Fin 48) : SemLoc sig)), (dcell 2 24, 0, amt (.dma (24 : Fin 48) : SemLoc sig)), (dcell 2 25, 0, amt (.dma (25 : Fin 48) : SemLoc sig)), (dcell 2 26, 0, amt (.dma (26 : Fin 48) : SemLoc sig)), (dcell 2 27, 0, amt (.dma (27 : Fin 48) : SemLoc sig))] : List (TalkSites.Pay nD τ sig)) = _
  simp only [amtB, amtS 7 (by decide), amtN 24 (by decide), amtN 25 (by decide), amtN 26 (by decide), amtN 27 (by decide), TalkSites.tallyL, TalkSites.Pay.tally, add_zero, add_assoc]

theorem used2_0 : (bigSep (usedK 2) fun k => (atPos ER (dcell 2 (ow k)) 0 ∅ 0 : sProp 𝕄))
    = iprop(atPos ER (dcell 2 24) 0 ∅ 0 ∗ atPos ER (dcell 2 25) 0 ∅ 0 ∗ atPos ER (dcell 2 26) 0 ∅ 0 ∗ atPos ER (dcell 2 27) 0 ∅ 0 ∗ atPos ER (dcell 2 28) 0 ∅ 0 ∗ atPos ER (dcell 2 29) 0 ∅ 0 ∗ atPos ER (dcell 2 30) 0 ∅ 0 ∗ atPos ER (dcell 2 31) 0 ∅ 0 ∗ atPos ER (dcell 2 40) 0 ∅ 0 ∗ atPos ER (dcell 2 41) 0 ∅ 0 ∗ atPos ER (dcell 2 44) 0 ∅ 0 ∗ atPos ER (dcell 2 45) 0 ∅ 0) :=
  bigSep_eq_bigSepL_of_eq [(18 : Fin 42), (19 : Fin 42), (20 : Fin 42), (21 : Fin 42), (22 : Fin 42), (23 : Fin 42), (24 : Fin 42), (25 : Fin 42), (34 : Fin 42), (35 : Fin 42), (38 : Fin 42), (39 : Fin 42)] (by decide) (by decide) _
theorem used2_1 : (bigSep (usedK 2) fun k => (atPos ER (dcell 2 (ow k)) 1 ∅ 0 : sProp 𝕄))
    = iprop(atPos ER (dcell 2 24) 1 ∅ 0 ∗ atPos ER (dcell 2 25) 1 ∅ 0 ∗ atPos ER (dcell 2 26) 1 ∅ 0 ∗ atPos ER (dcell 2 27) 1 ∅ 0 ∗ atPos ER (dcell 2 28) 1 ∅ 0 ∗ atPos ER (dcell 2 29) 1 ∅ 0 ∗ atPos ER (dcell 2 30) 1 ∅ 0 ∗ atPos ER (dcell 2 31) 1 ∅ 0 ∗ atPos ER (dcell 2 40) 1 ∅ 0 ∗ atPos ER (dcell 2 41) 1 ∅ 0 ∗ atPos ER (dcell 2 44) 1 ∅ 0 ∗ atPos ER (dcell 2 45) 1 ∅ 0) :=
  bigSep_eq_bigSepL_of_eq [(18 : Fin 42), (19 : Fin 42), (20 : Fin 42), (21 : Fin 42), (22 : Fin 42), (23 : Fin 42), (24 : Fin 42), (25 : Fin 42), (34 : Fin 42), (35 : Fin 42), (38 : Fin 42), (39 : Fin 42)] (by decide) (by decide) _
theorem toks2 : (bigSep (fam.toks 2 0) fun x => (dutyTok ER x.1 x.2.1 x.2.2 : sProp 𝕄))
    = iprop(dutyTok ER (barCell 3) 0 (2 : Dev nD) ∗ dutyTok ER (barCell 1) 0 (2 : Dev nD) ∗ dutyTok ER (dcell 3 24) 0 (2 : Dev nD) ∗ dutyTok ER (dcell 1 28) 0 (2 : Dev nD) ∗ dutyTok ER (dcell 3 25) 0 (2 : Dev nD) ∗ dutyTok ER (dcell 1 29) 0 (2 : Dev nD) ∗ dutyTok ER (dcell 2 40) 0 (2 : Dev nD) ∗ dutyTok ER (dcell 2 41) 0 (2 : Dev nD) ∗ dutyTok ER (dcell 2 44) 0 (2 : Dev nD) ∗ dutyTok ER (dcell 2 45) 0 (2 : Dev nD)) :=
  bigSep_eq_bigSepL_of_eq (tokL 2) rfl (by decide) _
theorem credL2 : TalkSites.credOf dueL 2 = ([(barCell 2, 0, amt (.reg barS : SemLoc sig)), (dcell 2 24, 0, amt (.dma (24 : Fin 48) : SemLoc sig)), (dcell 2 25, 0, amt (.dma (25 : Fin 48) : SemLoc sig)), (dcell 2 26, 0, amt (.dma (26 : Fin 48) : SemLoc sig)), (dcell 2 27, 0, amt (.dma (27 : Fin 48) : SemLoc sig)), (barCell 2, 0, amt (.reg barS : SemLoc sig)), (dcell 2 28, 0, amt (.dma (28 : Fin 48) : SemLoc sig)), (dcell 2 29, 0, amt (.dma (29 : Fin 48) : SemLoc sig)), (dcell 2 30, 0, amt (.dma (30 : Fin 48) : SemLoc sig)), (dcell 2 31, 0, amt (.dma (31 : Fin 48) : SemLoc sig))] : List (TalkSites.Pay nD τ sig)) := rfl
theorem creds2 : (cred (TalkSites.tallyL (TalkSites.credOf dueL 2)) : sProp 𝕄)
    = iprop(cred (tallyAt (barCell 2) 0 1) ∗ cred (tallyAt (dcell 2 24) 0 NB) ∗ cred (tallyAt (dcell 2 25) 0 NB) ∗ cred (tallyAt (dcell 2 26) 0 NB) ∗ cred (tallyAt (dcell 2 27) 0 NB) ∗ cred (tallyAt (barCell 2) 0 1) ∗ cred (tallyAt (dcell 2 28) 0 NB) ∗ cred (tallyAt (dcell 2 29) 0 NB) ∗ cred (tallyAt (dcell 2 30) 0 NB) ∗ cred (tallyAt (dcell 2 31) 0 NB)) := by
  rw [TalkSites.cred_tallyL, credL2]
  simp only [amtB, amtN 24 (by decide), amtN 25 (by decide), amtN 26 (by decide), amtN 27 (by decide), amtN 28 (by decide), amtN 29 (by decide), amtN 30 (by decide), amtN 31 (by decide)]
  rfl
theorem owed2 : (O₀ 2 : CellTallies nD τ sig ℕ) = tallyAt (barCell 3) 0 1 + tallyAt (barCell 1) 0 1 + tallyAt (dcell 3 24) 0 NB + tallyAt (dcell 1 28) 0 NB + tallyAt (dcell 3 25) 0 NB + tallyAt (dcell 1 29) 0 NB := by
  show TalkSites.tallyL ([(barCell 3, 0, amt (.reg barS : SemLoc sig)), (barCell 1, 0, amt (.reg barS : SemLoc sig)), (dcell 3 24, 0, amt (.dma (24 : Fin 48) : SemLoc sig)), (dcell 1 28, 0, amt (.dma (28 : Fin 48) : SemLoc sig)), (dcell 3 25, 0, amt (.dma (25 : Fin 48) : SemLoc sig)), (dcell 1 29, 0, amt (.dma (29 : Fin 48) : SemLoc sig))] : List (TalkSites.Pay nD τ sig)) = _
  simp only [amtB, amtN 24 (by decide), amtN 28 (by decide), amtN 25 (by decide), amtN 29 (by decide), TalkSites.tallyL, TalkSites.Pay.tally, add_zero, add_assoc]

theorem used3_0 : (bigSep (usedK 3) fun k => (atPos ER (dcell 3 (ow k)) 0 ∅ 0 : sProp 𝕄))
    = iprop(atPos ER (dcell 3 24) 0 ∅ 0 ∗ atPos ER (dcell 3 25) 0 ∅ 0 ∗ atPos ER (dcell 3 26) 0 ∅ 0 ∗ atPos ER (dcell 3 27) 0 ∅ 0 ∗ atPos ER (dcell 3 28) 0 ∅ 0 ∗ atPos ER (dcell 3 29) 0 ∅ 0 ∗ atPos ER (dcell 3 30) 0 ∅ 0 ∗ atPos ER (dcell 3 31) 0 ∅ 0 ∗ atPos ER (dcell 3 36) 0 ∅ 0 ∗ atPos ER (dcell 3 37) 0 ∅ 0 ∗ atPos ER (dcell 3 38) 0 ∅ 0 ∗ atPos ER (dcell 3 39) 0 ∅ 0) :=
  bigSep_eq_bigSepL_of_eq [(18 : Fin 42), (19 : Fin 42), (20 : Fin 42), (21 : Fin 42), (22 : Fin 42), (23 : Fin 42), (24 : Fin 42), (25 : Fin 42), (30 : Fin 42), (31 : Fin 42), (32 : Fin 42), (33 : Fin 42)] (by decide) (by decide) _
theorem used3_1 : (bigSep (usedK 3) fun k => (atPos ER (dcell 3 (ow k)) 1 ∅ 0 : sProp 𝕄))
    = iprop(atPos ER (dcell 3 24) 1 ∅ 0 ∗ atPos ER (dcell 3 25) 1 ∅ 0 ∗ atPos ER (dcell 3 26) 1 ∅ 0 ∗ atPos ER (dcell 3 27) 1 ∅ 0 ∗ atPos ER (dcell 3 28) 1 ∅ 0 ∗ atPos ER (dcell 3 29) 1 ∅ 0 ∗ atPos ER (dcell 3 30) 1 ∅ 0 ∗ atPos ER (dcell 3 31) 1 ∅ 0 ∗ atPos ER (dcell 3 36) 1 ∅ 0 ∗ atPos ER (dcell 3 37) 1 ∅ 0 ∗ atPos ER (dcell 3 38) 1 ∅ 0 ∗ atPos ER (dcell 3 39) 1 ∅ 0) :=
  bigSep_eq_bigSepL_of_eq [(18 : Fin 42), (19 : Fin 42), (20 : Fin 42), (21 : Fin 42), (22 : Fin 42), (23 : Fin 42), (24 : Fin 42), (25 : Fin 42), (30 : Fin 42), (31 : Fin 42), (32 : Fin 42), (33 : Fin 42)] (by decide) (by decide) _
theorem toks3 : (bigSep (fam.toks 3 0) fun x => (dutyTok ER x.1 x.2.1 x.2.2 : sProp 𝕄))
    = iprop(dutyTok ER (barCell 0) 0 (3 : Dev nD) ∗ dutyTok ER (barCell 2) 0 (3 : Dev nD) ∗ dutyTok ER (dcell 2 28) 0 (3 : Dev nD) ∗ dutyTok ER (dcell 2 29) 0 (3 : Dev nD) ∗ dutyTok ER (dcell 2 30) 0 (3 : Dev nD) ∗ dutyTok ER (dcell 2 31) 0 (3 : Dev nD) ∗ dutyTok ER (dcell 3 36) 0 (3 : Dev nD) ∗ dutyTok ER (dcell 3 37) 0 (3 : Dev nD) ∗ dutyTok ER (dcell 3 38) 0 (3 : Dev nD) ∗ dutyTok ER (dcell 3 39) 0 (3 : Dev nD)) :=
  bigSep_eq_bigSepL_of_eq (tokL 3) rfl (by decide) _
theorem credL3 : TalkSites.credOf dueL 3 = ([(barCell 3, 0, amt (.reg barS : SemLoc sig)), (dcell 3 28, 0, amt (.dma (28 : Fin 48) : SemLoc sig)), (dcell 3 29, 0, amt (.dma (29 : Fin 48) : SemLoc sig)), (dcell 3 26, 0, amt (.dma (26 : Fin 48) : SemLoc sig)), (dcell 3 30, 0, amt (.dma (30 : Fin 48) : SemLoc sig)), (dcell 3 27, 0, amt (.dma (27 : Fin 48) : SemLoc sig)), (dcell 3 31, 0, amt (.dma (31 : Fin 48) : SemLoc sig)), (barCell 3, 0, amt (.reg barS : SemLoc sig)), (dcell 3 24, 0, amt (.dma (24 : Fin 48) : SemLoc sig)), (dcell 3 25, 0, amt (.dma (25 : Fin 48) : SemLoc sig))] : List (TalkSites.Pay nD τ sig)) := rfl
theorem creds3 : (cred (TalkSites.tallyL (TalkSites.credOf dueL 3)) : sProp 𝕄)
    = iprop(cred (tallyAt (barCell 3) 0 1) ∗ cred (tallyAt (dcell 3 28) 0 NB) ∗ cred (tallyAt (dcell 3 29) 0 NB) ∗ cred (tallyAt (dcell 3 26) 0 NB) ∗ cred (tallyAt (dcell 3 30) 0 NB) ∗ cred (tallyAt (dcell 3 27) 0 NB) ∗ cred (tallyAt (dcell 3 31) 0 NB) ∗ cred (tallyAt (barCell 3) 0 1) ∗ cred (tallyAt (dcell 3 24) 0 NB) ∗ cred (tallyAt (dcell 3 25) 0 NB)) := by
  rw [TalkSites.cred_tallyL, credL3]
  simp only [amtB, amtN 28 (by decide), amtN 29 (by decide), amtN 26 (by decide), amtN 30 (by decide), amtN 27 (by decide), amtN 31 (by decide), amtN 24 (by decide), amtN 25 (by decide)]
  rfl
theorem owed3 : (O₀ 3 : CellTallies nD τ sig ℕ) = tallyAt (barCell 0) 0 1 + tallyAt (barCell 2) 0 1 + tallyAt (dcell 2 28) 0 NB + tallyAt (dcell 2 29) 0 NB + tallyAt (dcell 2 30) 0 NB + tallyAt (dcell 2 31) 0 NB := by
  show TalkSites.tallyL ([(barCell 0, 0, amt (.reg barS : SemLoc sig)), (barCell 2, 0, amt (.reg barS : SemLoc sig)), (dcell 2 28, 0, amt (.dma (28 : Fin 48) : SemLoc sig)), (dcell 2 29, 0, amt (.dma (29 : Fin 48) : SemLoc sig)), (dcell 2 30, 0, amt (.dma (30 : Fin 48) : SemLoc sig)), (dcell 2 31, 0, amt (.dma (31 : Fin 48) : SemLoc sig))] : List (TalkSites.Pay nD τ sig)) = _
  simp only [amtB, amtN 28 (by decide), amtN 29 (by decide), amtN 30 (by decide), amtN 31 (by decide), TalkSites.tallyL, TalkSites.Pay.tally, add_zero, add_assoc]

end Cert.KernelIdeal.Talk

end
-- ==== Proof.Core.lean ====
/-
  Each device's run, from what the launch deals it to its own counters back at zero.
-/
module

public import proofs.«01_k».proof.Proof.Ghost

@[expose] public section

set_option maxRecDepth 16384

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig ℕ (Elt F) ℕ UU ℕ

variable (D : Vals F)

/-- The buffers of the kernel that no window stages. -/
def scr (c : Dev nD) : sProp 𝕄 :=
  iprop(ptAny c cc0_scratch0 ∗ ptAny c cc0_scratch1 ∗ ptAny c cc0_scratch2 ∗ ptAny c cc0_scratch3 ∗ ptAny c cc0_scratch10 ∗ ptAny c cc0_scratch11 ∗ ptAny c cc0_scratch12 ∗ ptAny c cc0_scratch13 ∗ ptAny c cc0_scratch14 ∗ ptAny c cc0_scratch15 ∗ ptAny c cc0_scratch16 ∗ ptAny c cc0_scratch17)
/-- The staging buffers of the six windows. -/
def wins (c : Dev nD) (x wq : FVec F S1024x1024 .f32) (kk vv : FVec F S1024x1024 .bf16) (wo : FVec F S1024x1024 .f32) (o : FVec F S1x1024x1024 .f32) : sProp 𝕄 :=
  iprop(pt c cc0_stg0_0 fullShare x ∗ pt c cc0_stg1_0 fullShare wq ∗ pt c cc0_stg2_0 fullShare kk ∗ pt c cc0_stg3_0 fullShare vv ∗ pt c cc0_stg4_0 fullShare wo ∗ pt c cc0_stg5_0 fullShare o)
/-- The positions at the cells of the device that the protocol leaves alone. -/
def idle (c : Dev nD) : sProp 𝕄 := bigSep (idleK c) fun k => atPos ER (dcell c (ow k)) 0 ∅ 0
/-- What the kernel leaves beside the windows: no debt, the counters at zero, the other buffers. -/
def fin (c : Dev nD) : sProp 𝕄 :=
  iprop((∃ W, owes (c : Thread nD τ) (0 : CellTallies nD τ sig ℕ) W) ∗ (semVal (barCell c) 0 ∗ Pipeline.ownSems0 osem c) ∗ scr c)

theorem finish (κ : GSem nD τ sig → ℕ) (c : Dev nD) :
    iprop(fam.cellInvs ER (Rd D) κ ∗ atPos ER (barCell c) 1 ∅ 0 ∗ (bigSep (usedK c) fun k => atPos ER (dcell c (ow k)) 1 ∅ 0) ∗ idle c)
      ⊢ (iprop(|={Set.univ}=> (semVal (barCell c) 0 ∗ Pipeline.ownSems0 osem c)) : sProp 𝕄) := by
  have e : (Pipeline.ownSems0 osem c : sProp 𝕄) = iprop((bigSep (usedK c) fun k => semVal (dcell c (ow k)) 0) ∗ (bigSep (idleK c) fun k => semVal (dcell c (ow k)) 0)) :=
    split_used c fun k => semVal (dcell c (ow k)) 0
  rw [e]; unfold idle
  iintro ⟨#HI, Hb, Hu, Hi⟩
  imod (close_bar D κ c) $$ [Hb] with Hb
  · isplitr; · iexact HI
    iexact Hb
  imod (close_used D κ c) $$ [Hu] with Hu
  · isplitr; · iexact HI
    iexact Hu
  imod (close_idle D κ c) $$ [Hi] with Hi
  · isplitr; · iexact HI
    iexact Hi
  imodintro
  isplitl [Hb]; · iexact Hb
  isplitl [Hu] <;> iassumption

theorem cred_two (c : Dev nD) : iprop(cred (tallyAt (barCell c) 0 1) ∗ cred (tallyAt (barCell c) 0 1)) ⊢ (cred (tallyAt (barCell c) 0 2) : sProp 𝕄) := by
  have e : (tallyAt (barCell c) 0 2 : CellTallies nD τ sig ℕ) = tallyAt (barCell c) 0 1 + tallyAt (barCell c) 0 1 := (tallyAt_add (barCell c) 0 1 1).symm
  rw [e]; exact (cred_add _ _).2

set_option maxHeartbeats 1000000 in
theorem core0 (κ : GSem nD τ sig → ℕ) (W : Waits sig ℕ) (Kt : PUnit → sProp 𝕄) (x wq : FVec F S1024x1024 .f32) (kk vv : FVec F S1024x1024 .bf16) (wo : FVec F S1024x1024 .f32)
    (o0 : FVec F S1x1024x1024 .f32) (hob : ∀ b : Fin 8, D.ob b.val = obOf x wq kk vv wo D.sl b) :
    iprop(ghost D κ 0 ∗ idle 0 ∗ owes ((0 : Dev nD) : Thread nD τ) (O₀ 0) W ∗ scr 0 ∗ wins 0 x wq kk vv wo o0
        ∗ ((fin 0 ∗ wins 0 x wq kk vv wo (outOf fun n => blk x wq kk vv wo D.sl (Fin.ofNat 8 n))) -∗ Kt ⟨⟩))
      ⊢ wp frame (wpE (defs₀ (F := F)) 𝒱₀ ((0 : Dev nD) : Thread nD τ) none) Set.univ (bodyAt0 (F := F) t0_0) Kt := by
  unfold ghost scr wins
  rw [used0_0, toks0, creds0, owed0]
  iintro ⟨⟨#HI, #HRb, #Hlev, #HRo, Hatb0, ⟨Hat0_7, Hat0_8, Hat0_10, Hat0_12, Hat0_13, Hat0_14, Hat0_15, Hat0_16, Hat0_18, Hat0_20, Hat0_21, Hat0_22, Hat0_23⟩, ⟨Htb1, Htb3, Ht1_24, Ht3_28, Ht1_25, Ht3_29, Ht1_26, Ht3_26, Ht3_30, Ht1_30, Ht1_27, Ht3_27, Ht3_31, Ht1_31, Ht0_8, Ht0_10, Ht0_12, Ht0_13, Ht0_14, Ht0_15, Ht0_16, Ht0_18, Ht0_20, Ht0_21, Ht0_22, Ht0_23⟩, ⟨HcB0, Hc0_7, HcB1⟩⟩, Hidle, HO, ⟨Hs0, Hs1, Hs2, Hs3, Hs4, Hs5, Hs6, Hs7, Hs8, Hs9, Hs10, Hs11⟩, ⟨Hx, Hq, Hk, Hv, Ho, Hout⟩, HK⟩
  iapply (wp_fupd frame (wpE (defs₀ (F := F)) 𝒱₀ ((0 : Dev nD) : Thread nD τ) none) Set.univ (bodyAt0 (F := F) t0_0) Kt)
  iapply (run0 D κ W _ x wq kk vv wo o0 hob)
  isplitr; · iapply (inv_bar D κ 0); iexact HI
  isplitr; · iapply (inv_dma D κ 0 7 (by decide)); iexact HI
  isplitr; · iapply (inv_dma D κ 0 8 (by decide)); iexact HI
  isplitr; · iapply (inv_dma D κ 0 10 (by decide)); iexact HI
  isplitr; · iapply (inv_dma D κ 0 12 (by decide)); iexact HI
  isplitr; · iapply (inv_dma D κ 0 13 (by decide)); iexact HI
  isplitr; · iapply (inv_dma D κ 0 14 (by decide)); iexact HI
  isplitr; · iapply (inv_dma D κ 0 15 (by decide)); iexact HI
  isplitr; · iapply (inv_dma D κ 0 16 (by decide)); iexact HI
  isplitr; · iapply (inv_dma D κ 0 18 (by decide)); iexact HI
  isplitr; · iapply (inv_dma D κ 0 20 (by decide)); iexact HI
  isplitr; · iapply (inv_dma D κ 0 21 (by decide)); iexact HI
  isplitr; · iapply (inv_dma D κ 0 22 (by decide)); iexact HI
  isplitr; · iapply (inv_dma D κ 0 23 (by decide)); iexact HI
  isplitr; · iapply (inv_bar D κ 1); iexact HI
  isplitr; · iapply (inv_bar D κ 3); iexact HI
  isplitr; · iapply (inv_dma D κ 1 24 (by decide)); iexact HI
  isplitr; · iapply (inv_dma D κ 3 28 (by decide)); iexact HI
  isplitr; · iapply (inv_dma D κ 1 25 (by decide)); iexact HI
  isplitr; · iapply (inv_dma D κ 3 29 (by decide)); iexact HI
  isplitr; · iapply (inv_dma D κ 1 26 (by decide)); iexact HI
  isplitr; · iapply (inv_dma D κ 3 26 (by decide)); iexact HI
  isplitr; · iapply (inv_dma D κ 3 30 (by decide)); iexact HI
  isplitr; · iapply (inv_dma D κ 1 30 (by decide)); iexact HI
  isplitr; · iapply (inv_dma D κ 1 27 (by decide)); iexact HI
  isplitr; · iapply (inv_dma D κ 3 27 (by decide)); iexact HI
  isplitr; · iapply (inv_dma D κ 3 31 (by decide)); iexact HI
  isplitr; · iapply (inv_dma D κ 1 31 (by decide)); iexact HI
  isplitr; · iapply (bars_at (F := F) 1); iexact HRb
  isplitr; · iapply (bars_at (F := F) 3); iexact HRb
  isplitr; · iapply (own_at (F := F) 0 1); iexact HRo
  isplitr; · iapply (own_at (F := F) 0 2); iexact HRo
  isplitr; · iapply (own_at (F := F) 0 4); iexact HRo
  isplitr; · iapply (own_at (F := F) 0 6); iexact HRo
  isplitr; · iapply (own_at (F := F) 0 7); iexact HRo
  isplitr; · iapply (own_at (F := F) 0 8); iexact HRo
  isplitr; · iapply (own_at (F := F) 0 9); iexact HRo
  isplitr; · iapply (own_at (F := F) 0 10); iexact HRo
  isplitr; · iapply (own_at (F := F) 0 12); iexact HRo
  isplitr; · iapply (own_at (F := F) 0 14); iexact HRo
  isplitr; · iapply (own_at (F := F) 0 15); iexact HRo
  isplitr; · iapply (own_at (F := F) 0 16); iexact HRo
  isplitr; · iapply (own_at (F := F) 0 17); iexact HRo
  isplitr; · iexact Hlev
  isplitl [Hatb0]; · iexact Hatb0
  isplitl [Hat0_7]; · iexact Hat0_7
  isplitl [Hat0_8]; · iexact Hat0_8
  isplitl [Hat0_10]; · iexact Hat0_10
  isplitl [Hat0_12]; · iexact Hat0_12
  isplitl [Hat0_13]; · iexact Hat0_13
  isplitl [Hat0_14]; · iexact Hat0_14
  isplitl [Hat0_15]; · iexact Hat0_15
  isplitl [Hat0_16]; · iexact Hat0_16
  isplitl [Hat0_18]; · iexact Hat0_18
  isplitl [Hat0_20]; · iexact Hat0_20
  isplitl [Hat0_21]; · iexact Hat0_21
  isplitl [Hat0_22]; · iexact Hat0_22
  isplitl [Hat0_23]; · iexact Hat0_23
  isplitl [Htb1]; · iexact Htb1
  isplitl [Htb3]; · iexact Htb3
  isplitl [Ht1_24]; · iexact Ht1_24
  isplitl [Ht3_28]; · iexact Ht3_28
  isplitl [Ht1_25]; · iexact Ht1_25
  isplitl [Ht3_29]; · iexact Ht3_29
  isplitl [Ht1_26]; · iexact Ht1_26
  isplitl [Ht3_26]; · iexact Ht3_26
  isplitl [Ht3_30]; · iexact Ht3_30
  isplitl [Ht1_30]; · iexact Ht1_30
  isplitl [Ht1_27]; · iexact Ht1_27
  isplitl [Ht3_27]; · iexact Ht3_27
  isplitl [Ht3_31]; · iexact Ht3_31
  isplitl [Ht1_31]; · iexact Ht1_31
  isplitl [Ht0_8]; · iexact Ht0_8
  isplitl [Ht0_10]; · iexact Ht0_10
  isplitl [Ht0_12]; · iexact Ht0_12
  isplitl [Ht0_13]; · iexact Ht0_13
  isplitl [Ht0_14]; · iexact Ht0_14
  isplitl [Ht0_15]; · iexact Ht0_15
  isplitl [Ht0_16]; · iexact Ht0_16
  isplitl [Ht0_18]; · iexact Ht0_18
  isplitl [Ht0_20]; · iexact Ht0_20
  isplitl [Ht0_21]; · iexact Ht0_21
  isplitl [Ht0_22]; · iexact Ht0_22
  isplitl [Ht0_23]; · iexact Ht0_23
  isplitl [HcB0 HcB1]
  · iapply (cred_two 0); isplitl [HcB0] <;> iassumption
  isplitl [Hc0_7]; · iexact Hc0_7
  isplitl [HO]; · iexact HO
  isplitl [Hx]; · iexact Hx
  isplitl [Hq]; · iexact Hq
  isplitl [Hk]; · iexact Hk
  isplitl [Hv]; · iexact Hv
  isplitl [Ho]; · iexact Ho
  isplitl [Hout]; · iexact Hout
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  iintro ⟨HO, Hx, Hq, Hk, Hv, Ho, Hout, Hs0, Hs1, Hs2, Hs3, Hs4, Hs5, Hs6, Hs7, Hs8, Hs9, Hs10, Hs11, Hatb0, Hat0_7, Hat0_8, Hat0_10, Hat0_12, Hat0_13, Hat0_14, Hat0_15, Hat0_16, Hat0_18, Hat0_20, Hat0_21, Hat0_22, Hat0_23⟩
  imod (finish D κ 0) $$ [Hatb0 Hat0_7 Hat0_8 Hat0_10 Hat0_12 Hat0_13 Hat0_14 Hat0_15 Hat0_16 Hat0_18 Hat0_20 Hat0_21 Hat0_22 Hat0_23 Hidle] with Hz
  · isplitr; · iexact HI
    isplitl [Hatb0]; · iexact Hatb0
    isplitr [Hidle]
    · rw [used0_1]
      isplitl [Hat0_7]; · iexact Hat0_7
      isplitl [Hat0_8]; · iexact Hat0_8
      isplitl [Hat0_10]; · iexact Hat0_10
      isplitl [Hat0_12]; · iexact Hat0_12
      isplitl [Hat0_13]; · iexact Hat0_13
      isplitl [Hat0_14]; · iexact Hat0_14
      isplitl [Hat0_15]; · iexact Hat0_15
      isplitl [Hat0_16]; · iexact Hat0_16
      isplitl [Hat0_18]; · iexact Hat0_18
      isplitl [Hat0_20]; · iexact Hat0_20
      isplitl [Hat0_21]; · iexact Hat0_21
      isplitl [Hat0_22]; · iexact Hat0_22
      iexact Hat0_23
    iexact Hidle
  imodintro
  iapply HK
  isplitr [Hx Hq Hk Hv Ho Hout]
  · unfold fin scr
    isplitl [HO]; · iexact HO
    isplitl [Hz]; · iexact Hz
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    iexact Hs11
  isplitl [Hx]; · iexact Hx
  isplitl [Hq]; · iexact Hq
  isplitl [Hk]; · iexact Hk
  isplitl [Hv]; · iexact Hv
  isplitl [Ho]; · iexact Ho
  iexact Hout

set_option maxHeartbeats 1000000 in
theorem core1 (κ : GSem nD τ sig → ℕ) (W : Waits sig ℕ) (Kt : PUnit → sProp 𝕄) (x wq : FVec F S1024x1024 .f32) (kk vv : FVec F S1024x1024 .bf16) (wo : FVec F S1024x1024 .f32)
    (o0 : FVec F S1x1024x1024 .f32) (hsl : D.sl = slOf kk vv) :
    iprop(ghost D κ 1 ∗ idle 1 ∗ owes ((1 : Dev nD) : Thread nD τ) (O₀ 1) W ∗ scr 1 ∗ wins 1 x wq kk vv wo o0
        ∗ ((fin 1 ∗ wins 1 x wq kk vv wo (outOf fun b => ext (D.ob b))) -∗ Kt ⟨⟩))
      ⊢ wp frame (wpE (defs₀ (F := F)) 𝒱₀ ((1 : Dev nD) : Thread nD τ) none) Set.univ (bodyAt0 (F := F) t0_0) Kt := by
  unfold ghost scr wins
  rw [used1_0, toks1, creds1, owed1]
  iintro ⟨⟨#HI, #HRb, #Hlev, #HRo, Hatb1, ⟨Hat1_6, Hat1_24, Hat1_25, Hat1_26, Hat1_27, Hat1_28, Hat1_29, Hat1_30, Hat1_31, Hat1_32, Hat1_33, Hat1_34, Hat1_35⟩, ⟨Htb2, Htb0, Ht0_7, Ht2_24, Ht2_25, Ht2_26, Ht2_27, Ht1_6, Ht1_32, Ht1_33, Ht1_34, Ht1_35⟩, ⟨HcB0, Hc1_24, Hc1_25, Hc1_26, Hc1_30, Hc1_27, Hc1_31, HcB1, Hc1_28, Hc1_29⟩⟩, Hidle, HO, ⟨Hs0, Hs1, Hs2, Hs3, Hs4, Hs5, Hs6, Hs7, Hs8, Hs9, Hs10, Hs11⟩, ⟨Hx, Hq, Hk, Hv, Ho, Hout⟩, HK⟩
  iapply (wp_fupd frame (wpE (defs₀ (F := F)) 𝒱₀ ((1 : Dev nD) : Thread nD τ) none) Set.univ (bodyAt0 (F := F) t0_0) Kt)
  iapply (run1 D κ W _ kk vv o0 hsl)
  isplitr; · iapply (inv_bar D κ 1); iexact HI
  isplitr; · iapply (inv_dma D κ 1 6 (by decide)); iexact HI
  isplitr; · iapply (inv_dma D κ 1 24 (by decide)); iexact HI
  isplitr; · iapply (inv_dma D κ 1 25 (by decide)); iexact HI
  isplitr; · iapply (inv_dma D κ 1 26 (by decide)); iexact HI
  isplitr; · iapply (inv_dma D κ 1 27 (by decide)); iexact HI
  isplitr; · iapply (inv_dma D κ 1 28 (by decide)); iexact HI
  isplitr; · iapply (inv_dma D κ 1 29 (by decide)); iexact HI
  isplitr; · iapply (inv_dma D κ 1 30 (by decide)); iexact HI
  isplitr; · iapply (inv_dma D κ 1 31 (by decide)); iexact HI
  isplitr; · iapply (inv_dma D κ 1 32 (by decide)); iexact HI
  isplitr; · iapply (inv_dma D κ 1 33 (by decide)); iexact HI
  isplitr; · iapply (inv_dma D κ 1 34 (by decide)); iexact HI
  isplitr; · iapply (inv_dma D κ 1 35 (by decide)); iexact HI
  isplitr; · iapply (inv_bar D κ 2); iexact HI
  isplitr; · iapply (inv_bar D κ 0); iexact HI
  isplitr; · iapply (inv_dma D κ 0 7 (by decide)); iexact HI
  isplitr; · iapply (inv_dma D κ 2 24 (by decide)); iexact HI
  isplitr; · iapply (inv_dma D κ 2 25 (by decide)); iexact HI
  isplitr; · iapply (inv_dma D κ 2 26 (by decide)); iexact HI
  isplitr; · iapply (inv_dma D κ 2 27 (by decide)); iexact HI
  isplitr; · iapply (bars_at (F := F) 2); iexact HRb
  isplitr; · iapply (bars_at (F := F) 0); iexact HRb
  isplitr; · iapply (own_at (F := F) 1 0); iexact HRo
  isplitr; · iapply (own_at (F := F) 1 18); iexact HRo
  isplitr; · iapply (own_at (F := F) 1 19); iexact HRo
  isplitr; · iapply (own_at (F := F) 1 20); iexact HRo
  isplitr; · iapply (own_at (F := F) 1 21); iexact HRo
  isplitr; · iapply (own_at (F := F) 1 22); iexact HRo
  isplitr; · iapply (own_at (F := F) 1 23); iexact HRo
  isplitr; · iapply (own_at (F := F) 1 24); iexact HRo
  isplitr; · iapply (own_at (F := F) 1 25); iexact HRo
  isplitr; · iapply (own_at (F := F) 1 26); iexact HRo
  isplitr; · iapply (own_at (F := F) 1 27); iexact HRo
  isplitr; · iapply (own_at (F := F) 1 28); iexact HRo
  isplitr; · iapply (own_at (F := F) 1 29); iexact HRo
  isplitr; · iexact Hlev
  isplitl [Hatb1]; · iexact Hatb1
  isplitl [Hat1_6]; · iexact Hat1_6
  isplitl [Hat1_24]; · iexact Hat1_24
  isplitl [Hat1_25]; · iexact Hat1_25
  isplitl [Hat1_26]; · iexact Hat1_26
  isplitl [Hat1_27]; · iexact Hat1_27
  isplitl [Hat1_28]; · iexact Hat1_28
  isplitl [Hat1_29]; · iexact Hat1_29
  isplitl [Hat1_30]; · iexact Hat1_30
  isplitl [Hat1_31]; · iexact Hat1_31
  isplitl [Hat1_32]; · iexact Hat1_32
  isplitl [Hat1_33]; · iexact Hat1_33
  isplitl [Hat1_34]; · iexact Hat1_34
  isplitl [Hat1_35]; · iexact Hat1_35
  isplitl [Htb2]; · iexact Htb2
  isplitl [Htb0]; · iexact Htb0
  isplitl [Ht0_7]; · iexact Ht0_7
  isplitl [Ht2_24]; · iexact Ht2_24
  isplitl [Ht2_25]; · iexact Ht2_25
  isplitl [Ht2_26]; · iexact Ht2_26
  isplitl [Ht2_27]; · iexact Ht2_27
  isplitl [Ht1_6]; · iexact Ht1_6
  isplitl [Ht1_32]; · iexact Ht1_32
  isplitl [Ht1_33]; · iexact Ht1_33
  isplitl [Ht1_34]; · iexact Ht1_34
  isplitl [Ht1_35]; · iexact Ht1_35
  isplitl [HcB0 HcB1]
  · iapply (cred_two 1); isplitl [HcB0] <;> iassumption
  isplitl [Hc1_24]; · iexact Hc1_24
  isplitl [Hc1_25]; · iexact Hc1_25
  isplitl [Hc1_26]; · iexact Hc1_26
  isplitl [Hc1_27]; · iexact Hc1_27
  isplitl [Hc1_28]; · iexact Hc1_28
  isplitl [Hc1_29]; · iexact Hc1_29
  isplitl [Hc1_30]; · iexact Hc1_30
  isplitl [Hc1_31]; · iexact Hc1_31
  isplitl [HO]; · iexact HO
  isplitl [Hk]; · iexact Hk
  isplitl [Hv]; · iexact Hv
  isplitl [Hout]; · iexact Hout
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  iintro ⟨HO, Hk, Hv, Hout, Hs3, Hs4, Hs5, Hs6, Hs7, Hs8, Hs9, Hs10, Hs11, Hatb1, Hat1_6, Hat1_24, Hat1_25, Hat1_26, Hat1_27, Hat1_28, Hat1_29, Hat1_30, Hat1_31, Hat1_32, Hat1_33, Hat1_34, Hat1_35⟩
  imod (finish D κ 1) $$ [Hatb1 Hat1_6 Hat1_24 Hat1_25 Hat1_26 Hat1_27 Hat1_28 Hat1_29 Hat1_30 Hat1_31 Hat1_32 Hat1_33 Hat1_34 Hat1_35 Hidle] with Hz
  · isplitr; · iexact HI
    isplitl [Hatb1]; · iexact Hatb1
    isplitr [Hidle]
    · rw [used1_1]
      isplitl [Hat1_6]; · iexact Hat1_6
      isplitl [Hat1_24]; · iexact Hat1_24
      isplitl [Hat1_25]; · iexact Hat1_25
      isplitl [Hat1_26]; · iexact Hat1_26
      isplitl [Hat1_27]; · iexact Hat1_27
      isplitl [Hat1_28]; · iexact Hat1_28
      isplitl [Hat1_29]; · iexact Hat1_29
      isplitl [Hat1_30]; · iexact Hat1_30
      isplitl [Hat1_31]; · iexact Hat1_31
      isplitl [Hat1_32]; · iexact Hat1_32
      isplitl [Hat1_33]; · iexact Hat1_33
      isplitl [Hat1_34]; · iexact Hat1_34
      iexact Hat1_35
    iexact Hidle
  imodintro
  iapply HK
  isplitr [Hx Hq Hk Hv Ho Hout]
  · unfold fin scr
    isplitl [HO]; · iexact HO
    isplitl [Hz]; · iexact Hz
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    iexact Hs11
  isplitl [Hx]; · iexact Hx
  isplitl [Hq]; · iexact Hq
  isplitl [Hk]; · iexact Hk
  isplitl [Hv]; · iexact Hv
  isplitl [Ho]; · iexact Ho
  iexact Hout

set_option maxHeartbeats 1000000 in
theorem core2 (κ : GSem nD τ sig → ℕ) (W : Waits sig ℕ) (Kt : PUnit → sProp 𝕄) (x wq : FVec F S1024x1024 .f32) (kk vv : FVec F S1024x1024 .bf16) (wo : FVec F S1024x1024 .f32)
    (o0 : FVec F S1x1024x1024 .f32)  :
    iprop(ghost D κ 2 ∗ idle 2 ∗ owes ((2 : Dev nD) : Thread nD τ) (O₀ 2) W ∗ scr 2 ∗ wins 2 x wq kk vv wo o0
        ∗ ((fin 2 ∗ wins 2 x wq kk vv wo (outOf fun b => ext (D.ob b))) -∗ Kt ⟨⟩))
      ⊢ wp frame (wpE (defs₀ (F := F)) 𝒱₀ ((2 : Dev nD) : Thread nD τ) none) Set.univ (bodyAt0 (F := F) t0_0) Kt := by
  unfold ghost scr wins
  rw [used2_0, toks2, creds2, owed2]
  iintro ⟨⟨#HI, #HRb, #Hlev, #HRo, Hatb2, ⟨Hat2_24, Hat2_25, Hat2_26, Hat2_27, Hat2_28, Hat2_29, Hat2_30, Hat2_31, Hat2_40, Hat2_41, Hat2_44, Hat2_45⟩, ⟨Htb3, Htb1, Ht3_24, Ht1_28, Ht3_25, Ht1_29, Ht2_40, Ht2_41, Ht2_44, Ht2_45⟩, ⟨HcB0, Hc2_24, Hc2_25, Hc2_26, Hc2_27, HcB1, Hc2_28, Hc2_29, Hc2_30, Hc2_31⟩⟩, Hidle, HO, ⟨Hs0, Hs1, Hs2, Hs3, Hs4, Hs5, Hs6, Hs7, Hs8, Hs9, Hs10, Hs11⟩, ⟨Hx, Hq, Hk, Hv, Ho, Hout⟩, HK⟩
  iapply (wp_fupd frame (wpE (defs₀ (F := F)) 𝒱₀ ((2 : Dev nD) : Thread nD τ) none) Set.univ (bodyAt0 (F := F) t0_0) Kt)
  iapply (run2 D κ W _ o0)
  isplitr; · iapply (inv_bar D κ 2); iexact HI
  isplitr; · iapply (inv_dma D κ 2 24 (by decide)); iexact HI
  isplitr; · iapply (inv_dma D κ 2 25 (by decide)); iexact HI
  isplitr; · iapply (inv_dma D κ 2 26 (by decide)); iexact HI
  isplitr; · iapply (inv_dma D κ 2 27 (by decide)); iexact HI
  isplitr; · iapply (inv_dma D κ 2 28 (by decide)); iexact HI
  isplitr; · iapply (inv_dma D κ 2 29 (by decide)); iexact HI
  isplitr; · iapply (inv_dma D κ 2 30 (by decide)); iexact HI
  isplitr; · iapply (inv_dma D κ 2 31 (by decide)); iexact HI
  isplitr; · iapply (inv_dma D κ 2 40 (by decide)); iexact HI
  isplitr; · iapply (inv_dma D κ 2 41 (by decide)); iexact HI
  isplitr; · iapply (inv_dma D κ 2 44 (by decide)); iexact HI
  isplitr; · iapply (inv_dma D κ 2 45 (by decide)); iexact HI
  isplitr; · iapply (inv_bar D κ 3); iexact HI
  isplitr; · iapply (inv_bar D κ 1); iexact HI
  isplitr; · iapply (inv_dma D κ 3 24 (by decide)); iexact HI
  isplitr; · iapply (inv_dma D κ 1 28 (by decide)); iexact HI
  isplitr; · iapply (inv_dma D κ 3 25 (by decide)); iexact HI
  isplitr; · iapply (inv_dma D κ 1 29 (by decide)); iexact HI
  isplitr; · iapply (bars_at (F := F) 3); iexact HRb
  isplitr; · iapply (bars_at (F := F) 1); iexact HRb
  isplitr; · iapply (own_at (F := F) 2 18); iexact HRo
  isplitr; · iapply (own_at (F := F) 2 19); iexact HRo
  isplitr; · iapply (own_at (F := F) 2 20); iexact HRo
  isplitr; · iapply (own_at (F := F) 2 21); iexact HRo
  isplitr; · iapply (own_at (F := F) 2 22); iexact HRo
  isplitr; · iapply (own_at (F := F) 2 23); iexact HRo
  isplitr; · iapply (own_at (F := F) 2 24); iexact HRo
  isplitr; · iapply (own_at (F := F) 2 25); iexact HRo
  isplitr; · iapply (own_at (F := F) 2 34); iexact HRo
  isplitr; · iapply (own_at (F := F) 2 35); iexact HRo
  isplitr; · iapply (own_at (F := F) 2 38); iexact HRo
  isplitr; · iapply (own_at (F := F) 2 39); iexact HRo
  isplitr; · iexact Hlev
  isplitl [Hatb2]; · iexact Hatb2
  isplitl [Hat2_24]; · iexact Hat2_24
  isplitl [Hat2_25]; · iexact Hat2_25
  isplitl [Hat2_26]; · iexact Hat2_26
  isplitl [Hat2_27]; · iexact Hat2_27
  isplitl [Hat2_28]; · iexact Hat2_28
  isplitl [Hat2_29]; · iexact Hat2_29
  isplitl [Hat2_30]; · iexact Hat2_30
  isplitl [Hat2_31]; · iexact Hat2_31
  isplitl [Hat2_40]; · iexact Hat2_40
  isplitl [Hat2_41]; · iexact Hat2_41
  isplitl [Hat2_44]; · iexact Hat2_44
  isplitl [Hat2_45]; · iexact Hat2_45
  isplitl [Htb3]; · iexact Htb3
  isplitl [Htb1]; · iexact Htb1
  isplitl [Ht3_24]; · iexact Ht3_24
  isplitl [Ht1_28]; · iexact Ht1_28
  isplitl [Ht3_25]; · iexact Ht3_25
  isplitl [Ht1_29]; · iexact Ht1_29
  isplitl [Ht2_40]; · iexact Ht2_40
  isplitl [Ht2_41]; · iexact Ht2_41
  isplitl [Ht2_44]; · iexact Ht2_44
  isplitl [Ht2_45]; · iexact Ht2_45
  isplitl [HcB0 HcB1]
  · iapply (cred_two 2); isplitl [HcB0] <;> iassumption
  isplitl [Hc2_24]; · iexact Hc2_24
  isplitl [Hc2_25]; · iexact Hc2_25
  isplitl [Hc2_26]; · iexact Hc2_26
  isplitl [Hc2_27]; · iexact Hc2_27
  isplitl [Hc2_28]; · iexact Hc2_28
  isplitl [Hc2_29]; · iexact Hc2_29
  isplitl [Hc2_30]; · iexact Hc2_30
  isplitl [Hc2_31]; · iexact Hc2_31
  isplitl [HO]; · iexact HO
  isplitl [Hout]; · iexact Hout
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  iintro ⟨HO, Hout, Hs4, Hs5, Hs6, Hs7, Hs8, Hs9, Hs10, Hs11, Hatb2, Hat2_24, Hat2_25, Hat2_26, Hat2_27, Hat2_28, Hat2_29, Hat2_30, Hat2_31, Hat2_40, Hat2_41, Hat2_44, Hat2_45⟩
  imod (finish D κ 2) $$ [Hatb2 Hat2_24 Hat2_25 Hat2_26 Hat2_27 Hat2_28 Hat2_29 Hat2_30 Hat2_31 Hat2_40 Hat2_41 Hat2_44 Hat2_45 Hidle] with Hz
  · isplitr; · iexact HI
    isplitl [Hatb2]; · iexact Hatb2
    isplitr [Hidle]
    · rw [used2_1]
      isplitl [Hat2_24]; · iexact Hat2_24
      isplitl [Hat2_25]; · iexact Hat2_25
      isplitl [Hat2_26]; · iexact Hat2_26
      isplitl [Hat2_27]; · iexact Hat2_27
      isplitl [Hat2_28]; · iexact Hat2_28
      isplitl [Hat2_29]; · iexact Hat2_29
      isplitl [Hat2_30]; · iexact Hat2_30
      isplitl [Hat2_31]; · iexact Hat2_31
      isplitl [Hat2_40]; · iexact Hat2_40
      isplitl [Hat2_41]; · iexact Hat2_41
      isplitl [Hat2_44]; · iexact Hat2_44
      iexact Hat2_45
    iexact Hidle
  imodintro
  iapply HK
  isplitr [Hx Hq Hk Hv Ho Hout]
  · unfold fin scr
    isplitl [HO]; · iexact HO
    isplitl [Hz]; · iexact Hz
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    iexact Hs11
  isplitl [Hx]; · iexact Hx
  isplitl [Hq]; · iexact Hq
  isplitl [Hk]; · iexact Hk
  isplitl [Hv]; · iexact Hv
  isplitl [Ho]; · iexact Ho
  iexact Hout

set_option maxHeartbeats 1000000 in
theorem core3 (κ : GSem nD τ sig → ℕ) (W : Waits sig ℕ) (Kt : PUnit → sProp 𝕄) (x wq : FVec F S1024x1024 .f32) (kk vv : FVec F S1024x1024 .bf16) (wo : FVec F S1024x1024 .f32)
    (o0 : FVec F S1x1024x1024 .f32)  :
    iprop(ghost D κ 3 ∗ idle 3 ∗ owes ((3 : Dev nD) : Thread nD τ) (O₀ 3) W ∗ scr 3 ∗ wins 3 x wq kk vv wo o0
        ∗ ((fin 3 ∗ wins 3 x wq kk vv wo (outOf fun b => ext (D.ob b))) -∗ Kt ⟨⟩))
      ⊢ wp frame (wpE (defs₀ (F := F)) 𝒱₀ ((3 : Dev nD) : Thread nD τ) none) Set.univ (bodyAt0 (F := F) t0_0) Kt := by
  unfold ghost scr wins
  rw [used3_0, toks3, creds3, owed3]
  iintro ⟨⟨#HI, #HRb, #Hlev, #HRo, Hatb3, ⟨Hat3_24, Hat3_25, Hat3_26, Hat3_27, Hat3_28, Hat3_29, Hat3_30, Hat3_31, Hat3_36, Hat3_37, Hat3_38, Hat3_39⟩, ⟨Htb0, Htb2, Ht2_28, Ht2_29, Ht2_30, Ht2_31, Ht3_36, Ht3_37, Ht3_38, Ht3_39⟩, ⟨HcB0, Hc3_28, Hc3_29, Hc3_26, Hc3_30, Hc3_27, Hc3_31, HcB1, Hc3_24, Hc3_25⟩⟩, Hidle, HO, ⟨Hs0, Hs1, Hs2, Hs3, Hs4, Hs5, Hs6, Hs7, Hs8, Hs9, Hs10, Hs11⟩, ⟨Hx, Hq, Hk, Hv, Ho, Hout⟩, HK⟩
  iapply (wp_fupd frame (wpE (defs₀ (F := F)) 𝒱₀ ((3 : Dev nD) : Thread nD τ) none) Set.univ (bodyAt0 (F := F) t0_0) Kt)
  iapply (run3 D κ W _ o0)
  isplitr; · iapply (inv_bar D κ 3); iexact HI
  isplitr; · iapply (inv_dma D κ 3 24 (by decide)); iexact HI
  isplitr; · iapply (inv_dma D κ 3 25 (by decide)); iexact HI
  isplitr; · iapply (inv_dma D κ 3 26 (by decide)); iexact HI
  isplitr; · iapply (inv_dma D κ 3 27 (by decide)); iexact HI
  isplitr; · iapply (inv_dma D κ 3 28 (by decide)); iexact HI
  isplitr; · iapply (inv_dma D κ 3 29 (by decide)); iexact HI
  isplitr; · iapply (inv_dma D κ 3 30 (by decide)); iexact HI
  isplitr; · iapply (inv_dma D κ 3 31 (by decide)); iexact HI
  isplitr; · iapply (inv_dma D κ 3 36 (by decide)); iexact HI
  isplitr; · iapply (inv_dma D κ 3 37 (by decide)); iexact HI
  isplitr; · iapply (inv_dma D κ 3 38 (by decide)); iexact HI
  isplitr; · iapply (inv_dma D κ 3 39 (by decide)); iexact HI
  isplitr; · iapply (inv_bar D κ 0); iexact HI
  isplitr; · iapply (inv_bar D κ 2); iexact HI
  isplitr; · iapply (inv_dma D κ 2 28 (by decide)); iexact HI
  isplitr; · iapply (inv_dma D κ 2 29 (by decide)); iexact HI
  isplitr; · iapply (inv_dma D κ 2 30 (by decide)); iexact HI
  isplitr; · iapply (inv_dma D κ 2 31 (by decide)); iexact HI
  isplitr; · iapply (bars_at (F := F) 0); iexact HRb
  isplitr; · iapply (bars_at (F := F) 2); iexact HRb
  isplitr; · iapply (own_at (F := F) 3 18); iexact HRo
  isplitr; · iapply (own_at (F := F) 3 19); iexact HRo
  isplitr; · iapply (own_at (F := F) 3 20); iexact HRo
  isplitr; · iapply (own_at (F := F) 3 21); iexact HRo
  isplitr; · iapply (own_at (F := F) 3 22); iexact HRo
  isplitr; · iapply (own_at (F := F) 3 23); iexact HRo
  isplitr; · iapply (own_at (F := F) 3 24); iexact HRo
  isplitr; · iapply (own_at (F := F) 3 25); iexact HRo
  isplitr; · iapply (own_at (F := F) 3 30); iexact HRo
  isplitr; · iapply (own_at (F := F) 3 31); iexact HRo
  isplitr; · iapply (own_at (F := F) 3 32); iexact HRo
  isplitr; · iapply (own_at (F := F) 3 33); iexact HRo
  isplitr; · iexact Hlev
  isplitl [Hatb3]; · iexact Hatb3
  isplitl [Hat3_24]; · iexact Hat3_24
  isplitl [Hat3_25]; · iexact Hat3_25
  isplitl [Hat3_26]; · iexact Hat3_26
  isplitl [Hat3_27]; · iexact Hat3_27
  isplitl [Hat3_28]; · iexact Hat3_28
  isplitl [Hat3_29]; · iexact Hat3_29
  isplitl [Hat3_30]; · iexact Hat3_30
  isplitl [Hat3_31]; · iexact Hat3_31
  isplitl [Hat3_36]; · iexact Hat3_36
  isplitl [Hat3_37]; · iexact Hat3_37
  isplitl [Hat3_38]; · iexact Hat3_38
  isplitl [Hat3_39]; · iexact Hat3_39
  isplitl [Htb0]; · iexact Htb0
  isplitl [Htb2]; · iexact Htb2
  isplitl [Ht2_28]; · iexact Ht2_28
  isplitl [Ht2_29]; · iexact Ht2_29
  isplitl [Ht2_30]; · iexact Ht2_30
  isplitl [Ht2_31]; · iexact Ht2_31
  isplitl [Ht3_36]; · iexact Ht3_36
  isplitl [Ht3_37]; · iexact Ht3_37
  isplitl [Ht3_38]; · iexact Ht3_38
  isplitl [Ht3_39]; · iexact Ht3_39
  isplitl [HcB0 HcB1]
  · iapply (cred_two 3); isplitl [HcB0] <;> iassumption
  isplitl [Hc3_24]; · iexact Hc3_24
  isplitl [Hc3_25]; · iexact Hc3_25
  isplitl [Hc3_26]; · iexact Hc3_26
  isplitl [Hc3_27]; · iexact Hc3_27
  isplitl [Hc3_28]; · iexact Hc3_28
  isplitl [Hc3_29]; · iexact Hc3_29
  isplitl [Hc3_30]; · iexact Hc3_30
  isplitl [Hc3_31]; · iexact Hc3_31
  isplitl [HO]; · iexact HO
  isplitl [Hout]; · iexact Hout
  isplitl [Hs4]; · iexact Hs4
  isplitl [Hs5]; · iexact Hs5
  isplitl [Hs6]; · iexact Hs6
  isplitl [Hs7]; · iexact Hs7
  isplitl [Hs8]; · iexact Hs8
  isplitl [Hs9]; · iexact Hs9
  isplitl [Hs10]; · iexact Hs10
  isplitl [Hs11]; · iexact Hs11
  iintro ⟨HO, Hout, Hs4, Hs5, Hs6, Hs7, Hs8, Hs9, Hs10, Hs11, Hatb3, Hat3_24, Hat3_25, Hat3_26, Hat3_27, Hat3_28, Hat3_29, Hat3_30, Hat3_31, Hat3_36, Hat3_37, Hat3_38, Hat3_39⟩
  imod (finish D κ 3) $$ [Hatb3 Hat3_24 Hat3_25 Hat3_26 Hat3_27 Hat3_28 Hat3_29 Hat3_30 Hat3_31 Hat3_36 Hat3_37 Hat3_38 Hat3_39 Hidle] with Hz
  · isplitr; · iexact HI
    isplitl [Hatb3]; · iexact Hatb3
    isplitr [Hidle]
    · rw [used3_1]
      isplitl [Hat3_24]; · iexact Hat3_24
      isplitl [Hat3_25]; · iexact Hat3_25
      isplitl [Hat3_26]; · iexact Hat3_26
      isplitl [Hat3_27]; · iexact Hat3_27
      isplitl [Hat3_28]; · iexact Hat3_28
      isplitl [Hat3_29]; · iexact Hat3_29
      isplitl [Hat3_30]; · iexact Hat3_30
      isplitl [Hat3_31]; · iexact Hat3_31
      isplitl [Hat3_36]; · iexact Hat3_36
      isplitl [Hat3_37]; · iexact Hat3_37
      isplitl [Hat3_38]; · iexact Hat3_38
      iexact Hat3_39
    iexact Hidle
  imodintro
  iapply HK
  isplitr [Hx Hq Hk Hv Ho Hout]
  · unfold fin scr
    isplitl [HO]; · iexact HO
    isplitl [Hz]; · iexact Hz
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    iexact Hs11
  isplitl [Hx]; · iexact Hx
  isplitl [Hq]; · iexact Hq
  isplitl [Hk]; · iexact Hk
  isplitl [Hv]; · iexact Hv
  isplitl [Ho]; · iexact Ho
  iexact Hout

end Cert.KernelIdeal.Talk

end
-- ==== Proof.Region.lean ====
/-
  The kernel region between the launch and the end of the program, and the run of the whole program on the four devices:
  what every device's result holds, the arguments unchanged, every counter at zero.
-/
module

public import proofs.«01_k».proof.Proof.Core
public import Idealize.ShloMosaic.Lib.Pipeline.ValueKit.Geometry

@[expose] public section

set_option maxRecDepth 16384

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig ℕ (Elt F) ℕ UU ℕ

variable (m : (ℓ : Loc nD τ sig) → Buf (Elt F) ℓ) (ρ : Dev nD → PrngReg)

/-! ## The contents -/

/-- The five inputs of the kernel on device `c`. -/
def xv (c : Dev nD) : FVec F S1024x1024 .f32 := iblk m c 0 t0_0
def wqv (c : Dev nD) : FVec F S1024x1024 .f32 := iblk m c 1 t0_0
def kv (c : Dev nD) : FVec F S1024x1024 .bf16 := iblk m c 2 t0_0
def vv (c : Dev nD) : FVec F S1024x1024 .bf16 := iblk m c 3 t0_0
def wov (c : Dev nD) : FVec F S1024x1024 .f32 := iblk m c 4 t0_0

/-- Row block `b` of the output, as device 0 computes it. -/
def blkv (b : Fin 8) : FVec F S128x1024 .f32 := blk (xv m 0) (wqv m 0) (kv m 0) (vv m 0) (wov m 0) (slOf (kv m 1) (vv m 1)) b
/-- What the copies of the whole run move. -/
def dv : Vals F where
  ob n := obOf (xv m 0) (wqv m 0) (kv m 0) (vv m 0) (wov m 0) (slOf (kv m 1) (vv m 1)) (Fin.ofNat 8 n)
  sl := slOf (kv m 1) (vv m 1)
/-- The result of device `c`: device 0 keeps its blocks, the others hold them rounded. -/
def outv (c : Dev nD) : FVec F S1x1024x1024 .f32 :=
  if c = 0 then outOf fun n => blkv m (Fin.ofNat 8 n) else outOf fun b => ext ((dv m).ob b)

theorem hob (b : Fin 8) : (dv m).ob b.val = obOf (xv m 0) (wqv m 0) (kv m 0) (vv m 0) (wov m 0) (dv m).sl b := by
  show obOf _ _ _ _ _ _ (Fin.ofNat 8 b.val) = _
  rw [show Fin.ofNat 8 b.val = b from Fin.ext (Nat.mod_eq_of_lt b.isLt)]; rfl

/-! ## The valuations -/

abbrev V₀ (c : Dev nD) : Valuation τ sig (Elt F) := fun b => m (c, b)
abbrev V₁ (c : Dev nD) : Valuation τ sig (Elt F) := StableHlo.after hostOps0 (V₀ m c)
/-- After the kernel: its result in `main_v6`. -/
def V₂ (c : Dev nD) : Valuation τ sig (Elt F) := Function.update (V₁ m c) (Proc.devRef .tc main_v6) (outv m c)

/-! ## The proof data -/

/-- What enters the region's invariant, and what it gives back. -/
def X (c : Dev nD) : sProp 𝕄 := iprop(∃ κ, ghost (dv m) κ c ∗ idle c)

def dat0 (c : Dev nD) : Dat τ (Elt F) ℕ ℕ UU ℕ cfg0 c where
  A w := V₁ m c (Proc.devRef .tc (Pipeline.arrRef spec0 w))
  after := fun | 0 => fun t => iblk m c 0 t | 1 => fun t => iblk m c 1 t | 2 => fun t => iblk m c 2 t | 3 => fun t => iblk m c 3 t | 4 => fun t => iblk m c 4 t | 5 => fun _ => outv m c | ⟨_ + 6, h⟩ => absurd h (Nat.not_lt.2 (Nat.le_add_left _ _))
  Φ t := if t.val = 0 then iprop(X m c ∗ scr c ∗ ∃ r, prngReg c r) else iprop((semVal (barCell c) 0 ∗ Pipeline.ownSems0 osem c) ∗ scr c ∗ ∃ r, prngReg c r)
  q _ := fullShare
  owed t := if t.val = 0 then O₀ c else 0

abbrev adm : (p : Fin 1) → (pcfgs (F := F) p).Adm := fun p => (cfgs p).toPCfg_adm
def pdats (p : Fin 1) (c : Dev nD) : Dat τ (Elt F) ℕ ℕ UU ℕ (Pipeline.pin (pcfgs (F := F)) adm p) c := dat0 m c

theorem owed_zero (c : Dev nD) : (pdats (F := F) m 0 c).owed 0 = O₀ c := by
  show (if ((0 : Fin (cfg0.N + 1)).val = 0) then O₀ c else 0) = O₀ c; exact if_pos rfl
theorem owed_first (c : Dev nD) : (dat0 (F := F) m c).owed t0_0.castSucc = O₀ c := by
  show (if (t0_0.castSucc : Fin (cfg0.N + 1)).val = 0 then O₀ c else 0) = O₀ c; exact if_pos rfl
theorem owed_last (c : Dev nD) : (pdats (F := F) m 0 c).owed (Fin.last _) = 0 := by
  show (if (Fin.last cfg0.N).val = 0 then O₀ c else 0) = 0
  rw [Fin.val_last, if_neg (by rw [show cfg0.N = 1 from N_0]; decide)]

theorem owesAt_of {c : Dev nD} (t : Fin (cfg0.N + 1)) (O : CellTallies nD τ sig ℕ) (h0 : (dat0 m c).owed t = O) (W : Waits sig ℕ) :
    (owes (c : Thread nD τ) O W : sProp 𝕄) ⊢ ((dat0 m c).owesAt 0 t : sProp 𝕄) := by
  unfold Dat.owesAt Pipeline.owesWithin Dat.bound; rw [h0]
  iintro HO; iexists W; isplitr; · ipureintro; exact fun _ _ => Or.inl trivial
  iexact HO
theorem of_owesAt {c : Dev nD} (t : Fin (cfg0.N + 1)) (O : CellTallies nD τ sig ℕ) (h0 : (dat0 m c).owed t = O) :
    ((dat0 m c).owesAt 0 t : sProp 𝕄) ⊢ iprop(∃ W, owes (c : Thread nD τ) O W) := by
  unfold Dat.owesAt Pipeline.owesWithin; rw [h0]
  iintro ⟨%W, -, HO⟩; iexists W; iexact HO

theorem before_0 (c : Dev nD) (t : Fin cfg0.N) (d) : (dat0 m c).before 0 t d = iblk m c 0 t :=
  ((dat0 m c).before_in_eq_fetched 0 rfl (fun _ => rfl) (fun _ _ _ => rfl) (fun t => by
    rw [show (dat0 m c).after 0 t = iblk m c 0 t from rfl]; rfl) t d).trans (by unfold Dat.fetched Dat.blockOf iblk; rfl)
theorem before_1 (c : Dev nD) (t : Fin cfg0.N) (d) : (dat0 m c).before 1 t d = iblk m c 1 t :=
  ((dat0 m c).before_in_eq_fetched 1 rfl (fun _ => rfl) (fun _ _ _ => rfl) (fun t => by
    rw [show (dat0 m c).after 1 t = iblk m c 1 t from rfl]; rfl) t d).trans (by unfold Dat.fetched Dat.blockOf iblk; rfl)
theorem before_2 (c : Dev nD) (t : Fin cfg0.N) (d) : (dat0 m c).before 2 t d = iblk m c 2 t :=
  ((dat0 m c).before_in_eq_fetched 2 rfl (fun _ => rfl) (fun _ _ _ => rfl) (fun t => by
    rw [show (dat0 m c).after 2 t = iblk m c 2 t from rfl]; rfl) t d).trans (by unfold Dat.fetched Dat.blockOf iblk; rfl)
theorem before_3 (c : Dev nD) (t : Fin cfg0.N) (d) : (dat0 m c).before 3 t d = iblk m c 3 t :=
  ((dat0 m c).before_in_eq_fetched 3 rfl (fun _ => rfl) (fun _ _ _ => rfl) (fun t => by
    rw [show (dat0 m c).after 3 t = iblk m c 3 t from rfl]; rfl) t d).trans (by unfold Dat.fetched Dat.blockOf iblk; rfl)
theorem before_4 (c : Dev nD) (t : Fin cfg0.N) (d) : (dat0 m c).before 4 t d = iblk m c 4 t :=
  ((dat0 m c).before_in_eq_fetched 4 rfl (fun _ => rfl) (fun _ _ _ => rfl) (fun t => by
    rw [show (dat0 m c).after 4 t = iblk m c 4 t from rfl]; rfl) t d).trans (by unfold Dat.fetched Dat.blockOf iblk; rfl)
theorem stg_0 : (cfg0.win 0).stage (cfg0.slots t0_0 0) = Memref.whole cc0_stg0_0 := rfl
theorem stg_1 : (cfg0.win 1).stage (cfg0.slots t0_0 1) = Memref.whole cc0_stg1_0 := rfl
theorem stg_2 : (cfg0.win 2).stage (cfg0.slots t0_0 2) = Memref.whole cc0_stg2_0 := rfl
theorem stg_3 : (cfg0.win 3).stage (cfg0.slots t0_0 3) = Memref.whole cc0_stg3_0 := rfl
theorem stg_4 : (cfg0.win 4).stage (cfg0.slots t0_0 4) = Memref.whole cc0_stg4_0 := rfl
theorem stg_5 : (cfg0.win 5).stage (cfg0.slots t0_0 5) = Memref.whole cc0_stg5_0 := rfl

theorem wins_in (c : Dev nD) : (iprop((∃ d, owns (c : Thread nD τ) ((cfg0.win 0).stage (cfg0.slots t0_0 0)) fullShare ((dat0 m c).before 0 t0_0 d)) ∗ (∃ d, owns (c : Thread nD τ) ((cfg0.win 1).stage (cfg0.slots t0_0 1)) fullShare ((dat0 m c).before 1 t0_0 d)) ∗ (∃ d, owns (c : Thread nD τ) ((cfg0.win 2).stage (cfg0.slots t0_0 2)) fullShare ((dat0 m c).before 2 t0_0 d)) ∗ (∃ d, owns (c : Thread nD τ) ((cfg0.win 3).stage (cfg0.slots t0_0 3)) fullShare ((dat0 m c).before 3 t0_0 d)) ∗ (∃ d, owns (c : Thread nD τ) ((cfg0.win 4).stage (cfg0.slots t0_0 4)) fullShare ((dat0 m c).before 4 t0_0 d)) ∗ (∃ d, owns (c : Thread nD τ) ((cfg0.win 5).stage (cfg0.slots t0_0 5)) fullShare ((dat0 m c).before 5 t0_0 d))) : sProp 𝕄)
    ⊢ iprop(∃ o0, wins c (xv m c) (wqv m c) (kv m c) (vv m c) (wov m c) o0) := by
  simp only [stg_0, stg_1, stg_2, stg_3, stg_4, stg_5, before_0, before_1, before_2, before_3, before_4]
  unfold wins
  iintro ⟨⟨%d0, H0⟩, ⟨%d1, H1⟩, ⟨%d2, H2⟩, ⟨%d3, H3⟩, ⟨%d4, H4⟩, ⟨%d5, H5⟩⟩
  iexists ((dat0 m c).before 5 t0_0 d5)
  isplitl [H0]; · iapply (Entails.of_eq (owns_whole (c : Thread nD τ) cc0_stg0_0 fullShare (xv m c))) $$ H0
  isplitl [H1]; · iapply (Entails.of_eq (owns_whole (c : Thread nD τ) cc0_stg1_0 fullShare (wqv m c))) $$ H1
  isplitl [H2]; · iapply (Entails.of_eq (owns_whole (c : Thread nD τ) cc0_stg2_0 fullShare (kv m c))) $$ H2
  isplitl [H3]; · iapply (Entails.of_eq (owns_whole (c : Thread nD τ) cc0_stg3_0 fullShare (vv m c))) $$ H3
  isplitl [H4]; · iapply (Entails.of_eq (owns_whole (c : Thread nD τ) cc0_stg4_0 fullShare (wov m c))) $$ H4
  iapply (Entails.of_eq (owns_whole (c : Thread nD τ) cc0_stg5_0 fullShare _)) $$ H5

theorem wins_out (c : Dev nD) : (wins c (xv m c) (wqv m c) (kv m c) (vv m c) (wov m c) (outv m c) : sProp 𝕄)
    ⊢ iprop(owns (c : Thread nD τ) ((cfg0.win 0).stage (cfg0.slots t0_0 0)) fullShare ((dat0 m c).after 0 t0_0) ∗ owns (c : Thread nD τ) ((cfg0.win 1).stage (cfg0.slots t0_0 1)) fullShare ((dat0 m c).after 1 t0_0) ∗ owns (c : Thread nD τ) ((cfg0.win 2).stage (cfg0.slots t0_0 2)) fullShare ((dat0 m c).after 2 t0_0) ∗ owns (c : Thread nD τ) ((cfg0.win 3).stage (cfg0.slots t0_0 3)) fullShare ((dat0 m c).after 3 t0_0) ∗ owns (c : Thread nD τ) ((cfg0.win 4).stage (cfg0.slots t0_0 4)) fullShare ((dat0 m c).after 4 t0_0) ∗ owns (c : Thread nD τ) ((cfg0.win 5).stage (cfg0.slots t0_0 5)) fullShare ((dat0 m c).after 5 t0_0)) := by
  simp only [stg_0, stg_1, stg_2, stg_3, stg_4, stg_5]
  unfold wins
  iintro ⟨H0, H1, H2, H3, H4, H5⟩
  isplitl [H0]; · iapply (Entails.of_eq (owns_whole (c : Thread nD τ) cc0_stg0_0 fullShare (xv m c)).symm) $$ H0
  isplitl [H1]; · iapply (Entails.of_eq (owns_whole (c : Thread nD τ) cc0_stg1_0 fullShare (wqv m c)).symm) $$ H1
  isplitl [H2]; · iapply (Entails.of_eq (owns_whole (c : Thread nD τ) cc0_stg2_0 fullShare (kv m c)).symm) $$ H2
  isplitl [H3]; · iapply (Entails.of_eq (owns_whole (c : Thread nD τ) cc0_stg3_0 fullShare (vv m c)).symm) $$ H3
  isplitl [H4]; · iapply (Entails.of_eq (owns_whole (c : Thread nD τ) cc0_stg4_0 fullShare (wov m c)).symm) $$ H4
  iapply (Entails.of_eq (owns_whole (c : Thread nD τ) cc0_stg5_0 fullShare (outv m c)).symm) $$ H5

/-- The run of device `c`, whichever it is. -/
theorem core (c : Dev nD) (κ : GSem nD τ sig → ℕ) (W : Waits sig ℕ) (Kt : PUnit → sProp 𝕄) (o0 : FVec F S1x1024x1024 .f32) :
    iprop(ghost (dv m) κ c ∗ idle c ∗ owes (c : Thread nD τ) (O₀ c) W ∗ scr c ∗ wins c (xv m c) (wqv m c) (kv m c) (vv m c) (wov m c) o0
        ∗ ((fin c ∗ wins c (xv m c) (wqv m c) (kv m c) (vv m c) (wov m c) (outv m c)) -∗ Kt ⟨⟩))
      ⊢ wp frame (wpE (defs₀ (F := F)) 𝒱₀ (c : Thread nD τ) none) Set.univ (bodyAt0 (F := F) t0_0) Kt := by
  have hc : c = 0 ∨ c = 1 ∨ c = 2 ∨ c = 3 := by revert c; decide
  rcases hc with rfl | rfl | rfl | rfl
  · exact core0 (dv m) κ W Kt (xv m 0) (wqv m 0) (kv m 0) (vv m 0) (wov m 0) o0 (hob m)
  · exact core1 (dv m) κ W Kt (xv m 1) (wqv m 1) (kv m 1) (vv m 1) (wov m 1) o0 rfl
  · exact core2 (dv m) κ W Kt (xv m 2) (wqv m 2) (kv m 2) (vv m 2) (wov m 2) o0
  · exact core3 (dv m) κ W Kt (xv m 3) (wqv m 3) (kv m 3) (vv m 3) (wov m 3) o0

theorem body (c : Dev nD) : BodyObligation (dat0 m c) defs₀ 𝒱₀ 0 Set.univ := fun t => by
  obtain rfl := fin_N0 t
  rw [bigSep_W0, bigSep_W0]
  show iprop((X m c ∗ scr c ∗ ∃ r, prngReg c r) ∗ (dat0 m c).owesAt 0 t0_0.castSucc ∗ (∃ d, owns (c : Thread nD τ) ((cfg0.win 0).stage (cfg0.slots t0_0 0)) fullShare ((dat0 m c).before 0 t0_0 d)) ∗ (∃ d, owns (c : Thread nD τ) ((cfg0.win 1).stage (cfg0.slots t0_0 1)) fullShare ((dat0 m c).before 1 t0_0 d)) ∗ (∃ d, owns (c : Thread nD τ) ((cfg0.win 2).stage (cfg0.slots t0_0 2)) fullShare ((dat0 m c).before 2 t0_0 d)) ∗ (∃ d, owns (c : Thread nD τ) ((cfg0.win 3).stage (cfg0.slots t0_0 3)) fullShare ((dat0 m c).before 3 t0_0 d)) ∗ (∃ d, owns (c : Thread nD τ) ((cfg0.win 4).stage (cfg0.slots t0_0 4)) fullShare ((dat0 m c).before 4 t0_0 d)) ∗ (∃ d, owns (c : Thread nD τ) ((cfg0.win 5).stage (cfg0.slots t0_0 5)) fullShare ((dat0 m c).before 5 t0_0 d)))
    ⊢ wp frame (wpE (defs₀ (F := F)) 𝒱₀ (c : Thread nD τ) none) Set.univ (bodyAt0 (F := F) t0_0) fun _ =>
        iprop(((semVal (barCell c) 0 ∗ Pipeline.ownSems0 osem c) ∗ scr c ∗ ∃ r, prngReg c r) ∗ (dat0 m c).owesAt 0 t0_0.succ ∗ owns (c : Thread nD τ) ((cfg0.win 0).stage (cfg0.slots t0_0 0)) fullShare ((dat0 m c).after 0 t0_0) ∗ owns (c : Thread nD τ) ((cfg0.win 1).stage (cfg0.slots t0_0 1)) fullShare ((dat0 m c).after 1 t0_0) ∗ owns (c : Thread nD τ) ((cfg0.win 2).stage (cfg0.slots t0_0 2)) fullShare ((dat0 m c).after 2 t0_0) ∗ owns (c : Thread nD τ) ((cfg0.win 3).stage (cfg0.slots t0_0 3)) fullShare ((dat0 m c).after 3 t0_0) ∗ owns (c : Thread nD τ) ((cfg0.win 4).stage (cfg0.slots t0_0 4)) fullShare ((dat0 m c).after 4 t0_0) ∗ owns (c : Thread nD τ) ((cfg0.win 5).stage (cfg0.slots t0_0 5)) fullShare ((dat0 m c).after 5 t0_0))
  unfold X
  iintro ⟨⟨⟨%κ, Hg, Hi⟩, Hs, Hreg⟩, HO, Hw⟩
  ihave HO' := (of_owesAt m _ (O₀ c) (owed_first m c)) $$ HO
  icases HO' with ⟨%W, HO⟩
  ihave Hw' := (wins_in m c) $$ Hw
  icases Hw' with ⟨%o0, Hw⟩
  iapply (core m c κ W _ o0)
  isplitl [Hg]; · iexact Hg
  isplitl [Hi]; · iexact Hi
  isplitl [HO]; · iexact HO
  isplitl [Hs]; · iexact Hs
  isplitl [Hw]; · iexact Hw
  unfold fin
  iintro ⟨⟨⟨%W', HO⟩, Hz, Hs⟩, Hw⟩
  isplitr [HO Hw]
  · isplitl [Hz]; · iexact Hz
    isplitl [Hs]; · iexact Hs
    iexact Hreg
  isplitl [HO]; · iapply (owesAt_of m t0_0.succ 0 (owed_last m c) W'); iexact HO
  iapply (wins_out m c); iexact Hw

/-! ## The region -/

local notation "ℍ" => Pipeline.HostSeg (Name := ℕ) (U := UU) (pcfgs (F := F)) defs₀ 𝒱₀ L lv
local notation "ℝ𝕊" => Pipeline.RegionSeg (pcfgs (F := F)) adm (pdats m) 0 defs₀ 𝒱₀ L lv

/-- What the launch keeps for the kernel. -/
def Tk (c : Dev nD) : sProp 𝕄 :=
  iprop(fam.launched ER (Rd (dv m)) (fun _ => Finset.univ) c ∗ Pipeline.launchCred O₀ c)
/-- What rides beside the buffers up to the kernel. -/
def R (c : Dev nD) : sProp 𝕄 := iprop(Tk m c ∗ (∃ r, prngReg c r) ∗ ∃ W, owes (c : Thread nD τ) (O₀ c) W)

theorem due_tc : ∀ c : Dev nD, ∀ x ∈ dueL c, x.1.1.2 = .tc := fun c x hx => by
  obtain ⟨g, hg, rfl⟩ := List.mem_map.mp hx
  exact (by decide +kernel : ∀ c : Dev nD, ∀ g ∈ owedCells c, g.1.2 = .tc) c g hg

theorem hopen (c : Dev nD) : iprop(Tk m c ∗ Pipeline.ownSems0 osem c ∗ levAts L lv) ⊢ (|={Set.univ}=> X m c : sProp 𝕄) := by
  have hl : (Pipeline.launchCred O₀ c : sProp 𝕄) = cred (TalkSites.tallyL (TalkSites.credOf dueL c)) := TalkSites.launchCred_tallyL dueL due_tc c
  have e1 : (bigSep Finset.univ fun j : Fin 1 => fam.rides ER (Rd (dv m)) c j : sProp 𝕄) = fam.rides ER (Rd (dv m)) c 0 :=
    bigSep_univ_eq_bigSepL [0] (by decide) (by decide) _
  unfold Tk TalkSites.Fam.launched
  rw [hl, e1]
  unfold TalkSites.Fam.barPos TalkSites.Fam.rides X
  iintro ⟨⟨⟨⟨-, Hb, #HRb⟩, ⟨%κ, #HI⟩, Hop, Htok⟩, Hcr⟩, Hos, #Hlev⟩
  imod (open_all (dv m) κ c) $$ [Hop Hos] with H
  · isplitr; · iexact HI
    isplitl [Hop]; · iexact Hop
    iexact Hos
  ihave H' := (Entails.of_eq (bigSep_sep' Finset.univ (fun k : Fin 42 => (atPos ER (dcell c (ow k)) 0 ∅ 0 : sProp 𝕄)) fun k => reached ER (dcell c (ow k)) 0)) $$ H
  icases H' with ⟨Hat, #HRo⟩
  ihave Hat' := (Entails.of_eq (split_used c fun k => (atPos ER (dcell c (ow k)) 0 ∅ 0 : sProp 𝕄))) $$ Hat
  icases Hat' with ⟨Hu, Hi⟩
  imodintro
  iexists κ
  unfold ghost idle
  isplitr [Hi]
  · isplitr; · iexact HI
    isplitr; · iexact HRb
    isplitr; · iexact Hlev
    isplitr; · iexact HRo
    isplitl [Hb]; · iexact Hb
    isplitl [Hu]; · iexact Hu
    isplitl [Htok]; · iexact Htok
    iexact Hcr
  iexact Hi

theorem scr_eq (c : Dev nD) : (Pipeline.scopedRest (Pipeline.pin (pcfgs (F := F)) adm 0).spec c : sProp 𝕄) = scr c :=
  scopedRest0_eq c
theorem held_none (c : Dev nD) (W : Valuation τ sig (Elt F)) : (StableHlo.held (c.tc : Thread nD τ) ∅ W : sProp 𝕄) = BI.emp := by
  unfold StableHlo.held; exact BI.bigSep_empty

theorem hin (c : Dev nD) : iprop(Pipeline.scopedRest (Pipeline.pin (pcfgs (F := F)) adm 0).spec c ∗ (∃ r, prngReg c r) ∗ StableHlo.held (c.tc : Thread nD τ) ∅ (V₁ m c) ∗ X m c)
    ⊢ (pdats m 0 c).Φ 0 := by
  rw [show (pdats m 0 c).Φ 0 = iprop(X m c ∗ scr c ∗ ∃ r, prngReg c r) from rfl, scr_eq]
  iintro ⟨Hs, Hp, -, HX⟩
  isplitl [HX]; · iexact HX
  isplitl [Hs]; · iexact Hs
  iexact Hp
theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V₂ m c) ∗ Pipeline.ownSems0 osem c ∗ semVal (barCell c) 0) := by
  rw [show (pdats m 0 c).Φ (Fin.last _) = iprop((semVal (barCell c) 0 ∗ Pipeline.ownSems0 osem c) ∗ scr c ∗ ∃ r, prngReg c r) from rfl, scr_eq, held_none]
  iintro ⟨⟨Hb, Ho⟩, Hs, Hp⟩
  isplitl [Hs]; · iexact Hs
  isplitl [Hp]; · iexact Hp
  isplitr; · iempintro
  isplitl [Ho]; · iexact Ho
  iexact Hb

theorem cutD (c : Dev nD) (t : Fin ((Pipeline.pin (pcfgs (F := F)) adm 0).N + 1)) (g : GSem nD τ sig) (i : ℕ) (h : 0 < (pdats (F := F) m 0 c).owed t g i) :
    i ∈ L g ∧ (0 : ℕ) < lv g i := by
  have e : (pdats (F := F) m 0 c).owed t = if t.val = 0 then O₀ c else 0 := rfl
  rw [e] at h
  split at h
  · obtain ⟨x, hx, rfl, rfl⟩ := TalkSites.tallyL_pos h
    obtain ⟨g, hg, rfl⟩ := List.mem_map.mp hx
    exact (by decide +kernel : ∀ c : Dev nD, ∀ g ∈ owedCells c, 0 ∈ L g ∧ (0 : ℕ) < lv g 0) c g hg
  · exact absurd h (Nat.lt_irrefl 0)

abbrev rest : Finset (DevRef τ sig) := Pipeline.ucRefs τ sig \ Pipeline.arrRefs (τ := τ) spec0

theorem own_facts : Pipeline.OwnSemFacts spec0 osem := by decide

theorem stage_low : ∀ (c : Dev nD) (w : Fin 6) (s : Fin (spec0 w).nbuf), lv ((c : Thread nD τ), SemLoc.dma ((spec0 w).sem s)) 0 ≤ 0 := by decide +kernel

theorem V₂_ne (c : Dev nD) (b : DevRef τ sig) (h : b ≠ Proc.devRef .tc main_v6) : V₂ m c b = V₁ m c b := by
  unfold V₂; exact Function.update_of_ne h _ _

theorem arr_out (c : Dev nD) : (dat0 m c).arrAt 5 cfg0.N = outv m c :=
  (dat0 m c).arrAt_eq_of_after_last 5 t0_0 (by decide +kernel) (outv m c) (fun j => rfl)

theorem hW' (c : Dev nD) : ∀ w, (pdats m 0 c).arrAt w (Pipeline.pin (pcfgs (F := F)) adm 0).N = V₂ m c (Proc.devRef .tc (Pipeline.arrRef (Pipeline.pin (pcfgs (F := F)) adm 0).spec w)) := by
  have hne : ∀ w : Fin 6, w ≠ 5 → (Proc.devRef .tc (Pipeline.arrRef spec0 w) : DevRef τ sig) ≠ Proc.devRef .tc main_v6 := by decide
  have hin : ∀ w : Fin 6, w ≠ 5 → (cfg0.win w).isOut = false := by decide
  intro w
  by_cases hw : w = (5 : Fin 6)
  · subst hw
    refine (arr_out m c).trans ?_
    unfold V₂; exact (Function.update_self (Proc.devRef .tc main_v6 : DevRef τ sig) (outv m c) (V₁ m c)).symm
  · exact ((dat0 m c).arrAt_in w (hin w hw) _).trans (V₂_ne m c _ (hne w hw)).symm

set_option backward.isDefEq.respectTransparency.types false in
def reg0 : ℝ𝕊 0 :=
  Pipeline.RegionSeg.ofTalk (pcfgs (F := F)) adm (pdats m) 0 defs₀ 𝒱₀ L lv 0 osem own_facts
    ∅ rest (Finset.empty_subset _) launch0.toP rfl (fun c => (body m c).loose)
    (fun _ => 0) O₀ (fun c => (owed_zero m c).trans (zero_add _).symm) (owed_last m) (fun _ => rfl) (fun c w => by revert w; exact (by decide : ∀ w : Fin 6, (if (cfg0.win w).isOut then fullShare else fullShare) = (fullShare : PosShare TreeShare)))
    (V₁ m) (V₂ m) (fun c b hb => V₂_ne m c b (by rintro rfl; revert hb; decide))
    (Tk m) (fun c => semVal (barCell c) 0) (X m) (fun c => semVal (barCell c) 0) (hopen m) (hin m) (hout m)
    (fun c => by iintro H; imodintro; iexact H)
    (fun _ => 0)
    ⟨fun c w s => by rw [L_tc]; exact Finset.mem_singleton_self _, fun c w s => stage_low c w s, fun c t g i h => cutD m c t g i h⟩
    (fun _ => iprop(emp))
    (fun _ _ => rfl) (hW' m)

theorem host_sub : ∀ op ∈ (hostOps0 : List (HloOp τ sig (Elt F))), op.bufs ⊆ Pipeline.ucRefs τ sig := fun op h =>
  Pipeline.sub_ucRefs op ((List.forall_iff_forall_mem.mp hostOps0_sub) op h)
theorem host_fresh : ∀ op ∈ (hostOps0 : List (HloOp τ sig (Elt F))), op.fresh = ∅ :=
  List.forall_iff_forall_mem.mp hostOps0_fresh

/-- The reshapes and casts before the kernel. -/
def seg0 : ℍ := Pipeline.HostSeg.ofOps _ _ _ _ _ (Pipeline.ucRefs τ sig) hostOps0 host_sub host_fresh (V₀ m) (R m)

theorem arr_sub : Pipeline.arrRefs (τ := τ) spec0 ⊆ Pipeline.ucRefs τ sig := Pipeline.arrRefs_sub_ucRefs spec0 (by decide)

theorem reg0_pre (c : Dev nD) : iprop(StableHlo.held (c : Thread nD τ) (Pipeline.ucRefs τ sig) (V₁ m c) ∗ R m c) ⊢ (reg0 m).pre c := by
  show _ ⊢ iprop(StableHlo.held (c.tc : Thread nD τ) (Pipeline.arrRefs (τ := τ) spec0) (V₁ m c) ∗ (∃ r, prngReg c r)
    ∗ (StableHlo.held (c.tc : Thread nD τ) rest (V₁ m c) ∗ emp) ∗ Tk m c ∗ ∃ Wd, owes (c : Thread nD τ) (0 + O₀ c) Wd)
  rw [StableHlo.held_sub_split (c.tc : Thread nD τ) arr_sub (V₁ m c), zero_add]
  unfold R
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem reg0_post (c : Dev nD) : (reg0 m).post c
    ⊢ iprop((StableHlo.held (c : Thread nD τ) (Pipeline.ucRefs τ sig) (V₂ m c) ∗ semVal (barCell c) 0) ∗ ∃ W, owes (c : Thread nD τ) (0 : CellTallies nD τ sig ℕ) W) := by
  show iprop(StableHlo.held (c.tc : Thread nD τ) (Pipeline.arrRefs (τ := τ) spec0) (V₂ m c) ∗ (∃ r, prngReg c r)
    ∗ (StableHlo.held (c.tc : Thread nD τ) rest (V₂ m c) ∗ emp) ∗ semVal (barCell c) 0 ∗ ∃ Wd, owes (c : Thread nD τ) (0 : CellTallies nD τ sig ℕ) Wd) ⊢ _
  rw [StableHlo.held_sub_split (c.tc : Thread nD τ) arr_sub (V₂ m c)]
  iintro ⟨Ha, -, ⟨Hr, -⟩, Hb, HO⟩
  isplitr [HO]
  · isplitl [Ha Hr]; · isplitl [Ha] <;> iassumption
    iexact Hb
  iexact HO

def segs : List (Pipeline.Seg (pcfgs (F := F)) adm (pdats m) 0 defs₀ 𝒱₀ L lv) := [.host (seg0 m), .region (reg0 m)]

theorem main_eq (c : Dev nD) : main (F := F) c = Pipeline.Seg.run (segs m) :=
  main_segs adm (pdats m) 0 𝒱₀ L lv (seg0 m) (reg0 m) rfl c

/-! ## The launch -/

/-- The launch element: the pipeline library's at the staging cells, the protocol's at its own. -/
def u₀ : UU :=
  (initOf (Pipeline.cells (Pipeline.pin (pcfgs (F := F)) adm) cellOf_inj) (Pipeline.launchToks (Pipeline.pin (pcfgs (F := F)) adm) cellOf_inj),
    launchOf fam.S fam.Sd fam.T)

/-- The protocol's element, kept on device 0 until the launch deals it. -/
def G (c : Dev nD) : sProp 𝕄 := if c = 0 then BI.own (ER (launchOf fam.S fam.Sd fam.T)) else iprop(emp)
theorem G_all : bigSep Finset.univ (G (F := F)) = BI.own (ER (launchOf fam.S fam.Sd fam.T)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

abbrev T₀ (c : Dev nD) : sProp 𝕄 := iprop(StableHlo.held (c : Thread nD τ) (Pipeline.ucRefs τ sig) (V₀ m c) ∗ R m c)
abbrev Tₙ (c : Dev nD) : sProp 𝕄 := iprop(StableHlo.held (c : Thread nD τ) (Pipeline.ucRefs τ sig) (V₂ m c) ∗ semVal (barCell c) 0)

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop((StableHlo.held (c : Thread nD τ) (Pipeline.ucRefs τ sig) (V₀ m c) ∗ owes (c : Thread nD τ) (O₀ c) ∅ ∗ Pipeline.launchCred O₀ c ∗ prngReg c (ρ c))
          ∗ (iprop(semVal (barCell c) 0 ∗ Pipeline.launchCred (fun _ => 0) c) ∗ G c)) : sProp 𝕄) := by
    rw [show unscopedBufs c (fun b => m ((c : Thread nD τ).loc b)) = StableHlo.held (c : Thread nD τ) (Pipeline.ucRefs τ sig) (V₀ m c) from Pipeline.unscopedBufs_held c (V₀ m c),
      unscopedSems0_eq, show (Pipeline.launchCred (fun _ => 0) c : sProp 𝕄) = BI.emp from Pipeline.launchCred_zero c]
    iintro ⟨Hh, Hus, HO, Hcr, Hp, HG⟩
    isplitl [Hh HO Hcr Hp]
    · isplitl [Hh]; · iexact Hh
      isplitl [HO]; · iexact HO
      isplitl [Hcr] <;> iassumption
    isplitl [Hus]
    · isplitl [Hus]; · iexact Hus
      iempintro
    iexact HG
  have hdone (c : Dev nD) : iprop((StableHlo.held (c : Thread nD τ) (Pipeline.ucRefs τ sig) (V₀ m c) ∗ owes (c : Thread nD τ) (O₀ c) ∅ ∗ Pipeline.launchCred O₀ c ∗ prngReg c (ρ c))
        ∗ fam.launched ER (Rd (dv m)) (fun _ => Finset.univ) c) ⊢ (T₀ m c : sProp 𝕄) := by
    unfold T₀ R Tk
    iintro ⟨⟨Hh, HO, Hcr, Hp⟩, HL⟩
    isplitl [Hh]; · iexact Hh
    isplitl [HL Hcr]; · isplitl [HL] <;> iassumption
    isplitl [Hp]; · iexists (ρ c); iexact Hp
    iexists ∅; iexact HO
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop((StableHlo.held (c : Thread nD τ) (Pipeline.ucRefs τ sig) (V₀ m c) ∗ owes (c : Thread nD τ) (O₀ c) ∅ ∗ Pipeline.launchCred O₀ c ∗ prngReg c (ρ c))
          ∗ (iprop(semVal (barCell c) 0 ∗ Pipeline.launchCred (fun _ => 0) c) ∗ G c)) : sProp 𝕄) from bigSep_mono fun c _ => hcore c) $$ H
  ihave H2 := (Entails.of_eq (bigSep_sep' Finset.univ _ _)) $$ H'; icases H2 with ⟨HB, H3⟩
  ihave H4 := (Entails.of_eq (bigSep_sep' Finset.univ _ _)) $$ H3; icases H4 with ⟨Hv, HG⟩
  ihave Hu := (Entails.of_eq (G_all (F := F))) $$ HG
  imod (fam.funds ER (Rd (dv m)) (fun _ _ h => h) (fun _ => Finset.univ) (Es := Set.univ)) $$ [Hv Hu] with HL
  · isplitl [Hv]; · iexact Hv
    iexact Hu
  imodintro
  iapply (show iprop((bigSep Finset.univ fun c : Dev nD => iprop(StableHlo.held (c : Thread nD τ) (Pipeline.ucRefs τ sig) (V₀ m c) ∗ owes (c : Thread nD τ) (O₀ c) ∅ ∗ Pipeline.launchCred O₀ c ∗ prngReg c (ρ c)))
      ∗ bigSep Finset.univ fun c : Dev nD => fam.launched ER (Rd (dv m)) (fun _ => Finset.univ) c) ⊢ (bigSep Finset.univ (T₀ m) : sProp 𝕄) from by
    rw [← bigSep_sep']; exact bigSep_mono fun c _ => hdone c)
  isplitl [HB]; · iexact HB
  iexact HL

/-! ## The run -/

/-- Held buffers read what they hold. -/
theorem held_read (c : Dev nD) (W : Valuation τ sig (Elt F)) (s : Phys nD τ sig (Elt F)) (S : Finset (DevRef τ sig)) :
    iprop(StableHlo.held (c : Thread nD τ) S W ∗ SI s) ⊢ (iprop(⌜∀ b ∈ S, s.mem.mem (c, b) = W b⌝ ∗ SI s) : sProp 𝕄) := by
  induction S using Finset.induction_on with
  | empty =>
    iintro ⟨-, HSI⟩
    isplitr; · ipureintro; exact fun b h => absurd h (Finset.notMem_empty b)
    iexact HSI
  | insert b S hb ih =>
    rw [show (StableHlo.held (c : Thread nD τ) (insert b S) W : sProp 𝕄) = iprop((((c, b) : Loc nD τ sig) ↦{fullShare} W b) ∗ StableHlo.held (c : Thread nD τ) S W) from
      BI.bigSep_insert hb]
    iintro ⟨⟨Hb, Hh⟩, HSI⟩
    icombine HSI Hb gives %hx
    ihave H := ih $$ [Hh HSI]
    · isplitl [Hh] <;> iassumption
    icases H with ⟨%hq, HSI⟩
    isplitr
    · ipureintro
      intro b' hb'
      rcases Finset.mem_insert.mp hb' with rfl | h
      · exact Buf.eq_of_forall_mem_univ hx
      · exact hq b' h
    iexact HSI

theorem unscoped_bar : ∀ sm : SemLoc sig, sm.isScoped .tc = false → sm = .reg barS := by decide

theorem V₂_arg (c : Dev nD) (b : Ref sig .tc) (h : (Proc.devRef .tc b : DevRef τ sig) ≠ Proc.devRef .tc main_v6) (hV : V m c b = m ((c : Thread nD τ).loc b)) :
    V₂ m c (Proc.devRef .tc b) = m ((c : Thread nD τ).loc b) := (V₂_ne m c _ h).trans hV

set_option backward.isDefEq.respectTransparency.types false in
/-- The whole program: from any memory with zero counters every weakly fair execution on the four devices terminates, and
    leaves the arguments unchanged, each device's result as named, and every counter at zero. -/
theorem run_main : θ_run defs (onTc (τ := τ) (main (F := F))) ⟨m, fun _ => 0, ρ⟩
    (fun r => (∀ c : Dev nD, r.2.mem ((c : Thread nD τ).loc main_v6) = outv m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) :=
  Pipeline.θ_run_regions_kit_sems (pcfgs (F := F)) adm (pdats m) 0 cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := by refine ⟨fun c => .rfl, fun c => reg0_pre m c, fun c => reg0_post m c⟩)
    (hinit := init m ρ)
    (QY := fun c s => (∀ b ∈ Pipeline.ucRefs τ sig, s.mem (c, b) = V₂ m c b) ∧ s.sem (barCell c) = 0)
    (hfin := fun c s' => by
      dsimp only [Tₙ]
      iintro ⟨⟨Hh, Hb0⟩, HSI⟩
      icombine HSI Hb0 gives %hb
      ihave Hq := (held_read c (V₂ m c) s' (Pipeline.ucRefs τ sig)) $$ [Hh HSI]
      · isplitl [Hh] <;> iassumption
      icases Hq with ⟨%hq, HSI⟩
      imodintro
      isplitr
      · ipureintro
        exact ⟨hq, by simpa using hb⟩
      iexact HSI)
    (hQ := fun s h hs => ⟨fun c => by
        obtain ⟨hq, -⟩ := h c
        refine ⟨(hq (Proc.devRef .tc main_v6) (by decide)).trans (by unfold V₂; exact Function.update_self (Proc.devRef .tc main_v6 : DevRef τ sig) (outv m c) (V₁ m c)), ?_, ?_, ?_, ?_, ?_⟩
        · exact (hq (Proc.devRef .tc main_arg0) (by decide)).trans (V₂_arg m c main_arg0 (by decide) (V_main_arg0 m c))
        · exact (hq (Proc.devRef .tc main_arg1) (by decide)).trans (V₂_arg m c main_arg1 (by decide) (V_main_arg1 m c))
        · exact (hq (Proc.devRef .tc main_arg2) (by decide)).trans (V₂_arg m c main_arg2 (by decide) (V_main_arg2 m c))
        · exact (hq (Proc.devRef .tc main_arg3) (by decide)).trans (V₂_arg m c main_arg3 (by decide) (V_main_arg3 m c))
        · exact (hq (Proc.devRef .tc main_arg4) (by decide)).trans (V₂_arg m c main_arg4 (by decide) (V_main_arg4 m c)),
      sem_eq_zero hs fun c sm hsm => by
        obtain rfl := unscoped_bar sm hsm
        exact (h c).2⟩)

end Cert.KernelIdeal.Talk

end
-- ==== Proof.Same.lean ====
/-
  The kernel's program read at the word instance is the idealized program read there: part by part.
-/
module

public import proofs.«01_k».proof.Kernel
public import proofs.«01_k».proof.Proof.Gen.Kernel
public import proofs.«01_k».proof.Proof.Gen.KernelIdeal
public import Idealize.ShloMosaic.PureOps.BitExact

@[expose] public section

set_option maxRecDepth 16384

noncomputable section

namespace Cert.Claims

open Idealize.ShloMosaic Idealize.SL.Sem

attribute [local instance] Cert.Kernel.Gen.facts Cert.KernelIdeal.Gen.facts Cert.Kernel.Gen.facts₀ Cert.KernelIdeal.Gen.facts₀

/-- A named constant at `Bits` is the word it is written for: the idealized program read at `Bits` is the kernel. -/
instance namedBits : Named Bits := ⟨fun _ _ {φ} b => Scalar.ofBits φ b⟩

theorem part1 : Cert.Kernel.k0_part1 (F := Bits) = Cert.KernelIdeal.k0_part1 (F := Bits) := rfl

theorem part2 : Cert.Kernel.k0_part2 (F := Bits) = Cert.KernelIdeal.k0_part2 (F := Bits) := rfl

theorem part3 : Cert.Kernel.k0_part3 (F := Bits) = Cert.KernelIdeal.k0_part3 (F := Bits) := rfl

theorem part4 : Cert.Kernel.k0_part4 (F := Bits) = Cert.KernelIdeal.k0_part4 (F := Bits) := rfl

theorem part5 : Cert.Kernel.k0_part5 (F := Bits) = Cert.KernelIdeal.k0_part5 (F := Bits) := rfl

theorem part6 : Cert.Kernel.k0_part6 (F := Bits) = Cert.KernelIdeal.k0_part6 (F := Bits) := rfl

theorem part7 : Cert.Kernel.k0_part7 (F := Bits) = Cert.KernelIdeal.k0_part7 (F := Bits) := rfl

theorem part8 : Cert.Kernel.k0_part8 (F := Bits) = Cert.KernelIdeal.k0_part8 (F := Bits) := rfl

theorem part9 : Cert.Kernel.k0_part9 (F := Bits) = Cert.KernelIdeal.k0_part9 (F := Bits) := rfl

theorem part10 : Cert.Kernel.k0_part10 (F := Bits) = Cert.KernelIdeal.k0_part10 (F := Bits) := rfl

theorem part11 : Cert.Kernel.k0_part11 (F := Bits) = Cert.KernelIdeal.k0_part11 (F := Bits) := rfl

theorem part12 : Cert.Kernel.k0_part12 (F := Bits) = Cert.KernelIdeal.k0_part12 (F := Bits) := rfl

theorem part13 : Cert.Kernel.k0_part13 (F := Bits) = Cert.KernelIdeal.k0_part13 (F := Bits) := rfl

theorem part14 : Cert.Kernel.k0_part14 (F := Bits) = Cert.KernelIdeal.k0_part14 (F := Bits) := rfl

theorem part15 : Cert.Kernel.k0_part15 (F := Bits) = Cert.KernelIdeal.k0_part15 (F := Bits) := rfl

theorem part16 : Cert.Kernel.k0_part16 (F := Bits) = Cert.KernelIdeal.k0_part16 (F := Bits) := rfl

theorem part17 : Cert.Kernel.k0_part17 (F := Bits) = Cert.KernelIdeal.k0_part17 (F := Bits) := rfl

theorem part18 : Cert.Kernel.k0_part18 (F := Bits) = Cert.KernelIdeal.k0_part18 (F := Bits) := rfl

theorem part19 : Cert.Kernel.k0_part19 (F := Bits) = Cert.KernelIdeal.k0_part19 (F := Bits) := rfl

theorem part20 : Cert.Kernel.k0_part20 (F := Bits) = Cert.KernelIdeal.k0_part20 (F := Bits) := rfl

theorem part21 : Cert.Kernel.k0_part21 (F := Bits) = Cert.KernelIdeal.k0_part21 (F := Bits) := rfl

theorem part22 : Cert.Kernel.k0_part22 (F := Bits) = Cert.KernelIdeal.k0_part22 (F := Bits) := rfl

theorem part23 : Cert.Kernel.k0_part23 (F := Bits) = Cert.KernelIdeal.k0_part23 (F := Bits) := rfl

theorem part24 : Cert.Kernel.k0_part24 (F := Bits) = Cert.KernelIdeal.k0_part24 (F := Bits) := rfl

theorem part25 : Cert.Kernel.k0_part25 (F := Bits) = Cert.KernelIdeal.k0_part25 (F := Bits) := rfl

theorem part26 : Cert.Kernel.k0_part26 (F := Bits) = Cert.KernelIdeal.k0_part26 (F := Bits) := rfl

theorem part27 : Cert.Kernel.k0_part27 (F := Bits) = Cert.KernelIdeal.k0_part27 (F := Bits) := rfl

theorem part28 : Cert.Kernel.k0_part28 (F := Bits) = Cert.KernelIdeal.k0_part28 (F := Bits) := rfl

theorem part29 : Cert.Kernel.k0_part29 (F := Bits) = Cert.KernelIdeal.k0_part29 (F := Bits) := rfl

theorem part30 : Cert.Kernel.k0_part30 (F := Bits) = Cert.KernelIdeal.k0_part30 (F := Bits) := rfl

theorem part31 : Cert.Kernel.k0_part31 (F := Bits) = Cert.KernelIdeal.k0_part31 (F := Bits) := rfl

theorem part32 : Cert.Kernel.k0_part32 (F := Bits) = Cert.KernelIdeal.k0_part32 (F := Bits) := rfl

theorem part33 : Cert.Kernel.k0_part33 (F := Bits) = Cert.KernelIdeal.k0_part33 (F := Bits) := rfl

theorem part34 : Cert.Kernel.k0_part34 (F := Bits) = Cert.KernelIdeal.k0_part34 (F := Bits) := rfl

theorem part35 : Cert.Kernel.k0_part35 (F := Bits) = Cert.KernelIdeal.k0_part35 (F := Bits) := rfl

theorem part36 : Cert.Kernel.k0_part36 (F := Bits) = Cert.KernelIdeal.k0_part36 (F := Bits) := rfl

theorem part37 : Cert.Kernel.k0_part37 (F := Bits) = Cert.KernelIdeal.k0_part37 (F := Bits) := rfl

theorem part38 : Cert.Kernel.k0_part38 (F := Bits) = Cert.KernelIdeal.k0_part38 (F := Bits) := rfl

theorem part39 : Cert.Kernel.k0_part39 (F := Bits) = Cert.KernelIdeal.k0_part39 (F := Bits) := rfl

theorem part40 : Cert.Kernel.k0_part40 (F := Bits) = Cert.KernelIdeal.k0_part40 (F := Bits) := rfl

theorem part41 : Cert.Kernel.k0_part41 (F := Bits) = Cert.KernelIdeal.k0_part41 (F := Bits) := rfl

theorem part42 : Cert.Kernel.k0_part42 (F := Bits) = Cert.KernelIdeal.k0_part42 (F := Bits) := rfl

theorem part43 : Cert.Kernel.k0_part43 (F := Bits) = Cert.KernelIdeal.k0_part43 (F := Bits) := rfl

theorem part44 : Cert.Kernel.k0_part44 (F := Bits) = Cert.KernelIdeal.k0_part44 (F := Bits) := rfl

theorem part45 : Cert.Kernel.k0_part45 (F := Bits) = Cert.KernelIdeal.k0_part45 (F := Bits) := rfl

theorem part46 : Cert.Kernel.k0_part46 (F := Bits) = Cert.KernelIdeal.k0_part46 (F := Bits) := rfl

theorem part47 : Cert.Kernel.k0_part47 (F := Bits) = Cert.KernelIdeal.k0_part47 (F := Bits) := rfl

theorem part48 : Cert.Kernel.k0_part48 (F := Bits) = Cert.KernelIdeal.k0_part48 (F := Bits) := rfl

theorem part49 : Cert.Kernel.k0_part49 (F := Bits) = Cert.KernelIdeal.k0_part49 (F := Bits) := rfl

theorem part50 : Cert.Kernel.k0_part50 (F := Bits) = Cert.KernelIdeal.k0_part50 (F := Bits) := rfl

theorem part51 : Cert.Kernel.k0_part51 (F := Bits) = Cert.KernelIdeal.k0_part51 (F := Bits) := rfl

theorem part52 : Cert.Kernel.k0_part52 (F := Bits) = Cert.KernelIdeal.k0_part52 (F := Bits) := rfl

theorem part53 : Cert.Kernel.k0_part53 (F := Bits) = Cert.KernelIdeal.k0_part53 (F := Bits) := rfl

theorem part54 : Cert.Kernel.k0_part54 (F := Bits) = Cert.KernelIdeal.k0_part54 (F := Bits) := rfl

theorem part55 : Cert.Kernel.k0_part55 (F := Bits) = Cert.KernelIdeal.k0_part55 (F := Bits) := rfl

theorem part56 : Cert.Kernel.k0_part56 (F := Bits) = Cert.KernelIdeal.k0_part56 (F := Bits) := rfl

theorem body_eq : Cert.Kernel.cc0_body (F := Bits) = Cert.KernelIdeal.cc0_body (F := Bits) := rfl

end Cert.Claims

end
-- ==== Proof.Frames.lean ====
/-
  The frames of the two kernel programs, from the one run; the rewrite's rule.
-/
module

public import proofs.«01_k».proof.Proof.Region
public import proofs.«01_k».proof.Proof.Same
public import proofs.«01_k».proof.Defs
public import proofs.«01_k».proof.Proof.Gen.Kernel
public import proofs.«01_k».proof.Proof.Gen.ReferenceIdeal.Run

@[expose] public section

set_option maxRecDepth 16384

noncomputable section

namespace Cert.Claims

open Idealize.ShloMosaic Idealize.SL.Sem
open TcCoe

attribute [local instance] Cert.Kernel.Gen.facts Cert.KernelIdeal.Gen.facts

theorem main_eq : Cert.Kernel.main (F := Bits) = Cert.KernelIdeal.main (F := Bits) := rfl

theorem defs₀_eq : Cert.Kernel.defs₀ (F := Bits) = Cert.KernelIdeal.defs₀ (F := Bits) := by
  refine congrArg Defs.onTc ?_
  funext l
  match l with
  | 0 => exact funext fun _ => rfl

theorem defs_eq : Cert.Kernel.defs (F := Bits) = Cert.KernelIdeal.defs (F := Bits) :=
  congrArg (Pipeline.defs (Cert.KernelIdeal.pcfgs (F := Bits))) defs₀_eq

theorem frame_kernel : Cert.quiescent_Kernel := by
  intro m ρ _
  rw [main_eq, defs_eq]
  exact (θ_run _ _ _).mono (fun r h => (⟨fun c => (h.1 c).2, h.2⟩ : _ ∧ r.2.sem = fun _ => 0)) (Cert.KernelIdeal.Talk.run_main (F := Bits) m ρ)

theorem frame_ideal : Cert.quiescent_KernelIdeal := fun m ρ _ =>
  (θ_run _ _ _).mono (fun _ h => ⟨fun c => (h.1 c).2, h.2⟩) (Cert.KernelIdeal.Talk.run_main (F := Ideal) m ρ)

attribute [local instance] Cert.ReferenceIdeal.Gen.facts in
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem rewrites : Cert.preserves_Kernel_KernelIdeal :=
  IdealRules.named_const.statement Cert.KernelIdeal.κ "kmask" .f32 0xF149F2CA#32 ⊥ rfl

end Cert.Claims

end
-- ==== Proof.Soft.lean ====
/-
  A masked softmax over the extended reals: with the row's maximum subtracted first, and without.
-/
module

public import Idealize.ShloMosaic.PureOps.Ideal
public import Idealize.ShloMosaic.PureOps.Ideal.Laws
public import Idealize.ShloMosaic.Lib.FinSumWindow
public import proofs.«01_k».proof.Proof.Region

@[expose] public section

noncomputable section

namespace Cert.Soft

open Idealize.ShloMosaic
open scoped BigOperators

theorem sum_coe {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem div_real (a b : ℝ) (h : b ≠ 0) : Ideal.div (a : EReal) (b : EReal) = ((a / b : ℝ) : EReal) := by
  rw [Ideal.div_coe h, ← EReal.coe_mul, mul_one_div]

/-- A score where the mask is set, `⊥` elsewhere. -/
def sel (m : Prop) [Decidable m] (r : ℝ) : EReal := if m then (r : EReal) else ⊥
/-- Its exponential. -/
def pe (m : Prop) [Decidable m] (r : ℝ) : ℝ := if m then Real.exp r else 0

theorem pe_nonneg (m : Prop) [Decidable m] (r : ℝ) : 0 ≤ pe m r := by
  unfold pe; split
  · exact (Real.exp_pos r).le
  · exact le_refl _

theorem exp_sel (m : Prop) [Decidable m] (r : ℝ) : Ideal.exp (sel m r) = (pe m r : EReal) := by
  unfold sel pe; split
  · rfl
  · rfl

theorem exp_sel_sub (m : Prop) [Decidable m] (r M : ℝ) : Ideal.exp (sel m r - (M : EReal)) = ((pe m r * Real.exp (-M) : ℝ) : EReal) := by
  unfold sel pe; split
  · rw [← EReal.coe_sub, Ideal.exp_coe, sub_eq_add_neg, Real.exp_add]
  · rw [EReal.bot_sub, Ideal.exp_bot, zero_mul, EReal.coe_zero]

theorem sum_pe_pos {n : ℕ} (m : Fin n → Prop) [DecidablePred m] (r : Fin n → ℝ) (h : ∃ k, m k) : 0 < ∑ k, pe (m k) (r k) := by
  obtain ⟨k, hk⟩ := h
  refine Finset.sum_pos' (fun i _ => pe_nonneg _ _) ⟨k, Finset.mem_univ _, ?_⟩
  unfold pe; rw [if_pos hk]; exact Real.exp_pos _

/-- The softmax without the maximum. -/
theorem soft_plain {n : ℕ} (m : Fin n → Prop) [DecidablePred m] (r : Fin n → ℝ) (h : ∃ k, m k) (k : Fin n) :
    Ideal.div (Ideal.exp (sel (m k) (r k))) (∑ k, Ideal.exp (sel (m k) (r k))) = ((pe (m k) (r k) / ∑ k, pe (m k) (r k) : ℝ) : EReal) := by
  simp only [exp_sel]
  rw [sum_coe, div_real _ _ (sum_pe_pos m r h).ne']

/-- The softmax with any real subtracted. -/
theorem soft_sub {n : ℕ} (m : Fin n → Prop) [DecidablePred m] (r : Fin n → ℝ) (h : ∃ k, m k) (M : ℝ) (k : Fin n) :
    Ideal.div (Ideal.exp (sel (m k) (r k) - (M : EReal))) (∑ k, Ideal.exp (sel (m k) (r k) - (M : EReal)))
      = ((pe (m k) (r k) / ∑ k, pe (m k) (r k) : ℝ) : EReal) := by
  simp only [exp_sel_sub]
  rw [sum_coe, ← Finset.sum_mul, div_real _ _ (mul_pos (sum_pe_pos m r h) (Real.exp_pos _)).ne', mul_div_mul_right _ _ (Real.exp_pos _).ne']

/-- The maximum of a row with a score that is not `⊥` and none that is `⊤` is a real. -/
theorem max_real {n : ℕ} (m : Fin n → Prop) [DecidablePred m] (r : Fin n → ℝ) (h : ∃ k, m k) :
    ∃ M : ℝ, Finset.univ.fold max ⊥ (fun k => sel (m k) (r k)) = (M : EReal) := by
  have hb : Finset.univ.fold max ⊥ (fun k => sel (m k) (r k)) ≠ (⊥ : EReal) := by
    obtain ⟨k, hk⟩ := h
    have hle : sel (m k) (r k) ≤ Finset.univ.fold max ⊥ (fun k => sel (m k) (r k)) :=
      (Finset.le_fold_max _).mpr (Or.inr ⟨k, Finset.mem_univ _, le_refl _⟩)
    intro hh
    rw [hh] at hle
    unfold sel at hle
    rw [if_pos hk] at hle
    exact absurd (le_bot_iff.mp hle) (EReal.coe_ne_bot _)
  have ht : Finset.univ.fold max ⊥ (fun k => sel (m k) (r k)) ≠ (⊤ : EReal) := by
    refine ne_of_lt ((Finset.fold_max_lt _).mpr ⟨bot_lt_top, fun k _ => ?_⟩)
    unfold sel; split
    · exact EReal.coe_lt_top _
    · exact bot_lt_top
  exact ⟨_, (EReal.coe_toReal ht hb).symm⟩

/-- A finite extended real is a real. -/
theorem real_of_abs {x : EReal} (h : x ≠ ⊤) (h' : x ≠ ⊥) : x = ((x.toReal : ℝ) : EReal) := (EReal.coe_toReal h h').symm

end Cert.Soft

end
-- ==== Proof.RefVal.lean ====
/-
  The reference at an index: scores, weights, and the output as sums over reals.
-/
module

public import proofs.«01_k».proof.Proof.Soft
public import proofs.«01_k».proof.Proof.Gen.ReferenceIdeal.Read
public import Idealize.ShloMosaic.Lib.Pointwise

@[expose] public section

set_option maxRecDepth 16384

noncomputable section

namespace Cert.Soft

open Idealize.ShloMosaic
open scoped BigOperators

/-- Query row `r` sees key `k`. -/
def band (r k : ℕ) : Prop := r ≤ k + 128 ∧ k ≤ r + 128
instance (r k : ℕ) : Decidable (band r k) := inferInstanceAs (Decidable (_ ∧ _))

theorem band_word (a b : ℕ) (ha : a < 4096) (hb : b < 4096) :
    IntOp.cmpi .sle (IntOp.absi (IntOp.subi (BitVec.ofNat 32 a) (BitVec.ofNat 32 b))) 128#32 = BitVec.ofBool (decide (band a b)) := by
  unfold IntOp.cmpi
  congr 1
  have hs : (IntOp.subi (BitVec.ofNat 32 a) (BitVec.ofNat 32 b)).toNat = if b ≤ a then a - b else 2 ^ 32 - (b - a) := by
    unfold IntOp.subi
    rw [BitVec.toNat_sub, BitVec.toNat_ofNat, BitVec.toNat_ofNat]
    split <;> omega
  have hm : (IntOp.subi (BitVec.ofNat 32 a) (BitVec.ofNat 32 b)).msb = decide (a < b) := by
    rw [BitVec.msb_eq_decide, hs]
    congr 1
    split <;> (apply propext; omega)
  have hn : (IntOp.absi (IntOp.subi (BitVec.ofNat 32 a) (BitVec.ofNat 32 b))).toNat = if b ≤ a then a - b else b - a := by
    unfold IntOp.absi
    rw [hm]
    by_cases h : a < b
    · rw [if_pos (by simpa using h), BitVec.toNat_neg, hs, if_neg (by omega), if_neg (by omega)]; omega
    · rw [if_neg (by simpa using h), hs, if_pos (by omega), if_pos (by omega)]
  generalize IntOp.absi (IntOp.subi (BitVec.ofNat 32 a) (BitVec.ofNat 32 b)) = y at hn
  show decide (y.toInt ≤ (128#32).toInt) = _
  congr 1
  rw [BitVec.toInt_eq_toNat_of_lt (by rw [hn]; split <;> omega), hn]
  have : (128#32).toInt = 128 := by decide
  rw [this]
  unfold band
  split <;> (apply propext; omega)

theorem select_ofBool {α : Type} (b : Prop) [Decidable b] (x y : α) : Scalar.select (BitVec.ofBool (decide b)) x y = if b then x else y := by
  unfold Scalar.select
  by_cases h : b
  · rw [if_pos h, if_pos (by simp [h])]
  · rw [if_neg h, if_neg (by simp [h])]

theorem select_one {α : Type} (x y : α) : Scalar.select 1#1 x y = x := if_pos rfl

/-- The scale of the scores. -/
def scale : ℝ := (Ideal.ofBits .f32 0x3DB504F3#32).toReal
theorem scale_eq : Ideal.ofBits .f32 0x3DB504F3#32 = (scale : EReal) := by
  unfold scale
  have h : ∃ r : ℝ, Ideal.ofBits .f32 0x3DB504F3#32 = (r : EReal) := by
    unfold Ideal.ofBits Ideal.ieee
    simp only
    rw [if_neg (by decide), if_neg (by decide)]
    exact ⟨_, rfl⟩
  obtain ⟨r, hr⟩ := h
  rw [hr, EReal.toReal_coe]

theorem neg_inf : Ideal.ofBits .f32 0xFF800000#32 = ⊥ := by simp [Ideal.ofBits, Ideal.ieee]

section
variable (X W : Fin 1024 → Fin 1024 → ℝ) (K : Fin 4096 → Fin 8 → Fin 128 → ℝ)

/-- Lane `d` of head `h`. -/
def hd (h : Fin 8) (d : Fin 128) : Fin 1024 := ⟨128 * h.val + d.val, by omega⟩
/-- The projected query. -/
def Qr (r j : Fin 1024) : ℝ := ∑ k, X r k * W k j
/-- A score. -/
def sc (r : Fin 1024) (h : Fin 8) (k : Fin 4096) : ℝ := (∑ d, Qr X W r (hd h d) * K k h d) * scale
/-- An unnormalised weight. -/
def pw (r : Fin 1024) (h : Fin 8) (k : Fin 4096) : ℝ := pe (band r.val k.val) (sc X W K r h k)
/-- A weight. -/
def wt (r : Fin 1024) (h : Fin 8) (k : Fin 4096) : ℝ := pw X W K r h k / ∑ k', pw X W K r h k'
end

end Cert.Soft

namespace Cert.ReferenceIdeal.Read

open Idealize.ShloMosaic Cert.Soft Cert.ReferenceIdeal.Gen
open scoped BigOperators

section
variable (x0 : S1x1024x1024.Idx → EReal) (x1 : S1024x1024.Idx → EReal) (x2 x3 : S1x4096x8x128.Idx → EReal) (x4 : S1024x1024.Idx → EReal)
variable (X W : Fin 1024 → Fin 1024 → ℝ) (K : Fin 4096 → Fin 8 → Fin 128 → ℝ)
variable (hx : ∀ r k, x0 (ix3 0 r k) = (X r k : EReal)) (hw : ∀ k j, x1 (ix2 k j) = (W k j : EReal))
  (hk : ∀ k h d, x2 (ix4 0 k h d) = (K k h d : EReal))

include hx hw in
theorem q_ix (r j : Fin 1024) : val_main_v0 (F := Ideal) x0 x1 (ix3 0 r j) = (Qr X W r j : EReal) := by
  rw [val_main_v0_apply]
  unfold Qr
  rw [← sum_coe]
  refine Finset.sum_congr rfl fun k _ => ?_
  rw [show lidx_main_v0 (ix3 0 r j) k = ix3 0 r k from funext fun a => match a with | ⟨0, _⟩ => rfl | ⟨1, _⟩ => rfl | ⟨2, _⟩ => rfl,
    show ridx_main_v0 (ix3 0 r j) k = ix2 k j from funext fun a => match a with | ⟨0, _⟩ => rfl | ⟨1, _⟩ => rfl, hx, hw, EReal.coe_mul]

include hx hw in
theorem q4_ix (r : Fin 1024) (h : Fin 8) (d : Fin 128) : val_main_v1 (F := Ideal) x0 x1 (ix4 0 r h d) = (Qr X W r (hd h d) : EReal) := by
  rw [val_main_v1_apply, ← q_ix x0 x1 X W hx hw]
  congr 1
  refine funext fun a => ?_
  have hr := r.isLt
  have hh := h.isLt
  have hd' := d.isLt
  match a with
  | ⟨0, _⟩ => rfl
  | ⟨1, _⟩ => exact Fin.ext (by show (((0 * 1024 + r.val) * 8 + h.val) * 128 + d.val) / 1024 % 1024 = r.val; omega)
  | ⟨2, _⟩ => exact Fin.ext (by show (((0 * 1024 + r.val) * 8 + h.val) * 128 + d.val) % 1024 = 128 * h.val + d.val; omega)

theorem mask_ix (r : Fin 1024) (k : Fin 4096) : val_main_v11 (F := Ideal) (ix2 r k) = BitVec.ofBool (decide (band r.val k.val)) := by
  rw [val_main_v11_apply, val_main_v9_apply, val_main_v8_apply, val_main_v6_apply, val_main_v7_apply, val_main_v3_apply, val_main_v5_apply,
    val_main_v2_apply, val_main_v4_apply, val_main_v10_apply, val_main_c_apply]
  exact band_word r.val k.val (by omega) k.isLt

include hx hw hk in
theorem score_ix (h : Fin 8) (r : Fin 1024) (k : Fin 4096) : val_main_v16 (F := Ideal) x0 x1 x2 (ix4 0 h r k) = sel (band r.val k.val) (sc X W K r h k) := by
  rw [val_main_v16_apply, val_main_call0_v1_apply, val_main_v15_apply,
    show idx_main_v15 (idx_main_call0_v1 (ix4 0 h r k)) = ix2 r k from funext fun a => match a with | ⟨0, _⟩ => rfl | ⟨1, _⟩ => rfl,
    mask_ix, select_ofBool, val_main_v14_apply, val_main_v12_apply, val_main_v13_apply, val_main_cst_apply, val_main_call0_v2_apply,
    val_main_call0_v0_apply, val_main_cst_0_apply]
  unfold sel sc
  refine if_congr Iff.rfl ?_ neg_inf
  show (∑ k' : Fin 128, _) * Ideal.ofBits .f32 0x3DB504F3#32 = _
  rw [scale_eq, EReal.coe_mul, ← sum_coe]
  congr 1
  refine Finset.sum_congr rfl fun d _ => ?_
  rw [show lidx_main_v12 (ix4 0 h r k) d = ix4 0 r h d from funext fun a => match a with | ⟨0, _⟩ => rfl | ⟨1, _⟩ => rfl | ⟨2, _⟩ => rfl | ⟨3, _⟩ => rfl,
    show ridx_main_v12 (ix4 0 h r k) d = ix4 0 k h d from funext fun a => match a with | ⟨0, _⟩ => rfl | ⟨1, _⟩ => rfl | ⟨2, _⟩ => rfl | ⟨3, _⟩ => rfl,
    hk, q4_ix x0 x1 X W hx hw, EReal.coe_mul]

theorem sees (r : Fin 1024) : ∃ k : Fin 4096, band r.val k.val := ⟨⟨r.val, by omega⟩, by unfold band; exact ⟨Nat.le_add_right r.val 128, Nat.le_add_right r.val 128⟩⟩

include hx hw hk in
theorem max_ix (h : Fin 8) (r : Fin 1024) : ∃ M : ℝ, val_main_v17 (F := Ideal) x0 x1 x2 (ix3 0 h r) = (M : EReal) := by
  obtain ⟨M, hM⟩ := max_real (fun k : Fin 4096 => band r.val k.val) (fun k => sc X W K r h k) (sees r)
  refine ⟨M, ?_⟩
  rw [← hM]
  unfold val_main_v17
  rw [Host.reduce_eq_fold, Shape.ReducesTo.fold_fiber_r4_a3]
  have hi : val_main_cst_1 (F := Ideal) (Shape.Idx.first h_S_) = ⊥ := neg_inf
  rw [hi]
  show Finset.univ.fold max ⊥ _ = _
  congr 1
  funext k
  exact score_ix x0 x1 x2 X W K hx hw hk h r k

theorem keep_ix (r : Fin 1024) : val_main_v22 (F := Ideal) (ix1 r) = 1#1 := by
  unfold val_main_v22
  rw [Host.reduce_eq_fold, Shape.ReducesTo.fold_fiber_r2_a1]
  obtain ⟨k, hk⟩ := sees r
  have hm : val_main_v11 (F := Ideal) (ix2 r k) = 1#1 := by rw [mask_ix]; simp [hk]
  rw [← Finset.insert_erase (Finset.mem_univ k), Finset.fold_insert (op := (IntOp.ori : BitVec 1 → BitVec 1 → BitVec 1)) (Finset.notMem_erase _ _)]
  refine (congrArg (fun z => IntOp.ori z _) hm).trans ?_
  exact (by decide : ∀ z : BitVec 1, IntOp.ori 1#1 z = 1#1) _

include hx hw hk in
theorem wt_ix (h : Fin 8) (r : Fin 1024) (k : Fin 4096) : val_main_v30 (F := Ideal) x0 x1 x2 (ix4 0 h r k) = (wt X W K r h k : EReal) := by
  obtain ⟨M, hM⟩ := max_ix x0 x1 x2 X W K hx hw hk h r
  have he (k : Fin 4096) : val_main_v21 (F := Ideal) x0 x1 x2 (ix4 0 h r k) = Ideal.exp (sel (band r.val k.val) (sc X W K r h k) - (M : EReal)) := by
    rw [val_main_v21_apply, val_main_v20_apply, score_ix x0 x1 x2 X W K hx hw hk, val_main_v19_apply, val_main_v18_apply,
      show idx_main_v18 (idx_main_v19 (ix4 0 h r k)) = ix3 0 h r from funext fun a => match a with | ⟨0, _⟩ => rfl | ⟨1, _⟩ => rfl | ⟨2, _⟩ => rfl, hM]
    rfl
  rw [val_main_v30_apply, val_main_call2_v1_apply, val_main_v29_apply,
    show idx_main_v29 (idx_main_call2_v1 (ix4 0 h r k)) = ix1 r from funext fun a => match a with | ⟨0, _⟩ => rfl, keep_ix, select_one, val_main_v28_apply, val_main_v27_apply, val_main_v26_apply, val_main_call1_v1_apply, val_main_v23_apply,
    show idx_main_v23 (idx_main_call1_v1 (idx_main_v27 (ix4 0 h r k))) = ix1 r from funext fun a => match a with | ⟨0, _⟩ => rfl, keep_ix, select_one, val_main_v25_apply,
    show idx_main_v25 (idx_main_v27 (ix4 0 h r k)) = ix3 0 h r from funext fun a => match a with | ⟨0, _⟩ => rfl | ⟨1, _⟩ => rfl | ⟨2, _⟩ => rfl,
    val_main_v24_apply, show val_main_cst_3 (F := Ideal) (Shape.Idx.first h_S_) = 0 from Ideal.ofBits_zero_f32, zero_add, he, Ideal.hostDivf_def]
  have hs := soft_sub (fun k : Fin 4096 => band r.val k.val) (fun k => sc X W K r h k) (sees r) M k
  unfold wt pw
  rw [← hs]
  refine congrArg (Ideal.div _) ?_
  refine Finset.sum_congr rfl fun k' _ => ?_
  rw [show idx_main_v24 (ix3 0 h r) k' = ix4 0 h r k' from funext fun a => match a with | ⟨0, _⟩ => rfl | ⟨1, _⟩ => rfl | ⟨2, _⟩ => rfl | ⟨3, _⟩ => rfl, he]

include hx hw hk in
/-- The reference's output. -/
theorem out_ix (r n : Fin 1024) : val_main_v34 (F := Ideal) x0 x1 x2 x3 x4 (ix3 0 r n)
    = ∑ j : Fin 1024, (∑ k : Fin 4096, x3 (ix4 0 k ⟨j.val / 128, by omega⟩ ⟨j.val % 128, Nat.mod_lt _ (by decide)⟩)
        * (wt X W K r ⟨j.val / 128, by omega⟩ k : EReal)) * x4 (ix2 j n) := by
  rw [val_main_v34_apply]
  refine Finset.sum_congr rfl fun j _ => ?_
  have hr := r.isLt
  have hj := j.isLt
  rw [show lidx_main_v34 (ix3 0 r n) j = ix3 0 r j from funext fun a => match a with | ⟨0, _⟩ => rfl | ⟨1, _⟩ => rfl | ⟨2, _⟩ => rfl,
    show ridx_main_v34 (ix3 0 r n) j = ix2 j n from funext fun a => match a with | ⟨0, _⟩ => rfl | ⟨1, _⟩ => rfl,
    val_main_v33_apply, val_main_v32_apply,
    show idx_main_v32 (idx_main_v33 (ix3 0 r j)) = ix4 0 (⟨j.val / 128, by omega⟩ : Fin 8) ⟨j.val % 128, Nat.mod_lt _ (by decide)⟩ r from funext fun a => match a with
      | ⟨0, _⟩ => rfl
      | ⟨1, _⟩ => Fin.ext (by show ((0 * 1024 + r.val) * 1024 + j.val) / 128 % 8 = j.val / 128; omega)
      | ⟨2, _⟩ => Fin.ext (by show ((0 * 1024 + r.val) * 1024 + j.val) % 128 = j.val % 128; omega)
      | ⟨3, _⟩ => Fin.ext (by show ((0 * 1024 + r.val) * 1024 + j.val) / 1024 % 1024 = r.val; omega),
    val_main_v31_apply]
  congr 1
  refine Finset.sum_congr rfl fun k _ => ?_
  rw [show ∀ (h : Fin 8) (d : Fin 128), lidx_main_v31 (ix4 0 h d r) k = ix4 0 k h d from fun h d => funext fun a => match a with | ⟨0, _⟩ => rfl | ⟨1, _⟩ => rfl | ⟨2, _⟩ => rfl | ⟨3, _⟩ => rfl,
    show ∀ (h : Fin 8) (d : Fin 128), ridx_main_v31 (ix4 0 h d r) k = ix4 0 h r k from fun h d => funext fun a => match a with | ⟨0, _⟩ => rfl | ⟨1, _⟩ => rfl | ⟨2, _⟩ => rfl | ⟨3, _⟩ => rfl,
    wt_ix x0 x1 x2 X W K hx hw hk]

end

end Cert.ReferenceIdeal.Read

end
-- ==== Proof.KerVal.lean ====
/-
  The kernel's blocks at an index, and that they are the reference's rows.
-/
module

public import proofs.«01_k».proof.Proof.RefVal

@[expose] public section

set_option maxRecDepth 16384
set_option backward.proofsInPublic true

noncomputable section

namespace Cert.KernelIdeal.Talk

open Idealize.ShloMosaic Cert.Soft Cert.KernelIdeal.Gen
open scoped BigOperators

theorem pay1_ideal (x : S1024x1024.Idx → EReal) : k0_pay1 (F := Ideal) x = x := by
  unfold k0_pay1; rw [shapeCast_self]; rfl
theorem pay2_ideal (x : S1024x1024.Idx → EReal) : k0_pay2 (F := Ideal) x = x := by
  unfold k0_pay2; rw [shapeCast_self]; rfl

theorem pay17_ix (wo : S1024x1024.Idx → EReal) (ctx : S128x1024.Idx → EReal) (a : Fin 128) (n : Fin 1024) :
    k0_pay17 (F := Ideal) wo ctx (ix2 a n) = ∑ j : Fin 1024, ctx (ix2 a j) * wo (ix2 j n) := by
  pointwise [k0_pay17]

theorem pay20_ix (wq : S1024x1024.Idx → EReal) (x : S128x1024.Idx → EReal) (a : Fin 128) (j : Fin 1024) :
    k0_pay20 (F := Ideal) wq x (ix2 a j) = (∑ k : Fin 1024, x (ix2 a k) * wq (ix2 k j)) * Ideal.ofBits .f32 0x3DB504F3#32 := by
  pointwise [k0_pay20]

theorem kmask_bot : (Named.named (F := Ideal) κ "kmask" (φ := .f32) 0xF149F2CA#32 : EReal) = ⊥ := rfl

theorem pay81_ix (msk : IVec S128x384 1) (q : S128x128.Idx → EReal) (k v : S384x128.Idx → EReal) (a : Fin 128) (d : Fin 128) :
    k0_pay81 (F := Ideal) msk q k v (ix2 a d) = ∑ y : Fin 384,
      Ideal.div (Ideal.exp (Scalar.select (msk (ix2 a y)) (∑ e : Fin 128, q (ix2 a e) * k (ix2 y e)) ⊥))
        (∑ y : Fin 384, Ideal.exp (Scalar.select (msk (ix2 a y)) (∑ e : Fin 128, q (ix2 a e) * k (ix2 y e)) ⊥)) * v (ix2 y d) := by
  pointwise [k0_pay81, kmask_bot]

theorem kst_lt (b : Fin 8) (y : Fin 384) : kst b + y.val < 1152 := by
  unfold kst; omega

theorem maskB_ix (b : Fin 8) (a : Fin 128) (y : Fin 384) :
    maskB b (ix2 a y) = BitVec.ofBool (decide (band (128 * b.val + a.val) (kst b + y.val))) := by
  have hy := kst_lt b y
  rw [← band_word _ _ (by omega) (by omega), BitVec.ofNat_add, BitVec.ofNat_add]
  pointwise [maskB, maskOf]
  rfl

theorem qh_ix (q : S128x1024.Idx → EReal) (h : Fin 8) (a e : Fin 128) : qh (F := Ideal) q h (ix2 a e) = q (ix2 a (hd h e)) := by
  unfold qh
  show q _ = q _
  congr 1
  funext i
  match i with
  | ⟨0, _⟩ => exact Fin.ext (by show 0 + a.val = a.val; omega)
  | ⟨1, _⟩ => rfl

/-- The row of the array that row `a` of block `b` is. -/
def row (b : Fin 8) (a : Fin 128) : Fin 1024 := ⟨128 * b.val + a.val, by omega⟩
/-- The key that lane `y` of block `b`'s band is. -/
def key (b : Fin 8) (y : Fin 384) : Fin 4096 := ⟨kst b + y.val, by have := kst_lt b y; omega⟩

theorem band_in (b : Fin 8) (a : Fin 128) (k : ℕ) (h : ¬(kst b ≤ k ∧ k < kst b + 384)) : ¬ band (row b a).val k := by
  unfold band row; unfold kst at h
  have := a.isLt
  have := b.isLt
  show ¬(128 * b.val + a.val ≤ k + 128 ∧ k ≤ 128 * b.val + a.val + 128)
  omega

section
variable (x : S1024x1024.Idx → EReal) (wq : S1024x1024.Idx → EReal) (kk vv : S1024x1024.Idx → EReal) (wo : S1024x1024.Idx → EReal)
  (sl : S2x128x1024.Idx → EReal)
variable (X W : Fin 1024 → Fin 1024 → ℝ) (K : Fin 4096 → Fin 8 → Fin 128 → ℝ) (Vv : Fin 4096 → Fin 8 → Fin 128 → EReal)
variable (hx : ∀ r k, x (ix2 r k) = (X r k : EReal)) (hw : ∀ k j, wq (ix2 k j) = (W k j : EReal))
  (hk : ∀ (y : ℕ) (hy : y < 1152) h d, kext (F := Ideal) 0 kk sl y (hd h d) = (K ⟨y, by omega⟩ h d : EReal))
  (hv : ∀ (y : ℕ) (hy : y < 1152) h d, kext (F := Ideal) 1 vv sl y (hd h d) = Vv ⟨y, by omega⟩ h d)

include hx hw in
theorem proj_ix (b : Fin 8) (a : Fin 128) (j : Fin 1024) :
    k0_pay20 (F := Ideal) (k0_pay1 (F := Ideal) wq) (xrows (F := Ideal) b x) (ix2 a j) = ((Qr X W (row b a) j * scale : ℝ) : EReal) := by
  rw [pay20_ix, pay1_ideal, scale_eq, EReal.coe_mul]
  unfold Qr
  rw [← sum_coe]
  congr 1
  refine Finset.sum_congr rfl fun k _ => ?_
  rw [hw, EReal.coe_mul, ← hx]
  rfl

include hx hw hk in
theorem kscore_ix (b : Fin 8) (h : Fin 8) (a : Fin 128) (y : Fin 384) :
    (∑ e : Fin 128, qh (F := Ideal) (k0_pay20 (F := Ideal) (k0_pay1 (F := Ideal) wq) (xrows (F := Ideal) b x)) h (ix2 a e) * kband (F := Ideal) 0 b h kk sl (ix2 y e))
      = ((sc X W K (row b a) h (key b y) : ℝ) : EReal) := by
  unfold sc
  rw [Finset.sum_mul, ← sum_coe]
  refine Finset.sum_congr rfl fun e _ => ?_
  rw [qh_ix, proj_ix x wq X W hx hw]
  have hke : kband (F := Ideal) 0 b h kk sl (ix2 y e) = (K (key b y) h e : EReal) := hk (kst b + y.val) (kst_lt b y) h e
  rw [hke, ← EReal.coe_mul]
  congr 1
  ring

theorem pw_window (b : Fin 8) (a : Fin 128) (h : Fin 8) : ∑ k, pw X W K (row b a) h k = ∑ y : Fin 384, pw X W K (row b a) h (key b y) := by
  refine FinSumWindow.sum_window (kst b) (by have := kst_lt b ⟨383, by decide⟩; show kst b + 384 ≤ 4096; have h2 : kst b + 383 < 1152 := this; omega) _ fun k hk' => ?_
  unfold pw pe
  exact if_neg (band_in b a k.val hk')

include hx hw hk hv in
/-- A block's output row is the reference's. -/
theorem blk_ix (b : Fin 8) (a : Fin 128) (n : Fin 1024) :
    blk (F := Ideal) x wq kk vv wo sl b (ix2 a n) = ∑ j : Fin 1024, (∑ k : Fin 4096, Vv k ⟨j.val / 128, by omega⟩ ⟨j.val % 128, Nat.mod_lt _ (by decide)⟩
        * (wt X W K (row b a) ⟨j.val / 128, by omega⟩ k : EReal)) * wo (ix2 j n) := by
  unfold blk
  rw [pay17_ix, pay2_ideal]
  refine Finset.sum_congr rfl fun j _ => ?_
  have hj := j.isLt
  congr 1
  generalize hh : (⟨j.val / 128, by omega⟩ : Fin 8) = h
  generalize hd' : (⟨j.val % 128, Nat.mod_lt _ (by decide)⟩ : Fin 128) = d
  have hctx (w : Fin 8 → S128x128.Idx → EReal) : ctxOf (F := Ideal) w (ix2 a j) = w h (ix2 a d) := by subst hh hd'; rfl
  rw [hctx, pay81_ix]
  have hs (y : Fin 384) : Scalar.select (maskB b (ix2 a y))
      (∑ e : Fin 128, qh (F := Ideal) (k0_pay20 (F := Ideal) (k0_pay1 (F := Ideal) wq) (xrows (F := Ideal) b x)) h (ix2 a e) * kband (F := Ideal) 0 b h kk sl (ix2 y e)) ⊥
      = sel (band (row b a).val (key b y).val) (sc X W K (row b a) h (key b y)) := by
    rw [kscore_ix x wq kk sl X W K hx hw hk, maskB_ix, select_ofBool]; rfl
  simp only [hs]
  have hsee : ∃ y : Fin 384, band (row b a).val (key b y).val := by
    have ha := a.isLt
    have hb := b.isLt
    refine ⟨⟨128 * b.val + a.val - kst b, by unfold kst; omega⟩, ?_⟩
    show 128 * b.val + a.val ≤ kst b + (128 * b.val + a.val - kst b) + 128 ∧ kst b + (128 * b.val + a.val - kst b) ≤ 128 * b.val + a.val + 128
    unfold kst
    omega
  have hw384 : kst b + 384 ≤ 4096 := by unfold kst; omega
  refine Eq.trans ?_ (FinSumWindow.sum_window (kst b) hw384 (fun k => Vv k h d * (wt X W K (row b a) h k : EReal)) fun k hk' => ?_).symm
  · refine Finset.sum_congr rfl fun y _ => ?_
    have hsp := soft_plain (fun y : Fin 384 => band (row b a).val (key b y).val) (fun y => sc X W K (row b a) h (key b y)) hsee y
    rw [hsp, mul_comm]
    have hvv : kband (F := Ideal) 1 b h vv sl (ix2 y d) = Vv (key b y) h d := hv (kst b + y.val) (kst_lt b y) h d
    rw [hvv]
    unfold wt
    rw [pw_window]
    rfl
  · unfold wt pw pe
    rw [if_neg (band_in b a k.val hk'), zero_div, EReal.coe_zero, mul_zero]

end

end Cert.KernelIdeal.Talk

end
-- ==== Proof.Win.lean ====
/-
  The kernel's inputs, read off the arguments.
-/
module

public import proofs.«01_k».proof.Proof.KerVal

@[expose] public section

set_option maxRecDepth 16384
set_option backward.proofsInPublic true

noncomputable section

namespace Cert.KernelIdeal.Talk

open Idealize.ShloMosaic Idealize.ShloMosaic.TcCoe Idealize.ShloMosaic.Tactic
open Idealize.SL.Sem
open Cert.KernelIdeal.Gen Cert.Soft

variable (m : (ℓ : Loc nD τ sig) → Buf (Elt Ideal) ℓ)

theorem ix_0 : ∀ t : Fin cfg0.N, win0_0.index t = ![0, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![0, 0] := (by decide +kernel : ∀ t : Fin grid0.N, _)
theorem ix_3 : ∀ t : Fin cfg0.N, win0_3.index t = ![0, 0] := (by decide +kernel : ∀ t : Fin grid0.N, _)
theorem ix_4 : ∀ t : Fin cfg0.N, win0_4.index t = ![0, 0] := (by decide +kernel : ∀ t : Fin grid0.N, _)

/-! ## Each window is its whole array -/

theorem xv_v1 (c : Dev nD) : xv m c = V m c main_v1 := by
  unfold xv iblk
  funext y
  show V m c main_v1 _ = V m c main_v1 y
  congr 1
  blk_ext [ix_0]

theorem wqv_eq (c : Dev nD) : wqv m c = m ((c : Thread nD τ).loc main_arg1) := by
  rw [← V_main_arg1 m c]
  unfold wqv iblk
  funext y
  show V m c main_arg1 _ = V m c main_arg1 y
  congr 1
  blk_ext [ix_1]

theorem kv_v3 (c : Dev nD) : kv m c = V m c main_v3 := by
  unfold kv iblk
  funext y
  show V m c main_v3 _ = V m c main_v3 y
  congr 1
  blk_ext [ix_2]

theorem vv_v5 (c : Dev nD) : vv m c = V m c main_v5 := by
  unfold vv iblk
  funext y
  show V m c main_v5 _ = V m c main_v5 y
  congr 1
  blk_ext [ix_3]

theorem wov_eq (c : Dev nD) : wov m c = m ((c : Thread nD τ).loc main_arg4) := by
  rw [← V_main_arg4 m c]
  unfold wov iblk
  funext y
  show V m c main_arg4 _ = V m c main_arg4 y
  congr 1
  blk_ext [ix_4]

/-! ## The arrays, from the arguments -/

theorem V_v1 (c : Dev nD) : V m c main_v1 = shapeCast S1024x1024 (m ((c : Thread nD τ).loc main_arg0)) shapeCasts_S1x1024x1024_S1024x1024 := by
  unfold V
  after_results_simp
  rfl

theorem V_v3 (c : Dev nD) : V m c main_v3 = shapeCast S1024x1024 (m ((c : Thread nD τ).loc main_arg2)) shapeCasts_S1x1024x8x128_S1024x1024 := by
  unfold V
  after_results_simp
  rfl

theorem V_v5 (c : Dev nD) : V m c main_v5 = shapeCast S1024x1024 (m ((c : Thread nD τ).loc main_arg3)) shapeCasts_S1x1024x8x128_S1024x1024 := by
  unfold V
  after_results_simp
  rfl

theorem cast3_ix (x : S1x1024x1024.Idx → EReal) (r k : Fin 1024) :
    shapeCast S1024x1024 x shapeCasts_S1x1024x1024_S1024x1024 (ix2 r k) = x (ix3 0 r k) := by
  refine shapeCast_apply x _ (ix2 r k) (ix3 0 r k) ?_
  rewrite [Shape.rowMajor_val_three, Shape.rowMajor_val_two]
  show (0 * 1024 + r.val) * 1024 + k.val = r.val * 1024 + k.val
  omega

theorem cast4_ix (x : S1x1024x8x128.Idx → EReal) (r : Fin 1024) (h : Fin 8) (d : Fin 128) :
    shapeCast S1024x1024 x shapeCasts_S1x1024x8x128_S1024x1024 (ix2 r (hd h d)) = x (ix4 0 r h d) := by
  refine shapeCast_apply x _ (ix2 r (hd h d)) (ix4 0 r h d) ?_
  rewrite [Shape.rowMajor_val_four, Shape.rowMajor_val_two]
  show ((0 * 1024 + r.val) * 8 + h.val) * 128 + d.val = r.val * 1024 + (128 * h.val + d.val)
  omega

theorem x_ix (c : Dev nD) (r k : Fin 1024) : xv m c (ix2 r k) = m ((c : Thread nD τ).loc main_arg0) (ix3 0 r k) := by
  rw [xv_v1, V_v1]; exact cast3_ix _ r k

theorem k_ix (c : Dev nD) (r : Fin 1024) (h : Fin 8) (d : Fin 128) : kv m c (ix2 r (hd h d)) = m ((c : Thread nD τ).loc main_arg2) (ix4 0 r h d) := by
  rw [kv_v3, V_v3]; exact cast4_ix _ r h d

theorem v_ix (c : Dev nD) (r : Fin 1024) (h : Fin 8) (d : Fin 128) : vv m c (ix2 r (hd h d)) = m ((c : Thread nD τ).loc main_arg3) (ix4 0 r h d) := by
  rw [vv_v5, V_v5]; exact cast4_ix _ r h d

/-! ## Keys and values across the devices' edge -/

theorem kext_ix (k0 k1 v1 : S1024x1024.Idx → EReal) (A : Fin 4096 → Fin 8 → Fin 128 → EReal)
    (h0 : ∀ (r : Fin 1024) h d, k0 (ix2 r (hd h d)) = A ⟨r.val, by omega⟩ h d)
    (h1 : ∀ (r : Fin 1024) h d, k1 (ix2 r (hd h d)) = A ⟨1024 + r.val, by omega⟩ h d)
    (y : ℕ) (hy : y < 1152) (h : Fin 8) (d : Fin 128) : kext (F := Ideal) 0 k0 (slOf (F := Ideal) k1 v1) y (hd h d) = A ⟨y, by omega⟩ h d := by
  unfold kext
  split
  · rename_i hr; exact h0 ⟨y, hr⟩ h d
  · rename_i hr
    refine (h1 ⟨(y - 1024) % 128, by omega⟩ h d).trans ?_
    congr 1
    exact Fin.ext (by show 1024 + (y - 1024) % 128 = y; omega)

theorem vext_ix (v0 k1 v1 : S1024x1024.Idx → EReal) (A : Fin 4096 → Fin 8 → Fin 128 → EReal)
    (h0 : ∀ (r : Fin 1024) h d, v0 (ix2 r (hd h d)) = A ⟨r.val, by omega⟩ h d)
    (h1 : ∀ (r : Fin 1024) h d, v1 (ix2 r (hd h d)) = A ⟨1024 + r.val, by omega⟩ h d)
    (y : ℕ) (hy : y < 1152) (h : Fin 8) (d : Fin 128) : kext (F := Ideal) 1 v0 (slOf (F := Ideal) k1 v1) y (hd h d) = A ⟨y, by omega⟩ h d := by
  unfold kext
  split
  · rename_i hr; exact h0 ⟨y, hr⟩ h d
  · rename_i hr
    refine (h1 ⟨(y - 1024) % 128, by omega⟩ h d).trans ?_
    congr 1
    exact Fin.ext (by show 1024 + (y - 1024) % 128 = y; omega)

end Cert.KernelIdeal.Talk

end
-- ==== Proof.Value.lean ====
/-
  Every device's result is the reference's, for finite queries, query weights and keys.
-/
module

public import proofs.«01_k».proof.Proof.Win
public import proofs.«01_k».proof.Proof.Frames
public import proofs.«01_k».proof.Defs
public import Idealize.ShloMosaic.Lib.ReduceAll

@[expose] public section

set_option maxRecDepth 16384
set_option backward.proofsInPublic true

noncomputable section

namespace Cert.KernelIdeal.Talk

open Idealize.ShloMosaic Idealize.ShloMosaic.TcCoe Idealize.ShloMosaic.Tactic
open Idealize.SL.Sem
open Cert.KernelIdeal.Gen Cert.Soft
open scoped BigOperators

/-! ## The result -/

section
variable (m : (ℓ : Loc nD τ sig) → Buf (Elt Ideal) ℓ)
variable (x0 : S1x1024x1024.Idx → EReal) (x1 : S1024x1024.Idx → EReal) (x2 x3 : Cert.ReferenceIdeal.S1x4096x8x128.Idx → EReal) (x4 : S1024x1024.Idx → EReal)
variable (X W : Fin 1024 → Fin 1024 → ℝ) (K : Fin 4096 → Fin 8 → Fin 128 → ℝ)
variable (hx : ∀ r k, x0 (ix3 0 r k) = (X r k : EReal)) (hw : ∀ k j, x1 (ix2 k j) = (W k j : EReal))
  (hk : ∀ k h d, x2 (ix4 0 k h d) = (K k h d : EReal))
variable (a0 : m (((0 : Dev nD) : Thread nD τ).loc main_arg0) = x0) (a1 : m (((0 : Dev nD) : Thread nD τ).loc main_arg1) = x1)
  (a4 : m (((0 : Dev nD) : Thread nD τ).loc main_arg4) = x4)
  (a2 : ∀ (c : Dev nD) (r : Fin 1024) h d, m ((c : Thread nD τ).loc main_arg2) (ix4 0 r h d) = x2 (ix4 0 ⟨c.val * 1024 + r.val, by have : c.val < 4 := c.isLt; omega⟩ h d))
  (a3 : ∀ (c : Dev nD) (r : Fin 1024) h d, m ((c : Thread nD τ).loc main_arg3) (ix4 0 r h d) = x3 (ix4 0 ⟨c.val * 1024 + r.val, by have : c.val < 4 := c.isLt; omega⟩ h d))

include hx hw hk a0 a1 a2 a3 a4 in
theorem blkv_ix (b : Fin 8) (a : Fin 128) (n : Fin 1024) :
    blkv m b (ix2 a n) = Cert.ReferenceIdeal.Read.val_main_v34 (F := Ideal) x0 x1 x2 x3 x4 (ix3 0 (row b a) n) := by
  rw [Cert.ReferenceIdeal.Read.out_ix x0 x1 x2 x3 x4 X W K hx hw hk (row b a) n]
  unfold blkv
  refine (blk_ix (xv m 0) (wqv m 0) (kv m 0) (vv m 0) (wov m 0) (slOf (kv m 1) (vv m 1)) X W K (fun k h d => x3 (ix4 0 k h d))
    (fun r k => ?_) (fun k j => ?_) (fun y hy h d => ?_) (fun y hy h d => ?_) b a n).trans ?_
  · rw [x_ix, a0, hx]
  · rw [wqv_eq, a1, hw]
  · refine kext_ix (kv m 0) (kv m 1) (vv m 1) (fun k h d => (K k h d : EReal)) (fun r h d => ?_) (fun r h d => ?_) y hy h d
    · rw [k_ix, a2, hk]; exact congrArg (fun q => (K q h d : EReal)) (Fin.ext (by show 0 * 1024 + r.val = r.val; omega))
    · rw [k_ix, a2, hk]; exact congrArg (fun q => (K q h d : EReal)) (Fin.ext (by show 1 * 1024 + r.val = 1024 + r.val; omega))
  · refine vext_ix (vv m 0) (kv m 1) (vv m 1) (fun k h d => x3 (ix4 0 k h d)) (fun r h d => ?_) (fun r h d => ?_) y hy h d
    · rw [v_ix, a3]; exact congrArg (fun q => x3 (ix4 0 q h d)) (Fin.ext (by show 0 * 1024 + r.val = r.val; omega))
    · rw [v_ix, a3]; rfl
  · rw [wov_eq, a4]

include hx hw hk a0 a1 a2 a3 a4 in
theorem outv_eq (c : Dev nD) : outv m c = Cert.ReferenceIdeal.Read.val_main_v34 (F := Ideal) x0 x1 x2 x3 x4 := by
  have hb : outv m c = outOf fun n => blkv m (Fin.ofNat 8 n) := by
    unfold outv
    split
    · rfl
    · rfl
  rw [hb]
  funext y
  have h1 : (y 1).val < 1024 := (y 1).isLt
  refine (blkv_ix m x0 x1 x2 x3 x4 X W K hx hw hk a0 a1 a4 a2 a3 (Fin.ofNat 8 ((y 1).val / 128)) ⟨(y 1).val % 128, Nat.mod_lt _ (by decide)⟩ (y 2)).trans ?_
  congr 1
  funext i
  match i with
  | ⟨0, _⟩ => exact Fin.ext (by have : (y 0).val < 1 := (y 0).isLt; show 0 = (y 0).val; omega)
  | ⟨1, _⟩ => exact Fin.ext (by show 128 * ((y 1).val / 128 % 8) + (y 1).val % 128 = (y 1).val; omega)
  | ⟨2, _⟩ => rfl
end

end Cert.KernelIdeal.Talk

namespace Cert.Claims

open Idealize.ShloMosaic Idealize.SL.Sem Cert.Soft
open TcCoe

/-! ## The precondition, element by element -/

theorem pre_facts_k : Cert.Pre_finite_KernelIdeal.Facts := by constructor <;> decide
theorem pre_facts_r : Cert.Pre_finite_ReferenceIdeal.Facts := by constructor <;> decide

theorem real_of_lt {x : EReal} (h : Ideal.cmp .olt (max x (-x)) (Ideal.ofBits .f32 0x7F800000#32) = 1#1) : x = ((x.toReal : ℝ) : EReal) := by
  have ht : Ideal.ofBits .f32 0x7F800000#32 = ⊤ := by simp [Ideal.ofBits, Ideal.ieee]
  rw [ht] at h
  refine real_of_abs ?_ ?_
  · rintro rfl; revert h; simp [Ideal.cmp]
  · rintro rfl; revert h; simp [Ideal.cmp]

instance : Subsingleton Cert.Pre_finite_KernelIdeal.S_.Idx := ⟨fun _ _ => funext fun a => a.elim0⟩

attribute [local instance] pre_facts_k in
theorem finite_args (x0 : Cert.Pre_finite_KernelIdeal.S1x1024x1024.Idx → EReal) (x1 : Cert.Pre_finite_KernelIdeal.S1024x1024.Idx → EReal)
    (x2 x3 : Cert.Pre_finite_KernelIdeal.S1x1024x8x128.Idx → EReal) (x4 : Cert.Pre_finite_KernelIdeal.S1024x1024.Idx → EReal)
    (h : Cert.Pre_finite_KernelIdeal.fn (F := Ideal) x0 x1 x2 x3 x4 = fun _ => 1#1) :
    (∀ i, x0 i = (((x0 i).toReal : ℝ) : EReal)) ∧ (∀ i, x1 i = (((x1 i).toReal : ℝ) : EReal)) ∧ ∀ i, x2 i = (((x2 i).toReal : ℝ) : EReal) := by
  have h0 := congrFun h fun a => a.elim0
  unfold Cert.Pre_finite_KernelIdeal.fn at h0
  obtain ⟨h01, h2⟩ := IntOp.andi_eq_one.1 h0
  obtain ⟨h0, h1⟩ := IntOp.andi_eq_one.1 h01
  exact ⟨fun i => real_of_lt (Host.reduce_andi_all _ _ _ _ _ h0 i), fun i => real_of_lt (Host.reduce_andi_all _ _ _ _ _ h1 i),
    fun i => real_of_lt (Host.reduce_andi_all _ _ _ _ _ h2 i)⟩

/-! ## The claims with the precondition -/

attribute [local instance] Cert.Kernel.Gen.facts Cert.KernelIdeal.Gen.facts Cert.ReferenceIdeal.Gen.facts pre_facts_k pre_facts_r

theorem frame_ideal_pre : Cert.quiescent_KernelIdeal_pre_finite_KernelIdeal := fun m g _ => frame_ideal m g trivial
theorem frame_ref_pre : Cert.quiescent_ReferenceIdeal_pre_finite_ReferenceIdeal := fun m g _ => frame_ref m g trivial

/-- Every device of the kernel ends with the reference's result. -/
theorem algebraic : Cert.algebraic_KernelIdeal_ReferenceIdeal_pre_finite_KernelIdeal := by
  intro m g m' g' hpre hargs
  have hfin := fun c => finite_args _ _ _ _ _ (hpre c)
  refine ⟨Cert.ReferenceIdeal.Read.val_main_v34 (F := Ideal) (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3))
    (m' (((0 : Dev Cert.ReferenceIdeal.nD).tc : Thread Cert.ReferenceIdeal.nD Cert.ReferenceIdeal.τ).loc Cert.ReferenceIdeal.main_arg4)), ?_, ?_⟩
  · refine (θ_run _ _ _).mono (fun r h c => ⟨?_, (h.1 c).2⟩) (Cert.KernelIdeal.Talk.run_main (F := Ideal) m g)
    refine (h.1 c).1.trans ?_
    refine Cert.KernelIdeal.Talk.outv_eq m _ _ _ _ _
      (fun r k => (m' (((0 : Dev Cert.ReferenceIdeal.nD).tc : Thread Cert.ReferenceIdeal.nD Cert.ReferenceIdeal.τ).loc Cert.ReferenceIdeal.main_arg0) (ix3 0 r k)).toReal)
      (fun r k => (m' (((0 : Dev Cert.ReferenceIdeal.nD).tc : Thread Cert.ReferenceIdeal.nD Cert.ReferenceIdeal.τ).loc Cert.ReferenceIdeal.main_arg1) (ix2 r k)).toReal)
      (fun k h d => (m' (((0 : Dev Cert.ReferenceIdeal.nD).tc : Thread Cert.ReferenceIdeal.nD Cert.ReferenceIdeal.τ).loc Cert.ReferenceIdeal.main_arg2) (ix4 0 k h d)).toReal)
      ?_ ?_ ?_ (hargs 0).1 (hargs 0).2.1 (hargs 0).2.2.2.2 ?_ ?_ c
    · intro r k
      have := (hfin 0).1 (ix3 0 r k)
      rw [(hargs 0).1] at this
      exact this
    · intro r k
      have := (hfin 0).2.1 (ix2 r k)
      rw [(hargs 0).2.1] at this
      exact this
    · intro k h d
      have := (hfin ⟨k.val / 1024, by have := k.isLt; show k.val / 1024 < 4; omega⟩).2.2 (ix4 0 ⟨k.val % 1024, Nat.mod_lt _ (by decide)⟩ h d)
      rw [(hargs _).2.2.1, Layout.block_apply] at this
      rw [show ix4 0 k h d = Layout.Tiles.idx (S := ⟨4, ![1, 1024, 8, 128]⟩) (T := ⟨4, ![1, 4096, 8, 128]⟩) (a := 1) (k := 4) (by decide) ⟨k.val / 1024, by have := k.isLt; omega⟩ (ix4 0 ⟨k.val % 1024, Nat.mod_lt _ (by decide)⟩ h d) from
        funext fun i => Fin.ext (by
          match i with
          | ⟨0, _⟩ => rfl
          | ⟨1, _⟩ => show k.val = k.val / 1024 * 1024 + k.val % 1024; omega
          | ⟨2, _⟩ => rfl
          | ⟨3, _⟩ => rfl)]
      exact this
    · intro c r h d
      rw [(hargs c).2.2.1, Layout.block_apply]
      refine congrArg _ (funext fun i => Fin.ext ?_)
      match i with
      | ⟨0, _⟩ => rfl
      | ⟨1, _⟩ => rfl
      | ⟨2, _⟩ => rfl
      | ⟨3, _⟩ => rfl
    · intro c r h d
      rw [(hargs c).2.2.2.1, Layout.block_apply]
      refine congrArg _ (funext fun i => Fin.ext ?_)
      match i with
      | ⟨0, _⟩ => rfl
      | ⟨1, _⟩ => rfl
      | ⟨2, _⟩ => rfl
      | ⟨3, _⟩ => rfl
  · refine (θ_run Cert.ReferenceIdeal.defs _ _).mono (fun r h => ⟨?_, (h 0).2⟩) (Cert.ReferenceIdeal.Value.run (F := Ideal) m' g')
    exact (h 0).1.trans (Cert.ReferenceIdeal.Read.val_main_v34_eq m' 0)

end Cert.Claims

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Value

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Claims.pre_facts_k, Cert.Claims.pre_facts_r,
  Cert.Claims.frame_kernel, Cert.Claims.frame_ideal, Cert.Claims.frame_ideal_pre, Cert.Claims.frame_ref, Cert.Claims.frame_ref_pre,
  Cert.Claims.rewrites, Cert.Claims.algebraic⟩

end Cert.Proof

end
